-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)) (v6 : (c : Dev Cert.Kernel2Ideal.nD) → Buf (Elt Ideal) ((c.tc : Thread Cert.Kernel2Ideal.nD Cert.Kernel2Ideal.τ).loc Cert.Kernel2Ideal.main_v14_6)) (v7 : (c : Dev Cert.Kernel2Ideal.nD) → Buf (Elt Ideal) ((c.tc : Thread Cert.Kernel2Ideal.nD Cert.Kernel2Ideal.τ).loc Cert.Kernel2Ideal.main_v14_7)) (v8 : (c : Dev Cert.Kernel2Ideal.nD) → Buf (Elt Ideal) ((c.tc : Thread Cert.Kernel2Ideal.nD Cert.Kernel2Ideal.τ).loc Cert.Kernel2Ideal.main_v14_8)) (v9 : (c : Dev Cert.Kernel2Ideal.nD) → Buf (Elt Ideal) ((c.tc : Thread Cert.Kernel2Ideal.nD Cert.Kernel2Ideal.τ).loc Cert.Kernel2Ideal.main_v14_9)) (v10 : (c : Dev Cert.Kernel2Ideal.nD) → Buf (Elt Ideal) ((c.tc : Thread Cert.Kernel2Ideal.nD Cert.Kernel2Ideal.τ).loc Cert.Kernel2Ideal.main_v14_10)) (v11 : (c : Dev Cert.Kernel2Ideal.nD) → Buf (Elt Ideal) ((c.tc : Thread Cert.Kernel2Ideal.nD Cert.Kernel2Ideal.τ).loc Cert.Kernel2Ideal.main_v14_11)) (v12 : (c : Dev Cert.Kernel2Ideal.nD) → Buf (Elt Ideal) ((c.tc : Thread Cert.Kernel2Ideal.nD Cert.Kernel2Ideal.τ).loc Cert.Kernel2Ideal.main_v14_12)) (v13 : (c : Dev Cert.Kernel2Ideal.nD) → Buf (Elt Ideal) ((c.tc : Thread Cert.Kernel2Ideal.nD Cert.Kernel2Ideal.τ).loc Cert.Kernel2Ideal.main_v14_13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_v14_6) = v6 c
          ∧ r.2.mem ((c.tc : Thread Cert.Kernel2Ideal.nD Cert.Kernel2Ideal.τ).loc Cert.Kernel2Ideal.main_v14_7) = v7 c
          ∧ r.2.mem ((c.tc : Thread Cert.Kernel2Ideal.nD Cert.Kernel2Ideal.τ).loc Cert.Kernel2Ideal.main_v14_8) = v8 c
          ∧ r.2.mem ((c.tc : Thread Cert.Kernel2Ideal.nD Cert.Kernel2Ideal.τ).loc Cert.Kernel2Ideal.main_v14_9) = v9 c
          ∧ r.2.mem ((c.tc : Thread Cert.Kernel2Ideal.nD Cert.Kernel2Ideal.τ).loc Cert.Kernel2Ideal.main_v14_10) = v10 c
          ∧ r.2.mem ((c.tc : Thread Cert.Kernel2Ideal.nD Cert.Kernel2Ideal.τ).loc Cert.Kernel2Ideal.main_v14_11) = v11 c
          ∧ r.2.mem ((c.tc : Thread Cert.Kernel2Ideal.nD Cert.Kernel2Ideal.τ).loc Cert.Kernel2Ideal.main_v14_12) = v12 c
          ∧ r.2.mem ((c.tc : Thread Cert.Kernel2Ideal.nD Cert.Kernel2Ideal.τ).loc Cert.Kernel2Ideal.main_v14_13) = v13 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_v104) = v1 c
          ∧ r.2.mem ((c.tc : Thread Cert.Reference2Ideal.nD Cert.Reference2Ideal.τ).loc Cert.Reference2Ideal.main_v105) = v2 c
          ∧ r.2.mem ((c.tc : Thread Cert.Reference2Ideal.nD Cert.Reference2Ideal.τ).loc Cert.Reference2Ideal.main_v106) = v3 c
          ∧ r.2.mem ((c.tc : Thread Cert.Reference2Ideal.nD Cert.Reference2Ideal.τ).loc Cert.Reference2Ideal.main_v107) = v4 c
          ∧ r.2.mem ((c.tc : Thread Cert.Reference2Ideal.nD Cert.Reference2Ideal.τ).loc Cert.Reference2Ideal.main_v108) = v5 c
          ∧ r.2.mem ((c.tc : Thread Cert.Reference2Ideal.nD Cert.Reference2Ideal.τ).loc Cert.Reference2Ideal.main_v109) = v6 c
          ∧ r.2.mem ((c.tc : Thread Cert.Reference2Ideal.nD Cert.Reference2Ideal.τ).loc Cert.Reference2Ideal.main_v110) = v7 c
          ∧ r.2.mem ((c.tc : Thread Cert.Reference2Ideal.nD Cert.Reference2Ideal.τ).loc Cert.Reference2Ideal.main_v111) = v8 c
          ∧ r.2.mem ((c.tc : Thread Cert.Reference2Ideal.nD Cert.Reference2Ideal.τ).loc Cert.Reference2Ideal.main_v112) = v9 c
          ∧ r.2.mem ((c.tc : Thread Cert.Reference2Ideal.nD Cert.Reference2Ideal.τ).loc Cert.Reference2Ideal.main_v64) = v10 c
          ∧ r.2.mem ((c.tc : Thread Cert.Reference2Ideal.nD Cert.Reference2Ideal.τ).loc Cert.Reference2Ideal.main_v102) = v11 c
          ∧ r.2.mem ((c.tc : Thread Cert.Reference2Ideal.nD Cert.Reference2Ideal.τ).loc Cert.Reference2Ideal.main_v113) = v12 c
          ∧ r.2.mem ((c.tc : Thread Cert.Reference2Ideal.nD Cert.Reference2Ideal.τ).loc Cert.Reference2Ideal.main_v67) = v13 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v99) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S8192x128 : Shape := ⟨2, ![8192, 128]⟩
abbrev S1024x9232 : Shape := ⟨2, ![1024, 9232]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x128 : S_.BroadcastsInDim S8192x128 (![] : Fin 0 → Fin S8192x128.rank)
  bcast_S_S1024x9232 : S_.BroadcastsInDim S1024x9232 (![] : Fin 0 → Fin S1024x9232.rank)
  bcast_S_S1x1024 : S_.BroadcastsInDim S1x1024 (![] : Fin 0 → Fin S1x1024.rank)

variable [Facts]

def fn_part2 {F : FTy → Type} [FloatOps F] (main_arg12 : FVec F S1x1024 .f32) (main_v2 : IVec S8192x1024 1) (main_v5 : IVec S8192x1024 1) (main_v8 : IVec S8192x1024 1) (main_v11 : IVec S8192x1024 1) (main_v14 : IVec S8192x1024 1) (main_v17 : IVec S8192x1024 1) (main_v20 : IVec S8192x1024 1) (main_v23 : IVec S8192x1024 1) (main_v26 : IVec S8192x128 1) (main_v29 : IVec S8192x1024 1) (main_v32 : IVec S8192x1024 1) (main_v35 : IVec S1024x9232 1) : IVec S8192x1024 1 × IVec S8192x1024 1 × IVec S8192x1024 1 × IVec S8192x1024 1 × IVec S8192x1024 1 × IVec S8192x1024 1 × IVec S8192x1024 1 × IVec S8192x1024 1 × IVec S8192x128 1 × IVec S8192x1024 1 × IVec S8192x1024 1 × IVec S1024x9232 1 × IVec S1x1024 1 :=
  let main_v36 : FVec F S1x1024 .f32 := Host.absf main_arg12
  let main_cst_11 : FVec F S_ .f32 := constant S_ .f32 0x7F800000#32
  let main_v37 : FVec F S1x1024 .f32 := broadcastInDim S1x1024 ![] bcast_S_S1x1024 main_cst_11
  let main_v38 : IVec S1x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S8192x1024 .bf16) (main_arg7 : FVec F S8192x1024 .bf16) (main_arg8 : FVec F S8192x128 .bf16) (main_arg9 : FVec F S8192x1024 .f32) (main_arg10 : FVec F S8192x1024 .f32) (main_arg11 : FVec F S1024x9232 .f32) (main_arg12 : FVec F S1x1024 .f32) (main_v2 : IVec S8192x1024 1) (main_v5 : IVec S8192x1024 1) (main_v8 : IVec S8192x1024 1) (main_v11 : IVec S8192x1024 1) (main_v14 : IVec S8192x1024 1) (main_v17 : IVec S8192x1024 1) : IVec S8192x1024 1 × IVec S8192x1024 1 × IVec S8192x1024 1 × IVec S8192x1024 1 × IVec S8192x1024 1 × IVec S8192x1024 1 × IVec S8192x1024 1 × IVec S8192x1024 1 × IVec S8192x128 1 × IVec S8192x1024 1 × IVec S8192x1024 1 × IVec S1024x9232 1 × IVec S1x1024 1 :=
  let main_v18 : FVec F S8192x1024 .bf16 := Host.absf main_arg6
  let main_cst_5 : FVec F S_ .bf16 := constant S_ .bf16 0x7F80#16
  let main_v19 : FVec F S8192x1024 .bf16 := broadcastInDim S8192x1024 ![] bcast_S_S8192x1024 main_cst_5
  let main_v20 : IVec S8192x1024 1 := cmpf .olt main_v18 main_v19
  let main_v21 : FVec F S8192x1024 .bf16 := Host.absf main_arg7
  let main_cst_6 : FVec F S_ .bf16 := constant S_ .bf16 0x7F80#16
  let main_v22 : FVec F S8192x1024 .bf16 := broadcastInDim S8192x1024 ![] bcast_S_S8192x1024 main_cst_6
  let main_v23 : IVec S8192x1024 1 := cmpf .olt main_v21 main_v22
  let main_v24 : FVec F S8192x128 .bf16 := Host.absf main_arg8
  let main_cst_7 : FVec F S_ .bf16 := constant S_ .bf16 0x7F80#16
  let main_v25 : FVec F S8192x128 .bf16 := broadcastInDim S8192x128 ![] bcast_S_S8192x128 main_cst_7
  let main_v26 : IVec S8192x128 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  let main_v30 : FVec F S8192x1024 .f32 := Host.absf main_arg10
  let main_cst_9 : FVec F S_ .f32 := constant S_ .f32 0x7F800000#32
  let main_v31 : FVec F S8192x1024 .f32 := broadcastInDim S8192x1024 ![] bcast_S_S8192x1024 main_cst_9
  let main_v32 : IVec S8192x1024 1 := cmpf .olt main_v30 main_v31
  let main_v33 : FVec F S1024x9232 .f32 := Host.absf main_arg11
  let main_cst_10 : FVec F S_ .f32 := constant S_ .f32 0x7F800000#32
  let main_v34 : FVec F S1024x9232 .f32 := broadcastInDim S1024x9232 ![] bcast_S_S1024x9232 main_cst_10
  let main_v35 : IVec S1024x9232 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S8192x1024 .bf16) (main_arg1 : FVec F S8192x1024 .bf16) (main_arg2 : FVec F S8192x1024 .bf16) (main_arg3 : FVec F S8192x1024 .bf16) (main_arg4 : FVec F S8192x1024 .bf16) (main_arg5 : FVec F S8192x1024 .bf16) (main_arg6 : FVec F S8192x1024 .bf16) (main_arg7 : FVec F S8192x1024 .bf16) (main_arg8 : FVec F S8192x128 .bf16) (main_arg9 : FVec F S8192x1024 .f32) (main_arg10 : FVec F S8192x1024 .f32) (main_arg11 : FVec F S1024x9232 .f32) (main_arg12 : FVec F S1x1024 .f32) : IVec S8192x1024 1 × IVec S8192x1024 1 × IVec S8192x1024 1 × IVec S8192x1024 1 × IVec S8192x1024 1 × IVec S8192x1024 1 × IVec S8192x1024 1 × IVec S8192x1024 1 × IVec S8192x128 1 × IVec S8192x1024 1 × IVec S8192x1024 1 × IVec S1024x9232 1 × IVec S1x1024 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  let main_v9 : FVec F S8192x1024 .bf16 := Host.absf main_arg3
  let main_cst_2 : FVec F S_ .bf16 := constant S_ .bf16 0x7F80#16
  let main_v10 : FVec F S8192x1024 .bf16 := broadcastInDim S8192x1024 ![] bcast_S_S8192x1024 main_cst_2
  let main_v11 : IVec S8192x1024 1 := cmpf .olt main_v9 main_v10
  let main_v12 : FVec F S8192x1024 .bf16 := Host.absf main_arg4
  let main_cst_3 : FVec F S_ .bf16 := constant S_ .bf16 0x7F80#16
  let main_v13 : FVec F S8192x1024 .bf16 := broadcastInDim S8192x1024 ![] bcast_S_S8192x1024 main_cst_3
  let main_v14 : IVec S8192x1024 1 := cmpf .olt main_v12 main_v13
  let main_v15 : FVec F S8192x1024 .bf16 := Host.absf main_arg5
  let main_cst_4 : FVec F S_ .bf16 := constant S_ .bf16 0x7F80#16
  let main_v16 : FVec F S8192x1024 .bf16 := broadcastInDim S8192x1024 ![] bcast_S_S8192x1024 main_cst_4
  let main_v17 : IVec S8192x1024 1 := cmpf .olt main_v15 main_v16
  fn_part1 (F := F) main_arg6 main_arg7 main_arg8 main_arg9 main_arg10 main_arg11 main_arg12 main_v2 main_v5 main_v8 main_v11 main_v14 main_v17
-- ==== Pre_finite2.lean ====
abbrev S8192x5120 : Shape := ⟨2, ![8192, 5120]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x5120 : S_.BroadcastsInDim S8192x5120 (![] : Fin 0 → Fin S8192x5120.rank)
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1024x1024 .f32) (main_arg7 : FVec F S1024x1024 .f32) (main_arg8 : FVec F S1x1024 .f32) (main_v2 : IVec S8192x5120 1) (main_v5 : IVec S8192x1024 1) (main_v8 : IVec S8192x1024 1) (main_v11 : IVec S8192x1024 1) (main_v14 : IVec S8192x1024 1) (main_v17 : IVec S1024x1024 1) : IVec S8192x5120 1 × IVec S8192x1024 1 × IVec S8192x1024 1 × IVec S8192x1024 1 × IVec S8192x1024 1 × IVec S1024x1024 1 × IVec S1024x1024 1 × IVec S1024x1024 1 × IVec S1x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S8192x5120 .bf16) (main_arg1 : FVec F S8192x1024 .f32) (main_arg2 : FVec F S8192x1024 .bf16) (main_arg3 : FVec F S8192x1024 .f32) (main_arg4 : FVec F S8192x1024 .f32) (main_arg5 : FVec F S1024x1024 .f32) (main_arg6 : FVec F S1024x1024 .f32) (main_arg7 : FVec F S1024x1024 .f32) (main_arg8 : FVec F S1x1024 .f32) : IVec S8192x5120 1 × IVec S8192x1024 1 × IVec S8192x1024 1 × IVec S8192x1024 1 × IVec S8192x1024 1 × IVec S1024x1024 1 × IVec S1024x1024 1 × IVec S1024x1024 1 × IVec S1x1024 1 :=
  let main_v0 : FVec F S8192x5120 .bf16 := Host.absf main_arg0
  let main_cst : FVec F S_ .bf16 := constant S_ .bf16 0x7F80#16
  let main_v1 : FVec F S8192x5120 .bf16 := broadcastInDim S8192x5120 ![] bcast_S_S8192x5120 main_cst
  let main_v2 : IVec S8192x5120 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .bf16 := Host.absf main_arg2
  let main_cst_1 : FVec F S_ .bf16 := constant S_ .bf16 0x7F80#16
  let main_v7 : FVec F S8192x1024 .bf16 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_v2 main_v5 main_v8 main_v11 main_v14 main_v17
-- ==== Kernel.lean ====
abbrev S8192x1024 : Shape := ⟨2, ![8192, 1024]⟩
abbrev S8192x128 : Shape := ⟨2, ![8192, 128]⟩
abbrev S1024x9232 : Shape := ⟨2, ![1024, 9232]⟩
abbrev S1x1024 : Shape := ⟨2, ![1, 1024]⟩
abbrev S1024x1024 : Shape := ⟨2, ![1024, 1024]⟩
abbrev S1024x16 : Shape := ⟨2, ![1024, 16]⟩
abbrev S16x1024 : Shape := ⟨2, ![16, 1024]⟩
abbrev S_ : Shape := ⟨0, ![]⟩
abbrev S128x1024 : Shape := ⟨2, ![128, 1024]⟩
abbrev S8320x1024 : Shape := ⟨2, ![8320, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 37
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x128, .bf16⟩
  | .hbm, ⟨9, _⟩ => ⟨S8192x1024, .f32⟩
  | .hbm, ⟨10, _⟩ => ⟨S8192x1024, .f32⟩
  | .hbm, ⟨11, _⟩ => ⟨S1024x9232, .f32⟩
  | .hbm, ⟨12, _⟩ => ⟨S1x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x16, .f32⟩
  | .hbm, ⟨30, _⟩ => ⟨S16x1024, .f32⟩
  | .hbm, ⟨31, _⟩ => ⟨S_, .f32⟩
  | .hbm, ⟨32, _⟩ => ⟨S128x1024, .f32⟩
  | .hbm, ⟨33, _⟩ => ⟨S8320x1024, .f32⟩
  | .hbm, ⟨34, _⟩ => ⟨S8320x1024, .bf16⟩
  | .hbm, ⟨35, _⟩ => ⟨S8192x1024, .f32⟩
  | .hbm, ⟨36, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S8320x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8320x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S8192x128 : Shape := ⟨2, ![8192, 128]⟩
abbrev S1024x9232 : Shape := ⟨2, ![1024, 9232]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S1024x16 : Shape := ⟨2, ![1024, 16]⟩
abbrev S8192x16 : Shape := ⟨2, ![8192, 16]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x128, .bf16⟩
  | .hbm, ⟨9, _⟩ => ⟨S8192x1024, .f32⟩
  | .hbm, ⟨10, _⟩ => ⟨S8192x1024, .f32⟩
  | .hbm, ⟨11, _⟩ => ⟨S1024x9232, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S1024x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1024x1024, .f32⟩
  | .hbm, ⟨47, _⟩ => ⟨S8192x1024, .f32⟩
  | .hbm, ⟨48, _⟩ => ⟨S1024x1024, .f32⟩
  | .hbm, ⟨49, _⟩ => ⟨S8192x1024, .f32⟩
  | .hbm, ⟨50, _⟩ => ⟨S1024x1024, .f32⟩
  | .hbm, ⟨51, _⟩ => ⟨S8192x1024, .f32⟩
  | .hbm, ⟨52, _⟩ => ⟨S1024x1024, .f32⟩
  | .hbm, ⟨53, _⟩ => ⟨S8192x1024, .f32⟩
  | .hbm, ⟨54, _⟩ => ⟨S1024x1024, .f32⟩
  | .hbm, ⟨55, _⟩ => ⟨S8192x1024, .f32⟩
  | .hbm, ⟨56, _⟩ => ⟨S1024x16, .f32⟩
  | .hbm, ⟨57, _⟩ => ⟨S8192x16, .f32⟩
  | .hbm, ⟨58, _⟩ => ⟨S8192x16, .bf16⟩
  | .hbm, ⟨59, _⟩ => ⟨S8192x16, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_3 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_4 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_5 : Ref sig .tc := ⟨.hbm, 91, rfl⟩
abbrev main_v72 : Ref sig .tc := ⟨.hbm, 92, rfl⟩
abbrev main_v73 : Ref sig .tc := ⟨.hbm, 93, rfl⟩
abbrev main_cst_6 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel2.lean ====
abbrev S8192x5120 : Shape := ⟨2, ![8192, 5120]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S32x16x256 : Shape := ⟨3, ![32, 16, 256]⟩
abbrev S8x128 : Shape := ⟨2, ![8, 128]⟩
abbrev S256x1024 : Shape := ⟨2, ![256, 1024]⟩
abbrev S1x16x256 : Shape := ⟨3, ![1, 16, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩
abbrev S1024x128 : Shape := ⟨2, ![1024, 128]⟩
abbrev S256x128 : Shape := ⟨2, ![256, 128]⟩
abbrev S128x256 : Shape := ⟨2, ![128, 256]⟩
abbrev S16x256 : Shape := ⟨2, ![16, 256]⟩

abbrev nBuf : Space → Nat
  | .hbm => 53
  | .vmem => 50
  | .smem => 0
  | _ => 0

abbrev bufTy : (tb : Table) → Fin (tcTables nBuf tb) → BufTy
  | .hbm, ⟨0, _⟩ => ⟨S8192x5120, .bf16⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S1024x1024, .bf16⟩
  | .hbm, ⟨37, _⟩ => ⟨S1024x1024, .bf16⟩
  | .hbm, ⟨38, _⟩ => ⟨S1024x1024, .bf16⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x1024, .bf16⟩
  | .hbm, ⟨49, _⟩ => ⟨S8192x1024, .f32⟩
  | .hbm, ⟨50, _⟩ => ⟨S32x16x256, .f32⟩
  | .hbm, ⟨51, _⟩ => ⟨S8x128, .f32⟩
  | .hbm, ⟨52, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1x1024, .f32⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x1024, .f32⟩
  | .local _ .vmem, ⟨45, _⟩ => ⟨S256x1024, .f32⟩
  | .local _ .vmem, ⟨46, _⟩ => ⟨S1x16x256, .f32⟩
  | .local _ .vmem, ⟨47, _⟩ => ⟨S1x16x256, .f32⟩
  | .local _ .vmem, ⟨48, _⟩ => ⟨S8x128, .f32⟩
  | .local _ .vmem, ⟨49, _⟩ => ⟨S1x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14_0 : Ref sig .tc := ⟨.hbm, 39, rfl⟩
abbrev main_v14_1 : Ref sig .tc := ⟨.hbm, 40, rfl⟩
abbrev main_v14_2 : Ref sig .tc := ⟨.hbm, 41, rfl⟩
abbrev main_v14_3 : Ref sig .tc := ⟨.hbm, 42, rfl⟩
abbrev main_v14_4 : Ref sig .tc := ⟨.hbm, 43, rfl⟩
abbrev main_v14_5 : Ref sig .tc := ⟨.hbm, 44, rfl⟩
abbrev main_v14_6 : Ref sig .tc := ⟨.hbm, 45, rfl⟩
abbrev main_v14_7 : Ref sig .tc := ⟨.hbm, 46, rfl⟩
abbrev main_v14_8 : Ref sig .tc := ⟨.hbm, 47, rfl⟩
abbrev main_v14_9 : Ref sig .tc := ⟨.hbm, 48, rfl⟩
abbrev main_v14_10 : Ref sig .tc := ⟨.hbm, 49, rfl⟩
abbrev main_v14_11 : Ref sig .tc := ⟨.hbm, 50, rfl⟩
abbrev main_v14_12 : Ref sig .tc := ⟨.hbm, 51, rfl⟩
abbrev main_v14_13 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg27_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem27_0 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x16x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Reference2Ideal.lean ====
abbrev S8192x5120 : Shape := ⟨2, ![8192, 5120]⟩
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S32x256x16x64 : Shape := ⟨4, ![32, 256, 16, 64]⟩
abbrev S32x256x16 : Shape := ⟨3, ![32, 256, 16]⟩
abbrev S32x16x256 : Shape := ⟨3, ![32, 16, 256]⟩
abbrev S8x128 : Shape := ⟨2, ![8, 128]⟩

abbrev nBuf : Space → Nat
  | .hbm => 175
  | .vmem => 0
  | .smem => 0
  | _ => 0

abbrev hbmTy0_0 (i : Nat) : BufTy := match i % 128 with
  | 0 => ⟨S8192x5120, .bf16⟩
  | 1 => ⟨S8192x1024, .f32⟩
  | 2 => ⟨S8192x1024, .bf16⟩
  | 3 => ⟨S8192x1024, .f32⟩
  | 4 => ⟨S8192x1024, .f32⟩
  | 5 => ⟨S1024x1024, .f32⟩
  | 6 => ⟨S1024x1024, .f32⟩
  | 7 => ⟨S1024x1024, .f32⟩
  | 8 => ⟨S1x1024, .f32⟩
  | 9 => ⟨S8192x5120, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S_, .f32⟩
  | 98 => ⟨S8192, .f32⟩
  | 99 => ⟨S8192, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S8192, .f32⟩
  | 108 => ⟨S_, .f32⟩
  | 109 => ⟨S8192, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S8192x1024, .f32⟩
  | 126 => ⟨S8192x1024, .f32⟩
  | 127 => ⟨S8192x1, .f32⟩
  | _ => ⟨S8192x5120, .bf16⟩

abbrev hbmTy0_1 (i : Nat) : BufTy := match i % 128 with
  | 0 => ⟨S_, .f32⟩
  | 1 => ⟨S8192x1, .f32⟩
  | 2 => ⟨S8192x1, .f32⟩
  | 3 => ⟨S_, .f32⟩
  | 4 => ⟨S8192, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S32x256x16x64, .f32⟩
  | 33 => ⟨S_, .f32⟩
  | 34 => ⟨S32x256x16, .f32⟩
  | 35 => ⟨S32x16x256, .f32⟩
  | 36 => ⟨S8192x1024, .bf16⟩
  | 37 => ⟨S8192x1024, .bf16⟩
  | 38 => ⟨S8192x1024, .bf16⟩
  | 39 => ⟨S8192x1024, .bf16⟩
  | 40 => ⟨S8192x1024, .bf16⟩
  | 41 => ⟨S8192x1024, .bf16⟩
  | 42 => ⟨S8192x1024, .bf16⟩
  | 43 => ⟨S8192x1024, .bf16⟩
  | 44 => ⟨S8192x1024, .bf16⟩
  | 45 => ⟨S8192x1024, .bf16⟩
  | 46 => ⟨S8x128, .f32⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_v9_2 : Ref sig .tc := ⟨.hbm, 37, rfl⟩
abbrev main_call1_cst_1 : Ref sig .tc := ⟨.hbm, 38, rfl⟩
abbrev main_call1_v6 : Ref sig .tc := ⟨.hbm, 39, rfl⟩
abbrev main_call1_v7 : Ref sig .tc := ⟨.hbm, 40, rfl⟩
abbrev main_v9_1 : Ref sig .tc := ⟨.hbm, 41, rfl⟩
abbrev main_v9_0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst : Ref sig .tc := ⟨.hbm, 47, rfl⟩
abbrev main_v14 : Ref sig .tc := ⟨.hbm, 48, rfl⟩
abbrev main_v15 : Ref sig .tc := ⟨.hbm, 49, rfl⟩
abbrev main_cst_0 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_2 : Ref sig .tc := ⟨.hbm, 60, rfl⟩
abbrev main_v24 : Ref sig .tc := ⟨.hbm, 61, rfl⟩
abbrev main_v25 : Ref sig .tc := ⟨.hbm, 62, rfl⟩
abbrev main_cst_3 : Ref sig .tc := ⟨.hbm, 63, rfl⟩
abbrev main_v26 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_5 : Ref sig .tc := ⟨.hbm, 74, rfl⟩
abbrev main_v35 : Ref sig .tc := ⟨.hbm, 75, rfl⟩
abbrev main_v36 : Ref sig .tc := ⟨.hbm, 76, rfl⟩
abbrev main_cst_6 : Ref sig .tc := ⟨.hbm, 77, rfl⟩
abbrev main_v37 : Ref sig .tc := ⟨.hbm, 78, rfl⟩
abbrev main_v38 : Ref sig .tc := ⟨.hbm, 79, rfl⟩
abbrev main_cst_7 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_8 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_cst_10 : Ref sig .tc := ⟨.hbm, 97, rfl⟩
abbrev main_v53 : Ref sig .tc := ⟨.hbm, 98, rfl⟩
abbrev main_v54 : Ref sig .tc := ⟨.hbm, 99, rfl⟩
abbrev main_cst_11 : Ref sig .tc := ⟨.hbm, 100, rfl⟩
abbrev main_v55 : Ref sig .tc := ⟨.hbm, 101, rfl⟩
abbrev main_cst_12 : Ref sig .tc := ⟨.hbm, 102, rfl⟩
abbrev main_v56 : Ref sig .tc := ⟨.hbm, 103, rfl⟩
abbrev main_cst_13 : Ref sig .tc := ⟨.hbm, 104, rfl⟩
abbrev main_cst_14 : Ref sig .tc := ⟨.hbm, 105, rfl⟩
abbrev main_v57 : Ref sig .tc := ⟨.hbm, 106, rfl⟩
abbrev main_v58 : Ref sig .tc := ⟨.hbm, 107, rfl⟩
abbrev main_cst_15 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_16 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_17 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_18 : Ref sig .tc := ⟨.hbm, 128, rfl⟩
abbrev main_v76 : Ref sig .tc := ⟨.hbm, 129, rfl⟩
abbrev main_v77 : Ref sig .tc := ⟨.hbm, 130, rfl⟩
abbrev main_cst_19 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_20 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩

abbrev nD : Nat := 1
abbrev τ : Topo := Topo.v7x

variable {F : FTy → Type} [FloatOps F]
-- ==== Kernel3.lean ====
abbrev S8192x1024 : Shape := ⟨2, ![8192, 1024]⟩
abbrev S8x1x1024 : Shape := ⟨3, ![8, 1, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8x1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1x1024, .f32⟩
  | .local _ .vmem, ⟨21, _⟩ => ⟨S1x1x1024, .f32⟩
  | .local _ .vmem, ⟨22, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_cond10 (i : grid0.Coords) : BitVec 1 :=
  let arg1 : BitVec 32 := BitVec.ofNat 32 (i 1).val
  let c7_i32_10 : BitVec 32 := 7#32
  let v27 : BitVec 1 := Scalar.cmpi .eq arg1 c7_i32_10
  let v28 : BitVec 32 := Scalar.extui v27
  let c0_i32_11 : BitVec 32 := 0#32
  let v29 : BitVec 1 := Scalar.cmpi .ne v28 c0_i32_11
  v29

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c2_i32 : BitVec 32 := 2#32
  let v9 : BitVec 1 := Scalar.cmpi .eq arg0 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c4_i32 : BitVec 32 := 4#32
  let v15 : BitVec 1 := Scalar.cmpi .eq arg0 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c5_i32 : BitVec 32 := 5#32
  let v18 : BitVec 1 := Scalar.cmpi .eq arg0 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg0 : BitVec 32 := BitVec.ofNat 32 (i 0).val
  let c6_i32 : BitVec 32 := 6#32
  let v21 : BitVec 1 := Scalar.cmpi .eq arg0 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .eq arg0 c4_i32
  let c4_i32_0 : BitVec 32 := 4#32
  let v1 : BitVec 1 := Scalar.cmpi .slt arg0 c4_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c5_i32_0 : BitVec 32 := 5#32
  let v1 : BitVec 1 := Scalar.cmpi .slt arg0 c5_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c6_i32_0 : BitVec 32 := 6#32
  let v1 : BitVec 1 := Scalar.cmpi .slt arg0 c6_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c7_i32_0 : BitVec 32 := 7#32
  let v1 : BitVec 1 := Scalar.cmpi .slt arg0 c7_i32_0
  let c0_i32 : BitVec 32 := 0#32
  let c7_i32_1 : BitVec 32 := 7#32
  let v2 : BitVec 32 := Scalar.select v1 c0_i32 c7_i32_1
  let v3 : BitVec 32 := Scalar.select v0 arg1 v2
  let c0_i32_2 : BitVec 32 := 0#32
  let c0_i32_3 : BitVec 32 := 0#32
  ![v3.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S8192x1024 : Shape := ⟨2, ![8192, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S8x1024 : Shape := ⟨2, ![8, 1024]⟩
abbrev S8x1x1024 : Shape := ⟨3, ![8, 1, 1024]⟩

abbrev nBuf : Space → Nat
  | .hbm => 137
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x1024, .bf16⟩
  | 5 => ⟨S8192x1024, .bf16⟩
  | 6 => ⟨S8192x1024, .bf16⟩
  | 7 => ⟨S8192x1024, .bf16⟩
  | 8 => ⟨S8192x1024, .bf16⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S1024x1024, .f32⟩
  | 19 => ⟨S_, .f32⟩
  | 20 => ⟨S1024, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S_, .f32⟩
  | 65 => ⟨S1024, .f32⟩
  | 66 => ⟨S1024x1024, .f32⟩
  | 67 => ⟨S1024x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S1024x1024, .f32⟩
  | 74 => ⟨S1024x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S1024x1024, .f32⟩
  | 81 => ⟨S1024x1024, .f32⟩
  | 82 => ⟨S_, .f32⟩
  | 83 => ⟨S1024, .f32⟩
  | 84 => ⟨S1x1024, .f32⟩
  | 85 => ⟨S_, .f32⟩
  | 86 => ⟨S1024, .f32⟩
  | 87 => ⟨S1024x1024, .f32⟩
  | 88 => ⟨S1024x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S1024x1024, .f32⟩
  | 95 => ⟨S1024x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S1024x1024, .f32⟩
  | 102 => ⟨S1024x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S1024x1024, .f32⟩
  | 109 => ⟨S1024x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S1024x1024, .f32⟩
  | 116 => ⟨S1024x1024, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S8192x1024, .f32⟩
  | 126 => ⟨S8192x1024, .bf16⟩
  | 127 => ⟨S1x1024, .f32⟩
  | _ => ⟨S8192x1024, .bf16⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S8x1024, .f32⟩
  | 8 => ⟨S8x1x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_1 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩

abbrev nD : Nat := 1
abbrev τ : Topo := Topo.v7x

variable {F : FTy → Type} [FloatOps F]
-- ==== Kernel4.lean ====
abbrev S8192x1024 : Shape := ⟨2, ![8192, 1024]⟩
abbrev S1024x9232 : Shape := ⟨2, ![1024, 9232]⟩
abbrev S1x9232 : Shape := ⟨2, ![1, 9232]⟩
abbrev S1024x1024 : Shape := ⟨2, ![1024, 1024]⟩
abbrev S1024x16 : Shape := ⟨2, ![1024, 16]⟩
abbrev S16x1024 : Shape := ⟨2, ![16, 1024]⟩
abbrev S_ : Shape := ⟨0, ![]⟩
abbrev S128x1024 : Shape := ⟨2, ![128, 1024]⟩
abbrev S8320x1024 : Shape := ⟨2, ![8320, 1024]⟩
abbrev S1x5120 : Shape := ⟨2, ![1, 5120]⟩
abbrev S8192x5120 : Shape := ⟨2, ![8192, 5120]⟩
abbrev S1x1024 : Shape := ⟨2, ![1, 1024]⟩

abbrev nBuf : Space → Nat
  | .hbm => 27
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x9232, .f32⟩
  | .hbm, ⟨2, _⟩ => ⟨S1x9232, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x16, .f32⟩
  | .hbm, ⟨20, _⟩ => ⟨S16x1024, .f32⟩
  | .hbm, ⟨21, _⟩ => ⟨S_, .f32⟩
  | .hbm, ⟨22, _⟩ => ⟨S128x1024, .f32⟩
  | .hbm, ⟨23, _⟩ => ⟨S8320x1024, .f32⟩
  | .hbm, ⟨24, _⟩ => ⟨S8320x1024, .bf16⟩
  | .hbm, ⟨25, _⟩ => ⟨S1x5120, .f32⟩
  | .hbm, ⟨26, _⟩ => ⟨S8192x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S1024x9232 : Shape := ⟨2, ![1024, 9232]⟩
abbrev S1x9232 : Shape := ⟨2, ![1, 9232]⟩
abbrev S1024x5120 : Shape := ⟨2, ![1024, 5120]⟩
abbrev S8192x5120 : Shape := ⟨2, ![8192, 5120]⟩
abbrev S1x5120 : Shape := ⟨2, ![1, 5120]⟩
abbrev S5120 : Shape := ⟨1, ![5120]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9232, .f32⟩
  | .hbm, ⟨2, _⟩ => ⟨S1x9232, .f32⟩
  | .hbm, ⟨3, _⟩ => ⟨S8192x1024, .f32⟩
  | .hbm, ⟨4, _⟩ => ⟨S1024x5120, .f32⟩
  | .hbm, ⟨5, _⟩ => ⟨S8192x5120, .f32⟩
  | .hbm, ⟨6, _⟩ => ⟨S1x5120, .f32⟩
  | .hbm, ⟨7, _⟩ => ⟨S5120, .f32⟩
  | .hbm, ⟨8, _⟩ => ⟨S1x5120, .f32⟩
  | .hbm, ⟨9, _⟩ => ⟨S8192x5120, .f32⟩
  | .hbm, ⟨10, _⟩ => ⟨S8192x5120, .f32⟩
  | .hbm, ⟨11, _⟩ => ⟨S8192x5120, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x9232 : Shape := ⟨2, ![1024, 9232]⟩
abbrev S1x9232 : Shape := ⟨2, ![1, 9232]⟩
abbrev S1x16 : Shape := ⟨2, ![1, 16]⟩
abbrev S_ : Shape := ⟨0, ![]⟩
abbrev S1x128 : Shape := ⟨2, ![1, 128]⟩
abbrev S1024x1024 : Shape := ⟨2, ![1024, 1024]⟩
abbrev S1024x16 : Shape := ⟨2, ![1024, 16]⟩
abbrev S16x1024 : Shape := ⟨2, ![16, 1024]⟩
abbrev S128x1024 : Shape := ⟨2, ![128, 1024]⟩
abbrev S8320x1024 : Shape := ⟨2, ![8320, 1024]⟩
abbrev S1x3072 : Shape := ⟨2, ![1, 3072]⟩
abbrev S8192x3072 : Shape := ⟨2, ![8192, 3072]⟩
abbrev S8192x128 : Shape := ⟨2, ![8192, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 33
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x9232, .f32⟩
  | .hbm, ⟨3, _⟩ => ⟨S1x9232, .f32⟩
  | .hbm, ⟨4, _⟩ => ⟨S1x16, .f32⟩
  | .hbm, ⟨5, _⟩ => ⟨S_, .f32⟩
  | .hbm, ⟨6, _⟩ => ⟨S1x128, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x16, .f32⟩
  | .hbm, ⟨24, _⟩ => ⟨S16x1024, .f32⟩
  | .hbm, ⟨25, _⟩ => ⟨S_, .f32⟩
  | .hbm, ⟨26, _⟩ => ⟨S128x1024, .f32⟩
  | .hbm, ⟨27, _⟩ => ⟨S8320x1024, .f32⟩
  | .hbm, ⟨28, _⟩ => ⟨S8320x1024, .bf16⟩
  | .hbm, ⟨29, _⟩ => ⟨S1x3072, .f32⟩
  | .hbm, ⟨30, _⟩ => ⟨S8192x1024, .bf16⟩
  | .hbm, ⟨31, _⟩ => ⟨S8192x3072, .bf16⟩
  | .hbm, ⟨32, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S128x1024, .bf16⟩
  | .local _ .vmem, ⟨8, _⟩ => ⟨S1x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .f32⟩
  | .local _ .vmem, ⟨14, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S8192x1024 : Shape := ⟨2, ![8192, 1024]⟩
abbrev S1x1024 : Shape := ⟨2, ![1, 1024]⟩
abbrev S1024x9232 : Shape := ⟨2, ![1024, 9232]⟩
abbrev S1x9232 : Shape := ⟨2, ![1, 9232]⟩
abbrev S_ : Shape := ⟨0, ![]⟩
abbrev S8192 : Shape := ⟨1, ![8192]⟩
abbrev S8192x1 : Shape := ⟨2, ![8192, 1]⟩
abbrev S1024x3088 : Shape := ⟨2, ![1024, 3088]⟩
abbrev S8192x3088 : Shape := ⟨2, ![8192, 3088]⟩
abbrev S1x3088 : Shape := ⟨2, ![1, 3088]⟩
abbrev S3088 : Shape := ⟨1, ![3088]⟩
abbrev S8192x16 : Shape := ⟨2, ![8192, 16]⟩
abbrev S8192x112 : Shape := ⟨2, ![8192, 112]⟩
abbrev S8192x128 : Shape := ⟨2, ![8192, 128]⟩
abbrev S8192x3072 : Shape := ⟨2, ![8192, 3072]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x9232, .f32⟩
  | .hbm, ⟨3, _⟩ => ⟨S1x9232, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x3088, .f32⟩
  | .hbm, ⟨20, _⟩ => ⟨S8192x3088, .f32⟩
  | .hbm, ⟨21, _⟩ => ⟨S1x3088, .f32⟩
  | .hbm, ⟨22, _⟩ => ⟨S3088, .f32⟩
  | .hbm, ⟨23, _⟩ => ⟨S1x3088, .f32⟩
  | .hbm, ⟨24, _⟩ => ⟨S8192x3088, .f32⟩
  | .hbm, ⟨25, _⟩ => ⟨S8192x3088, .f32⟩
  | .hbm, ⟨26, _⟩ => ⟨S8192x16, .f32⟩
  | .hbm, ⟨27, _⟩ => ⟨S_, .f32⟩
  | .hbm, ⟨28, _⟩ => ⟨S8192x112, .f32⟩
  | .hbm, ⟨29, _⟩ => ⟨S8192x128, .f32⟩
  | .hbm, ⟨30, _⟩ => ⟨S8192x1024, .bf16⟩
  | .hbm, ⟨31, _⟩ => ⟨S8192x3072, .f32⟩
  | .hbm, ⟨32, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel6.lean ====
abbrev S8192x1024 : Shape := ⟨2, ![8192, 1024]⟩
abbrev S8x384x1024 : Shape := ⟨3, ![8, 384, 1024]⟩
abbrev S1024x1024 : Shape := ⟨2, ![1024, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8x384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 8], ![false, false]⟩

def k0_cond5 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩
abbrev S8x384x1024 : Shape := ⟨3, ![8, 384, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S8x128x1024, .f32⟩
  | .hbm, ⟨24, _⟩ => ⟨S8x128x1024, .f32⟩
  | .hbm, ⟨25, _⟩ => ⟨S8x128x1024, .f32⟩
  | .hbm, ⟨26, _⟩ => ⟨S8x384x1024, .f32⟩
  | .hbm, ⟨27, _⟩ => ⟨S8x384x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.RealLift.lean ====
/- Extended-real arithmetic over real arguments: each operation of the two programs, on arguments that are real numbers,
   is the real operation. With these lemmas a composed term over finite arrays becomes ONE real number, and what is left
   to prove is an equation between real numbers. -/
module

public import Idealize.ShloMosaic.Lib.Pipeline.ValueKit
public import Idealize.ShloMosaic.Lib.Pointwise

@[expose] public section

noncomputable section

namespace Cert.RealLift

open Idealize.ShloMosaic

/-- A finite sum of real numbers, summed as extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_mul (a b : ℝ) : ((a : EReal) * (b : EReal)) = ((a * b : ℝ) : EReal) := (EReal.coe_mul a b).symm
theorem coe_add (a b : ℝ) : ((a : EReal) + (b : EReal)) = ((a + b : ℝ) : EReal) := (EReal.coe_add a b).symm
theorem coe_sub (a b : ℝ) : ((a : EReal) - (b : EReal)) = ((a - b : ℝ) : EReal) := (EReal.coe_sub a b).symm
theorem coe_neg (a : ℝ) : (-(a : EReal)) = ((-a : ℝ) : EReal) := (EReal.coe_neg a).symm
theorem coe_zero : (0 : EReal) = ((0 : ℝ) : EReal) := EReal.coe_zero.symm
theorem coe_one : (1 : EReal) = ((1 : ℝ) : EReal) := EReal.coe_one.symm

theorem coe_div (a b : ℝ) (hb : b ≠ 0) : Ideal.div (a : EReal) (b : EReal) = ((a / b : ℝ) : EReal) := by
  rw [Ideal.div_coe hb, coe_mul, mul_one_div]

theorem coe_rsqrt (a : ℝ) (ha : 0 < a) : Ideal.rsqrt (a : EReal) = (((Real.sqrt a)⁻¹ : ℝ) : EReal) := by
  rw [Ideal.rsqrt_coe, if_neg (not_lt.mpr ha.le), if_neg ha.ne']

/-- The width of a row: the word `0x44800000` is 1024. -/
theorem word_1024 : Ideal.ofBits .f32 0x44800000#32 = ((1024 : ℝ) : EReal) := by
  simp [Ideal.ofBits, Ideal.ieee]; rw [← EReal.coe_mul]; norm_num

/-- The norm's added constant: the number that the word `0x358637BD` denotes, about one millionth. -/
def eps : ℝ := (8796093 : ℝ) / 2 ^ 43

theorem eps_pos : 0 < eps := by unfold eps; positivity

theorem word_eps : Ideal.ofBits .f32 0x358637BD#32 = ((eps : ℝ) : EReal) := by
  simp only [eps]; simp [Ideal.ofBits, Ideal.ieee]; rw [← EReal.coe_mul]; norm_num

theorem word_half : Ideal.ofBits .f32 0x3F000000#32 = ((1 / 2 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

theorem word_one : Ideal.ofBits .f32 0x3F800000#32 = ((1 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_top32 : Ideal.ofBits .f32 0x7F800000#32 = ⊤ := by simp [Ideal.ofBits, Ideal.ieee]
theorem word_top16 : Ideal.ofBits .bf16 0x7F80#16 = ⊤ := by simp [Ideal.ofBits, Ideal.ieee]

/-- The mean square of a row plus the added constant, a positive number. -/
def msq (x : Fin 1024 → ℝ) : ℝ := (∑ k, x k * x k) / 1024 + eps

theorem msq_pos (x : Fin 1024 → ℝ) : 0 < msq x := by
  have h : 0 ≤ ∑ k, x k * x k := Finset.sum_nonneg fun k _ => mul_self_nonneg _
  have := eps_pos
  unfold msq; positivity

/-- One over the root mean square of a row. -/
def inv (x : Fin 1024 → ℝ) : ℝ := (Real.sqrt (msq x))⁻¹

theorem inv_sq (x : Fin 1024 → ℝ) : inv x * inv x = (msq x)⁻¹ := by
  unfold inv; rw [← mul_inv, Real.mul_self_sqrt (msq_pos x).le]

theorem rsqrt_row (x : Fin 1024 → ℝ) : Ideal.rsqrt (((∑ k, x k * x k) / 1024 + eps : ℝ) : EReal) = ((inv x : ℝ) : EReal) :=
  coe_rsqrt _ (msq_pos x)

/-- An array whose elements all have an absolute value below `⊤` is an array of real numbers. -/
theorem exists_real {S : Shape} (X : S.Idx → EReal) (h : ∀ i, max (X i) (-(X i)) < ⊤) :
    ∃ x : S.Idx → ℝ, X = fun i => ((x i : ℝ) : EReal) :=
  ⟨fun i => (X i).toReal, funext fun i => (EReal.coe_toReal
    (fun e => by have := h i; rw [e] at this; simp at this)
    (fun e => by have := h i; rw [e] at this; simp at this)).symm⟩

end Cert.RealLift

end
-- ==== Proof.InRow.lean ====
/- The block step of the gradient of the input projection and of the norm before it, read at one element. -/
module

public import proofs.«01_k».proof.Proof.Gen.KernelIdeal.Skeleton
public import proofs.«01_k».proof.Proof.RealLift

@[expose] public section

set_option maxRecDepth 16384

noncomputable section

open Idealize.ShloMosaic Idealize.ShloMosaic.TcCoe Idealize.SL.Sem

namespace Cert.InBwd

open Cert.KernelIdeal Cert.KernelIdeal.Gen Cert.RealLift

/-- The gradient of a normed row `v` (times the norm's weights `w`) carried back to the row `x`, plus the gradient `y`
    that reached the row directly. -/
def gxR (v x w y : Fin 1024 → ℝ) (j : Fin 1024) : ℝ :=
  y j + inv x * (v j * w j - x j * inv x * ((∑ k, v k * w k * (x k * inv x)) / 1024))

/-- The nine products whose sum is the gradient of the normed row, at one element. -/
theorem dh_at (Df : FVec Ideal S512x128 .bf16) (Wf : FVec Ideal S128x1024 .bf16) (D0 : FVec Ideal S512x1024 .bf16) (W0 : FVec Ideal S1024x1024 .bf16)
    (D1 : FVec Ideal S512x1024 .bf16) (W1 : FVec Ideal S1024x1024 .bf16)
    (D2 : FVec Ideal S512x1024 .bf16) (W2 : FVec Ideal S1024x1024 .bf16) (D3 : FVec Ideal S512x1024 .bf16) (W3 : FVec Ideal S1024x1024 .bf16)
    (D4 : FVec Ideal S512x1024 .bf16) (W4 : FVec Ideal S1024x1024 .bf16) (D5 : FVec Ideal S512x1024 .bf16) (W5 : FVec Ideal S1024x1024 .bf16)
    (D6 : FVec Ideal S512x1024 .bf16) (W6 : FVec Ideal S1024x1024 .bf16) (D7 : FVec Ideal S512x1024 .bf16) (W7 : FVec Ideal S1024x1024 .bf16) (r : Fin 512) (j : Fin 1024) :
    k0_pay5 (F := Ideal) (k0_pay4 (F := Ideal) Df Wf D0 W0 D1 W1 D2 W2 D3 W3) D4 W4 D5 W5 D6 W6 D7 W7 (ix2 r j)
      = (((((((((∑ k, Df (ix2 r k) * Wf (ix2 k j)) + ∑ k, D0 (ix2 r k) * W0 (ix2 k j)) + ∑ k, D1 (ix2 r k) * W1 (ix2 k j))
        + ∑ k, D2 (ix2 r k) * W2 (ix2 k j)) + ∑ k, D3 (ix2 r k) * W3 (ix2 k j)) + ∑ k, D4 (ix2 r k) * W4 (ix2 k j))
        + ∑ k, D5 (ix2 r k) * W5 (ix2 k j)) + ∑ k, D6 (ix2 r k) * W6 (ix2 k j)) + ∑ k, D7 (ix2 r k) * W7 (ix2 k j)) := by
  pointwise [k0_pay5, k0_pay4]

/-- The stored gradient at one element, of a block whose rows are real numbers. -/
theorem gx_at (V X Y : FVec Ideal S512x1024 .f32) (W : FVec Ideal S1x1024 .f32) (v x y : Fin 512 → Fin 1024 → ℝ) (w : Fin 1024 → ℝ)
    (hV : ∀ r k, V (ix2 r k) = ((v r k : ℝ) : EReal)) (hX : ∀ r k, X (ix2 r k) = ((x r k : ℝ) : EReal))
    (hY : ∀ r k, Y (ix2 r k) = ((y r k : ℝ) : EReal)) (hW : ∀ k, W (ix2 0 k) = ((w k : ℝ) : EReal)) (r : Fin 512) (j : Fin 1024) :
    k0_pay2 (F := Ideal) V (k0_pay6 (F := Ideal) X) (k0_pay7 (F := Ideal) X) W Y (ix2 r j) = ((gxR (v r) (x r) w (y r) j : ℝ) : EReal) := by
  pointwise [k0_pay2, k0_pay6, k0_pay7]
  simp only [hV, hX, hY, hW, word_1024, word_eps, coe_mul, coe_sum, coe_div _ _ (show (1024 : ℝ) ≠ 0 by norm_num), coe_add, coe_sub, rsqrt_row]
  rfl

/-- The part of the weights' gradient that a block adds, at one column: the sum over its rows. -/
theorem gw_at (A : FVec Ideal S512x1024 .f32) (D4 : FVec Ideal S512x1024 .bf16) (W4 : FVec Ideal S1024x1024 .bf16) (D5 : FVec Ideal S512x1024 .bf16) (W5 : FVec Ideal S1024x1024 .bf16)
    (D6 : FVec Ideal S512x1024 .bf16) (W6 : FVec Ideal S1024x1024 .bf16) (D7 : FVec Ideal S512x1024 .bf16) (W7 : FVec Ideal S1024x1024 .bf16) (X : FVec Ideal S512x1024 .f32)
    (acc : FVec Ideal S1x1024 .f32) (v x : Fin 512 → Fin 1024 → ℝ)
    (hV : ∀ r k, k0_pay5 (F := Ideal) A D4 W4 D5 W5 D6 W6 D7 W7 (ix2 r k) = ((v r k : ℝ) : EReal)) (hX : ∀ r k, X (ix2 r k) = ((x r k : ℝ) : EReal)) (j : S1x1024.Idx) :
    k0_pay1 (F := Ideal) (k0_pay8 (F := Ideal) acc) (k0_pay9 (F := Ideal) A D4 W4 D5 W5 D6 W6 D7 W7 X) j
      = acc j + ((∑ r, v r (j 1) * (x r (j 1) * inv (x r)) : ℝ) : EReal) := by
  idx_vars j
  pointwise [k0_pay1, k0_pay8, k0_pay9, k0_pay7, k0_pay6]
  simp only [hV, hX, word_1024, word_eps, coe_mul, coe_sum, coe_div _ _ (show (1024 : ℝ) ≠ 0 by norm_num), coe_add, coe_sub, rsqrt_row]

end Cert.InBwd

end
-- ==== Proof.InHost.lean ====
/- The weights that the host lays out for the gradient of the input projection: the used columns of the projection,
   transposed and stacked, the sixteen forget columns last and padded with zeros. -/
module

public import proofs.«01_k».proof.Proof.Gen.KernelIdeal.Frame
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.InBwd

open Cert.KernelIdeal Cert.KernelIdeal.Gen Cert.RealLift

variable (m : (ℓ : Loc nD τ sig) → Buf (Elt Ideal) ℓ)

/-- A transposed slice of the columns from `o` on, at one element. -/
theorem column (X : FVec Ideal S1024x9232 .f32) (o : ℕ) (hs : S1024x9232.Slices ![0, o] S1024x1024) (ht : S1024x1024.Transposes [1, 0] S1024x1024)
    (r j : Fin 1024) (ho : o + 1024 ≤ 9232) :
    transpose S1024x1024 [1, 0] (extractStridedSlice S1024x1024 ![0, o] X hs) ht (ix2 r j) = X (ix2 j ⟨o + r.val, by omega⟩) := by
  pointwise
  blk_ext []

/-- The forget columns, transposed and padded below with zeros, at one element. -/
theorem padded (X : FVec Ideal S1024x9232 .f32) (hs : S1024x9232.Slices ![0, 3072] S1024x16) (ht : S1024x16.Transposes [1, 0] S16x1024)
    (hp : S16x1024.Pads ![0, 0] ![112, 0] ![0, 0] S128x1024) (r : Fin 128) (j : Fin 1024) :
    pad S128x1024 ![0, 0] ![112, 0] ![0, 0] (transpose S16x1024 [1, 0] (extractStridedSlice S1024x16 ![0, 3072] X hs) ht)
        (constant (F := Ideal) S_ .f32 0#32) hp h_S_ (ix2 r j)
      = if h : r.val < 16 then X (ix2 j ⟨3072 + r.val, by omega⟩) else 0 := by
  pointwise

set_option maxHeartbeats 4000000 in
/-- Row `i` of the stacked weights is a column of the projection, or zero. -/
theorem stacked (c : Dev nD) (i : Fin 8320) (j : Fin 1024) :
    (show FVec Ideal S8320x1024 .bf16 from V m c main_v20) (ix2 i j)
      = if h : i.val < 3072 then (show FVec Ideal S1024x9232 .f32 from m ((c : Thread nD τ).loc main_arg11)) (ix2 j ⟨i.val, by omega⟩)
        else if h : i.val < 8192 then (show FVec Ideal S1024x9232 .f32 from m ((c : Thread nD τ).loc main_arg11)) (ix2 j ⟨i.val + 16, by omega⟩)
        else if h : i.val < 8208 then (show FVec Ideal S1024x9232 .f32 from m ((c : Thread nD τ).loc main_arg11)) (ix2 j ⟨i.val - 5120, by omega⟩)
        else 0 := by
  unfold V
  after_results_simp
  pointwise
  after_results_simp
  obtain ⟨X, hX⟩ : ∃ X : FVec Ideal S1024x9232 .f32, m ((c : Thread nD τ).loc main_arg11) = X := ⟨_, rfl⟩
  have hX' : m (c, Proc.tc.devRef main_arg11) = X := hX
  simp only [hX, hX', padded]
  split_ifs
  all_goals try (exfalso; omega)
  all_goals first | rw [column X _ _ _ _ _ (by norm_num)] | rw [padded] | skip
  all_goals first
    | rw [dif_pos (show i.val < 3072 by omega)]
    | rw [dif_neg (show ¬ i.val < 3072 by omega), dif_pos (show i.val < 8192 by omega)]
    | rw [dif_neg (show ¬ i.val < 3072 by omega), dif_neg (show ¬ i.val < 8192 by omega)]
  iterate 8 (refine congrArg (fun q => X (ix2 j q)) (Fin.ext ?_); dsimp only; omega)
  by_cases hf : i.val < 8208
  · rw [dif_pos hf]
    refine (dif_pos (by dsimp only; omega)).trans ?_
    refine congrArg (fun q => X (ix2 j q)) (Fin.ext ?_); dsimp only; omega
  · rw [dif_neg hf]
    exact dif_neg (by dsimp only; omega)

end Cert.InBwd

end
-- ==== Proof.InBlocks.lean ====
/- The blocks that the kernel for the input projection's gradient reads, and what it has written when it ends, for
   arguments that are real numbers. -/
module

public import proofs.«01_k».proof.Proof.Gen.KernelIdeal.Value
public import proofs.«01_k».proof.Proof.InRow
public import proofs.«01_k».proof.Proof.InHost

@[expose] public section

set_option maxRecDepth 16384

noncomputable section

open Idealize.ShloMosaic Idealize.ShloMosaic.TcCoe Idealize.SL.Sem
open Idealize.ShloMosaic.Pipeline (Dat)

namespace Cert.InBwd

open Cert.KernelIdeal Cert.KernelIdeal.Gen Cert.RealLift

/-- Eight products and the forget gate's, summed: the gradient of the normed step input, row `i`, feature `j`. -/
def DH (d : Fin 8 → Fin 8192 → Fin 1024 → ℝ) (f : Fin 8192 → Fin 128 → ℝ) (w : Fin 1024 → Fin 9232 → ℝ) (i : Fin 8192) (j : Fin 1024) : ℝ :=
  (((((((((∑ k : Fin 16, f i ⟨k.val, by omega⟩ * w j ⟨3072 + k.val, by omega⟩)
    + ∑ k : Fin 1024, d 0 i k * w j ⟨k.val, by omega⟩) + ∑ k : Fin 1024, d 1 i k * w j ⟨1024 + k.val, by omega⟩)
    + ∑ k : Fin 1024, d 2 i k * w j ⟨2048 + k.val, by omega⟩) + ∑ k : Fin 1024, d 3 i k * w j ⟨3088 + k.val, by omega⟩)
    + ∑ k : Fin 1024, d 4 i k * w j ⟨4112 + k.val, by omega⟩) + ∑ k : Fin 1024, d 5 i k * w j ⟨5136 + k.val, by omega⟩)
    + ∑ k : Fin 1024, d 6 i k * w j ⟨6160 + k.val, by omega⟩) + ∑ k : Fin 1024, d 7 i k * w j ⟨7184 + k.val, by omega⟩)

variable (m : (ℓ : Loc nD τ sig) → Buf (Elt Ideal) ℓ)

/-- The arguments are these real arrays. -/
structure Args (c : Dev nD) (d : Fin 8 → Fin 8192 → Fin 1024 → ℝ) (f : Fin 8192 → Fin 128 → ℝ) (x y : Fin 8192 → Fin 1024 → ℝ)
    (w : Fin 1024 → Fin 9232 → ℝ) (g : Fin 1024 → ℝ) : Prop where
  d0 : ∀ i k, (show FVec Ideal S8192x1024 .bf16 from m ((c : Thread nD τ).loc main_arg0)) (ix2 i k) = ((d 0 i k : ℝ) : EReal)
  d1 : ∀ i k, (show FVec Ideal S8192x1024 .bf16 from m ((c : Thread nD τ).loc main_arg1)) (ix2 i k) = ((d 1 i k : ℝ) : EReal)
  d2 : ∀ i k, (show FVec Ideal S8192x1024 .bf16 from m ((c : Thread nD τ).loc main_arg2)) (ix2 i k) = ((d 2 i k : ℝ) : EReal)
  d3 : ∀ i k, (show FVec Ideal S8192x1024 .bf16 from m ((c : Thread nD τ).loc main_arg3)) (ix2 i k) = ((d 3 i k : ℝ) : EReal)
  d4 : ∀ i k, (show FVec Ideal S8192x1024 .bf16 from m ((c : Thread nD τ).loc main_arg4)) (ix2 i k) = ((d 4 i k : ℝ) : EReal)
  d5 : ∀ i k, (show FVec Ideal S8192x1024 .bf16 from m ((c : Thread nD τ).loc main_arg5)) (ix2 i k) = ((d 5 i k : ℝ) : EReal)
  d6 : ∀ i k, (show FVec Ideal S8192x1024 .bf16 from m ((c : Thread nD τ).loc main_arg6)) (ix2 i k) = ((d 6 i k : ℝ) : EReal)
  d7 : ∀ i k, (show FVec Ideal S8192x1024 .bf16 from m ((c : Thread nD τ).loc main_arg7)) (ix2 i k) = ((d 7 i k : ℝ) : EReal)
  f : ∀ i k, (show FVec Ideal S8192x128 .bf16 from m ((c : Thread nD τ).loc main_arg8)) (ix2 i k) = ((f i k : ℝ) : EReal)
  x : ∀ i k, (show FVec Ideal S8192x1024 .f32 from m ((c : Thread nD τ).loc main_arg9)) (ix2 i k) = ((x i k : ℝ) : EReal)
  y : ∀ i k, (show FVec Ideal S8192x1024 .f32 from m ((c : Thread nD τ).loc main_arg10)) (ix2 i k) = ((y i k : ℝ) : EReal)
  w : ∀ i k, (show FVec Ideal S1024x9232 .f32 from m ((c : Thread nD τ).loc main_arg11)) (ix2 i k) = ((w i k : ℝ) : EReal)
  g : ∀ k, (show FVec Ideal S1x1024 .f32 from m ((c : Thread nD τ).loc main_arg12)) (ix2 0 k) = ((g k : ℝ) : EReal)

theorem lt16 (t : Fin cfg0.N) : t.val < 16 := lt_of_lt_of_eq t.isLt (show cfg0.N = 16 from N_0)

/-- Row `r` of the block at point `t`. -/
def row (t : Fin cfg0.N) (r : Fin 512) : Fin 8192 := ⟨t.val * 512 + r.val, by have := lt16 t; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![t.val, 0] ∧ win0_14.index t = ![0, 0] :=
  (by decide +kernel : ∀ t : Fin grid0.N, _)

variable {m} {c : Dev nD} {d : Fin 8 → Fin 8192 → Fin 1024 → ℝ} {f : Fin 8192 → Fin 128 → ℝ} {x y : Fin 8192 → Fin 1024 → ℝ}
  {w : Fin 1024 → Fin 9232 → ℝ} {g : Fin 1024 → ℝ} (h : Args m c d f x y w g)

include h

theorem rd0 (t : Fin cfg0.N) (r : Fin 512) (k : Fin 1024) : iblk m c 0 t (ix2 r k) = ((d 0 (row t r) k : ℝ) : EReal) := by
  rw [← h.d0]; blk_ext [iblk, V, idx t, row]
theorem rd1 (t : Fin cfg0.N) (r : Fin 512) (k : Fin 1024) : iblk m c 1 t (ix2 r k) = ((d 1 (row t r) k : ℝ) : EReal) := by
  rw [← h.d1]; blk_ext [iblk, V, idx t, row]
theorem rd2 (t : Fin cfg0.N) (r : Fin 512) (k : Fin 1024) : iblk m c 2 t (ix2 r k) = ((d 2 (row t r) k : ℝ) : EReal) := by
  rw [← h.d2]; blk_ext [iblk, V, idx t, row]
theorem rd3 (t : Fin cfg0.N) (r : Fin 512) (k : Fin 1024) : iblk m c 3 t (ix2 r k) = ((d 3 (row t r) k : ℝ) : EReal) := by
  rw [← h.d3]; blk_ext [iblk, V, idx t, row]
theorem rd4 (t : Fin cfg0.N) (r : Fin 512) (k : Fin 1024) : iblk m c 4 t (ix2 r k) = ((d 4 (row t r) k : ℝ) : EReal) := by
  rw [← h.d4]; blk_ext [iblk, V, idx t, row]
theorem rd5 (t : Fin cfg0.N) (r : Fin 512) (k : Fin 1024) : iblk m c 5 t (ix2 r k) = ((d 5 (row t r) k : ℝ) : EReal) := by
  rw [← h.d5]; blk_ext [iblk, V, idx t, row]
theorem rd6 (t : Fin cfg0.N) (r : Fin 512) (k : Fin 1024) : iblk m c 6 t (ix2 r k) = ((d 6 (row t r) k : ℝ) : EReal) := by
  rw [← h.d6]; blk_ext [iblk, V, idx t, row]
theorem rd7 (t : Fin cfg0.N) (r : Fin 512) (k : Fin 1024) : iblk m c 7 t (ix2 r k) = ((d 7 (row t r) k : ℝ) : EReal) := by
  rw [← h.d7]; blk_ext [iblk, V, idx t, row]
theorem rd8 (t : Fin cfg0.N) (r : Fin 512) (k : Fin 128) : iblk m c 8 t (ix2 r k) = ((f (row t r) k : ℝ) : EReal) := by
  rw [← h.f]; blk_ext [iblk, V, idx t, row]
theorem rd9 (t : Fin cfg0.N) (r : Fin 512) (k : Fin 1024) : iblk m c 9 t (ix2 r k) = ((x (row t r) k : ℝ) : EReal) := by
  rw [← h.x]; blk_ext [iblk, V, idx t, row]
theorem rd10 (t : Fin cfg0.N) (r : Fin 512) (k : Fin 1024) : iblk m c 10 t (ix2 r k) = ((y (row t r) k : ℝ) : EReal) := by
  rw [← h.y]; blk_ext [iblk, V, idx t, row]
theorem rd12 (t : Fin cfg0.N) (k : Fin 1024) : iblk m c 12 t (ix2 0 k) = ((g k : ℝ) : EReal) := by
  rw [← h.g]; blk_ext [iblk, V, idx t]

/-- A row of a slice of 1024 rows of the weights. -/
theorem ld_at (t : Fin cfg0.N) (o : ℕ) (hin) (k j : Fin 1024) (ho : o + 1024 ≤ 8320) :
    View.ld (iblk m c 11 t) (Rect.unit (s := S8320x1024) ![o, 0] ![1024, 1024] hin) (ix2 k j)
      = (show FVec Ideal S8320x1024 .bf16 from V m c main_v20) (ix2 ⟨o + k.val, by omega⟩ j) := by
  pointwise
  blk_ext [iblk, idx t]

theorem ldf_at (t : Fin cfg0.N) (hin) (k : Fin 128) (j : Fin 1024) :
    View.ld (iblk m c 11 t) (Rect.unit (s := S8320x1024) ![8192, 0] ![128, 1024] hin) (ix2 k j)
      = (show FVec Ideal S8320x1024 .bf16 from V m c main_v20) (ix2 ⟨8192 + k.val, by omega⟩ j) := by
  pointwise
  blk_ext [iblk, idx t]

end Cert.InBwd

end
-- ==== Proof.InFinal.lean ====
/- What the kernel for the input projection's gradient has written when it ends, for arguments that are real numbers. -/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.InBwd

open Cert.KernelIdeal Cert.KernelIdeal.Gen Cert.RealLift

variable {m : (ℓ : Loc nD τ sig) → Buf (Elt Ideal) ℓ} {c : Dev nD} {d : Fin 8 → Fin 8192 → Fin 1024 → ℝ} {f : Fin 8192 → Fin 128 → ℝ}
  {x y : Fin 8192 → Fin 1024 → ℝ} {w : Fin 1024 → Fin 9232 → ℝ} {g : Fin 1024 → ℝ} (h : Args m c d f x y w g)

include h

/-- The weights of a section before the forget columns. -/
theorem w_lo (t : Fin cfg0.N) (o : ℕ) (hin) (k j : Fin 1024) (ho : o + 1024 ≤ 3072) :
    View.ld (iblk m c 11 t) (Rect.unit (s := S8320x1024) ![o, 0] ![1024, 1024] hin) (ix2 k j) = ((w j ⟨o + k.val, by omega⟩ : ℝ) : EReal) := by
  rw [ld_at h t o hin k j (by omega), stacked, dif_pos (by dsimp only; omega)]
  exact h.w _ _

/-- The weights of a section after the forget columns. -/
theorem w_hi (t : Fin cfg0.N) (o : ℕ) (hin) (k j : Fin 1024) (h1 : 3072 ≤ o) (ho : o + 1024 ≤ 8192) :
    View.ld (iblk m c 11 t) (Rect.unit (s := S8320x1024) ![o, 0] ![1024, 1024] hin) (ix2 k j) = ((w j ⟨o + k.val + 16, by omega⟩ : ℝ) : EReal) := by
  rw [ld_at h t o hin k j (by omega), stacked, dif_neg (by dsimp only; omega), dif_pos (by dsimp only; omega)]
  exact h.w _ _

/-- The forget columns. -/
theorem w_f (t : Fin cfg0.N) (hin) (k : Fin 128) (j : Fin 1024) :
    View.ld (iblk m c 11 t) (Rect.unit (s := S8320x1024) ![8192, 0] ![128, 1024] hin) (ix2 k j)
      = (((if hk : k.val < 16 then w j ⟨3072 + k.val, by omega⟩ else 0 : ℝ)) : EReal) := by
  rw [ldf_at h t hin k j, stacked, dif_neg (by dsimp only; omega), dif_neg (by dsimp only; omega)]
  by_cases hk : k.val < 16
  · rw [dif_pos hk, dif_pos (by dsimp only; omega)]
    refine (h.w _ _).trans (congrArg (fun q => ((w j q : ℝ) : EReal)) (Fin.ext ?_)); dsimp only; omega
  · rw [dif_neg hk, dif_neg (by dsimp only; omega)]; rfl

/-- The sum over 128 lanes of which all but 16 meet a zero weight. -/
theorem lanes (i : Fin 8192) (j : Fin 1024) :
    ∑ k : Fin 128, f i k * (if hk : k.val < 16 then w j ⟨3072 + k.val, by omega⟩ else 0)
      = ∑ k : Fin 16, f i ⟨k.val, by omega⟩ * w j ⟨3072 + k.val, by omega⟩ := by
  rw [Fin.sum_univ_add (a := 16) (b := 112) (fun k : Fin (16 + 112) => f i k * (if hk : k.val < 16 then w j ⟨3072 + k.val, by omega⟩ else 0))]
  rw [Finset.sum_eq_zero (s := Finset.univ) (f := fun k : Fin 112 => _)]
  · rw [add_zero]
    refine Finset.sum_congr rfl fun k _ => ?_
    rw [dif_pos (show (Fin.castAdd 112 k).val < 16 from k.isLt)]; rfl
  · intro k _
    rw [dif_neg (by simp), mul_zero]

/-- The gradient of the normed row, at point `t`. -/
theorem dh_blk (t : Fin cfg0.N) (r : Fin 512) (j : Fin 1024) :
    k0_pay5 (F := Ideal) (k0_pay4 (F := Ideal) (iblk m c 8 t) (View.ld (iblk m c 11 t) (Rect.unit ![8192, 0] ![128, 1024] inb_S8320x1024_S128x1024_8192_0))
      (iblk m c 0 t) (View.ld (iblk m c 11 t) (Rect.unit ![0, 0] ![1024, 1024] inb_S8320x1024_S1024x1024_0_0))
      (iblk m c 1 t) (View.ld (iblk m c 11 t) (Rect.unit ![1024, 0] ![1024, 1024] inb_S8320x1024_S1024x1024_1024_0))
      (iblk m c 2 t) (View.ld (iblk m c 11 t) (Rect.unit ![2048, 0] ![1024, 1024] inb_S8320x1024_S1024x1024_2048_0))
      (iblk m c 3 t) (View.ld (iblk m c 11 t) (Rect.unit ![3072, 0] ![1024, 1024] inb_S8320x1024_S1024x1024_3072_0)))
      (iblk m c 4 t) (View.ld (iblk m c 11 t) (Rect.unit ![4096, 0] ![1024, 1024] inb_S8320x1024_S1024x1024_4096_0))
      (iblk m c 5 t) (View.ld (iblk m c 11 t) (Rect.unit ![5120, 0] ![1024, 1024] inb_S8320x1024_S1024x1024_5120_0))
      (iblk m c 6 t) (View.ld (iblk m c 11 t) (Rect.unit ![6144, 0] ![1024, 1024] inb_S8320x1024_S1024x1024_6144_0))
      (iblk m c 7 t) (View.ld (iblk m c 11 t) (Rect.unit ![7168, 0] ![1024, 1024] inb_S8320x1024_S1024x1024_7168_0)) (ix2 r j)
      = ((DH d f w (row t r) j : ℝ) : EReal) := by
  rw [dh_at]
  simp only [rd0 h, rd1 h, rd2 h, rd3 h, rd4 h, rd5 h, rd6 h, rd7 h, rd8 h, w_f h]
  simp only [fun hin k => w_lo h t 0 hin k j (by norm_num), fun hin k => w_lo h t 1024 hin k j (by norm_num), fun hin k => w_lo h t 2048 hin k j (by norm_num),
    fun hin k => w_hi h t 3072 hin k j (by norm_num) (by norm_num), fun hin k => w_hi h t 4096 hin k j (by norm_num) (by norm_num),
    fun hin k => w_hi h t 5120 hin k j (by norm_num) (by norm_num), fun hin k => w_hi h t 6144 hin k j (by norm_num) (by norm_num),
    fun hin k => w_hi h t 7168 hin k j (by norm_num) (by norm_num)]
  simp only [coe_mul, coe_sum, coe_add, lanes h]
  refine congrArg _ ?_
  unfold DH
  congr 1

/-- The gradient of the step's input. -/
theorem final_gx : (dats m 0 c).arrAt 13 cfg0.N
    = (fun i : S8192x1024.Idx => ((gxR (DH d f w (i 0)) (x (i 0)) g (y (i 0)) (i 1) : ℝ) : EReal)) := by
  refine (dats m 0 c).arrAt_eq_of_covers 13 _ (by decide +kernel) fun t _ j => ?_
  blk_simp
  rw [after0_13]
  obtain ⟨r, k, rfl⟩ : ∃ (r : Fin 512) (k : Fin 1024), j = ix2 r k := ⟨j 0, j 1, by funext a; match a with | 0 => rfl | 1 => rfl⟩
  have e : (win0_13.blk t).view.emb (ix2 r k) = ix2 (row t r) k := by blk_point [idx t, row]
  rw [e]
  have key := gx_at _ (iblk m c 9 t) (iblk m c 10 t) (iblk m c 12 t) (fun r k => DH d f w (row t r) k) (fun r => x (row t r)) (fun r => y (row t r)) g
    (dh_blk h t) (rd9 h t) (rd10 h t) (rd12 h t) r k
  by_cases h0 : t.val % 16 = 0
  · rw [outsAt0_A m c t h0]; frame_out; exact key
  · rw [outsAt0_B m c t h0]; frame_out; exact key

/-- The gradient of the norm's weights: the sum over all rows. -/
theorem final_gw : (dats m 0 c).arrAt 14 cfg0.N
    = (fun i : S1x1024.Idx => ((∑ r : Fin 8192, DH d f w r (i 1) * (x r (i 1) * inv (x r)) : ℝ) : EReal)) := by
  refine (dats m 0 c).arrAt_eq_of_after_last 14 t0_15 (by decide +kernel) _ fun j => ?_
  rw [after0_14]
  let term : Fin cfg0.N → S1x1024.Idx → EReal := fun t j => ((∑ r : Fin 512, DH d f w (row t r) (j 1) * (x (row t r) (j 1) * inv (x (row t r))) : ℝ) : EReal)
  have key (acc : FVec Ideal S1x1024 .f32) (t : Fin cfg0.N) := gw_at _ _ _ _ _ _ _ _ _ (iblk m c 9 t) acc (fun r k => DH d f w (row t r) k) (fun r => x (row t r))
    (dh_blk h t) (rd9 h t)
  refine (Pipeline.eq_sum_fin_of_reset_step_apply_last (fun n h => (outsAt0 m c n h).2) 16 (fun _ => 0) term
    (fun t h0 i => by rw [outsAt0_A m c t h0]; frame_out; refine (key _ t i).trans ?_; rw [show k0_pay3 (F := Ideal) i = 0 by pointwise [k0_pay3]])
    (fun t h0 i => by rw [outsAt0_B m c t h0]; frame_out; exact key _ t i) (le_of_eq N_0) t0_15 rfl j).trans ?_
  have e : (cfg0.win 14).arr.view.emb j = j := rfl
  rw [e, zero_add, coe_sum]
  exact congrArg (fun q : ℝ => (q : EReal)) (Fin.sum_mul_add_fin cfg0.N 512 (fun r : Fin 8192 => DH d f w r (j 1) * (x r (j 1) * inv (x r))) (by rw [show cfg0.N = 16 from N_0]))

end Cert.InBwd

end
-- ==== Proof.InRef.lean ====
/- What the reference for the input projection's gradient computes, for arguments that are real numbers: the composed
   terms of its two results, read at one element. -/
module

public import proofs.«01_k».proof.Proof.Gen.ReferenceIdeal.Run
public import proofs.«01_k».proof.Proof.InBlocks

@[expose] public section

set_option maxRecDepth 16384

noncomputable section

open Idealize.ShloMosaic Idealize.ShloMosaic.TcCoe Idealize.SL.Sem

namespace Cert.InRef

open Cert.ReferenceIdeal Cert.ReferenceIdeal.Gen Cert.ReferenceIdeal.Facts Cert.RealLift

/-- The gradient of the normed rows: the nine products and their sum. -/
def gradH (D0 D1 D2 D3 D4 D5 D6 D7 : FVec Ideal S8192x1024 .bf16) (A : FVec Ideal S8192x128 .bf16) (W : FVec Ideal S1024x9232 .f32) : FVec Ideal S8192x1024 .f32 :=
  (addf (addf (addf (addf (addf (addf (addf (addf (Host.dotGeneral dot_S8192x16_S1024x16_S8192x1024_1_1_0_0_n_n none (extf .f32 (extractStridedSlice S8192x16 ![0, 0] A slices_S8192x128_S8192x16_0_0) bitsLt_bf16_f32)
      (extractStridedSlice S1024x16 ![0, 3072] W slices_S1024x9232_S1024x16_0_3072))
    (Host.dotGeneral dot_S8192x1024_S1024x1024_S8192x1024_1_1_0_0_n_n none (extf .f32 D7 bitsLt_bf16_f32) (extractStridedSlice S1024x1024 ![0, 7184] W slices_S1024x9232_S1024x1024_0_7184)))
    (Host.dotGeneral dot_S8192x1024_S1024x1024_S8192x1024_1_1_0_0_n_n none (extf .f32 D6 bitsLt_bf16_f32) (extractStridedSlice S1024x1024 ![0, 6160] W slices_S1024x9232_S1024x1024_0_6160)))
    (Host.dotGeneral dot_S8192x1024_S1024x1024_S8192x1024_1_1_0_0_n_n none (extf .f32 D5 bitsLt_bf16_f32) (extractStridedSlice S1024x1024 ![0, 5136] W slices_S1024x9232_S1024x1024_0_5136)))
    (Host.dotGeneral dot_S8192x1024_S1024x1024_S8192x1024_1_1_0_0_n_n none (extf .f32 D4 bitsLt_bf16_f32) (extractStridedSlice S1024x1024 ![0, 4112] W slices_S1024x9232_S1024x1024_0_4112)))
    (Host.dotGeneral dot_S8192x1024_S1024x1024_S8192x1024_1_1_0_0_n_n none (extf .f32 D3 bitsLt_bf16_f32) (extractStridedSlice S1024x1024 ![0, 3088] W slices_S1024x9232_S1024x1024_0_3088)))
    (Host.dotGeneral dot_S8192x1024_S1024x1024_S8192x1024_1_1_0_0_n_n none (extf .f32 D2 bitsLt_bf16_f32) (extractStridedSlice S1024x1024 ![0, 2048] W slices_S1024x9232_S1024x1024_0_2048)))
    (Host.dotGeneral dot_S8192x1024_S1024x1024_S8192x1024_1_1_0_0_n_n none (extf .f32 D1 bitsLt_bf16_f32) (extractStridedSlice S1024x1024 ![0, 1024] W slices_S1024x9232_S1024x1024_0_1024)))
    (Host.dotGeneral dot_S8192x1024_S1024x1024_S8192x1024_1_1_0_0_n_n none (extf .f32 D0 bitsLt_bf16_f32) (extractStridedSlice S1024x1024 ![0, 0] W slices_S1024x9232_S1024x1024_0_0)))

/-- The rows' mean squares plus the norm's constant. -/
def meanSq (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- What reaches a row through its mean square, per unit of the row. -/
def through (H X : FVec Ideal S8192x1024 .f32) (G : FVec Ideal S1x1024 .f32) : FVec Ideal S8192x1024 .f32 :=
  broadcastInDim S8192x1024 ![0] bcast_S8192_S8192x1024_0 (Host.reduceAdd (Host.divf (mulf (shapeCast _ (Host.reduceAdd
      (mulf X (mulf H (broadcastInDim S8192x1024 ![0, 1] bcast_S1x1024_S8192x1024_0_1 G))) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (meanSq X)) (meanSq X))))
      (broadcastInDim S8192x1 ![] bcast_S_S8192x1 (constant S_ .f32 0x44800000#32))) (constant S_ .f32 0x00000000#32) reducesTo_S8192x1_S8192_d1 h_S_)

/-- The gradient of the step's input, from that of the normed rows. -/
def gradX (H X Y : FVec Ideal S8192x1024 .f32) (G : FVec Ideal S1x1024 .f32) : FVec Ideal S8192x1024 .f32 :=
  addf (addf (addf Y (mulf (mulf H (broadcastInDim S8192x1024 ![0, 1] bcast_S1x1024_S8192x1024_0_1 G))
    (broadcastInDim S8192x1024 ![0, 1] bcast_S8192x1_S8192x1024_0_1 (Host.rsqrt (meanSq X))))) (mulf X (through H X G))) (mulf (through H X G) X)

/-- The gradient of the norm's weights. -/
def gradG (H X : FVec Ideal S8192x1024 .f32) : FVec Ideal S1x1024 .f32 :=
  shapeCast _ (Host.reduceAdd (mulf (mulf X (broadcastInDim S8192x1024 ![0, 1] bcast_S8192x1_S8192x1024_0_1 (Host.rsqrt (meanSq X)))) H)
    (constant S_ .f32 0x00000000#32) reducesTo_S8192x1024_S1024_d0 h_S_) shapeCasts_S1024_S1x1024

variable (m : (ℓ : Loc nD τ sig) → Buf (Elt Ideal) ℓ) (ρ : Dev nD → PrngReg)

theorem res_eq (c : Dev nD) : Value.res_main_v79 (F := Ideal) m c
    = gradX (gradH (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg11)))
      (m ((c.tc : Thread nD τ).loc main_arg9)) (m ((c.tc : Thread nD τ).loc main_arg10)) (m ((c.tc : Thread nD τ).loc main_arg12)) := rfl

theorem gradH_at (D0 D1 D2 D3 D4 D5 D6 D7 : FVec Ideal S8192x1024 .bf16) (A : FVec Ideal S8192x128 .bf16) (W : FVec Ideal S1024x9232 .f32)
    (d : Fin 8 → Fin 8192 → Fin 1024 → ℝ) (f : Fin 8192 → Fin 128 → ℝ) (w : Fin 1024 → Fin 9232 → ℝ)
    (h0 : ∀ i k, D0 (ix2 i k) = ((d 0 i k : ℝ) : EReal)) (h1 : ∀ i k, D1 (ix2 i k) = ((d 1 i k : ℝ) : EReal)) (h2 : ∀ i k, D2 (ix2 i k) = ((d 2 i k : ℝ) : EReal))
    (h3 : ∀ i k, D3 (ix2 i k) = ((d 3 i k : ℝ) : EReal)) (h4 : ∀ i k, D4 (ix2 i k) = ((d 4 i k : ℝ) : EReal)) (h5 : ∀ i k, D5 (ix2 i k) = ((d 5 i k : ℝ) : EReal))
    (h6 : ∀ i k, D6 (ix2 i k) = ((d 6 i k : ℝ) : EReal)) (h7 : ∀ i k, D7 (ix2 i k) = ((d 7 i k : ℝ) : EReal)) (hA : ∀ i k, A (ix2 i k) = ((f i k : ℝ) : EReal))
    (hW : ∀ i k, W (ix2 i k) = ((w i k : ℝ) : EReal)) (i : Fin 8192) (j : Fin 1024) :
    gradH D0 D1 D2 D3 D4 D5 D6 D7 A W (ix2 i j) = ((InBwd.DH d f w i j : ℝ) : EReal) := by
  pointwise [gradH]
  simp only [h0, h1, h2, h3, h4, h5, h6, h7, hA, hW, coe_mul, coe_sum, coe_add]
  refine congrArg _ ?_
  unfold InBwd.DH
  ring

/-- The gradient of a row, written with the mean square's derivative. -/
def rowX (v x w y : Fin 1024 → ℝ) (j : Fin 1024) : ℝ :=
  y j + v j * w j * inv x + x j * ((∑ k, x k * (v k * w k)) * (-(1/2) * (inv x / msq x)) / 1024) + (∑ k, x k * (v k * w k)) * (-(1/2) * (inv x / msq x)) / 1024 * x j

theorem gradX_at (H X Y : FVec Ideal S8192x1024 .f32) (G : FVec Ideal S1x1024 .f32) (v x y : Fin 8192 → Fin 1024 → ℝ) (w : Fin 1024 → ℝ)
    (hH : ∀ r k, H (ix2 r k) = ((v r k : ℝ) : EReal)) (hX : ∀ r k, X (ix2 r k) = ((x r k : ℝ) : EReal))
    (hY : ∀ r k, Y (ix2 r k) = ((y r k : ℝ) : EReal)) (hG : ∀ k, G (ix2 0 k) = ((w k : ℝ) : EReal)) (i : Fin 8192) (j : Fin 1024) :
    gradX H X Y G (ix2 i j) = ((rowX (v i) (x i) w (y i) j : ℝ) : EReal) := by
  pointwise [gradX, through, meanSq]
  have hm : (∑ k, x i k * x i k) / 1024 + eps ≠ 0 := (msq_pos (x i)).ne'
  simp only [hH, hX, hY, hG, word_1024, word_eps, word_neg_half, coe_mul, coe_sum, coe_div _ _ (show (1024 : ℝ) ≠ 0 by norm_num), coe_add, coe_sub, rsqrt_row,
    coe_div _ _ hm]
  simp only [Finset.univ_unique, Finset.sum_singleton]
  rfl

/-- The two ways to write the gradient of a row agree. -/
theorem rowX_eq (v x w y : Fin 1024 → ℝ) (j : Fin 1024) : rowX v x w y j = InBwd.gxR v x w y j := by
  unfold rowX InBwd.gxR
  have h1 : ∑ k, v k * w k * (x k * inv x) = inv x * ∑ k, x k * (v k * w k) := by
    rw [Finset.mul_sum]; exact Finset.sum_congr rfl fun k _ => by ring
  have h2 : inv x / msq x = inv x * (inv x * inv x) := by rw [inv_sq, div_eq_mul_inv]
  rw [h1, h2]; ring

theorem gradG_at (H X : FVec Ideal S8192x1024 .f32) (v x : Fin 8192 → Fin 1024 → ℝ)
    (hH : ∀ r k, H (ix2 r k) = ((v r k : ℝ) : EReal)) (hX : ∀ r k, X (ix2 r k) = ((x r k : ℝ) : EReal)) (j : Fin 1024) :
    gradG H X (ix2 0 j) = ((∑ r, x r j * inv (x r) * v r j : ℝ) : EReal) := by
  pointwise [gradG, meanSq]
  simp only [hH, hX, word_1024, word_eps, coe_mul, coe_sum, coe_div _ _ (show (1024 : ℝ) ≠ 0 by norm_num), coe_add, coe_sub, rsqrt_row]

end Cert.InRef

end
-- ==== Proof.InPre.lean ====
/- Arguments whose absolute values lie below infinity are real numbers. -/
module

public import proofs.«01_k».proof.Proof.RealLift
public import proofs.«01_k».proof.Pre_finite

@[expose] public section

set_option maxRecDepth 16384

noncomputable section

open Idealize.ShloMosaic Idealize.ShloMosaic.TcCoe

namespace Cert.InPre

open Cert.RealLift

/-- A 32-bit array that passes the test holds real numbers. -/
theorem real32 {S : Shape} (X : FVec Ideal S .f32) (hb : Pre_finite.S_.BroadcastsInDim S (![] : Fin 0 → Fin S.rank))
    (h : cmpf .olt (Host.absf X) (broadcastInDim S ![] hb (constant (F := Ideal) Pre_finite.S_ .f32 0x7F800000#32)) = fun _ => 1#1) :
    ∃ x : S.Idx → ℝ, X = fun i => ((x i : ℝ) : EReal) :=
  exists_real X fun i => by
    have hi := congrFun h i
    pointwise at hi
    rw [word_top32] at hi
    by_contra hn
    exact absurd (hi.symm.trans (congrArg BitVec.ofBool (decide_eq_false hn))) (by decide)

/-- A 16-bit array that passes the test holds real numbers. -/
theorem real16 {S : Shape} (X : FVec Ideal S .bf16) (hb : Pre_finite.S_.BroadcastsInDim S (![] : Fin 0 → Fin S.rank))
    (h : cmpf .olt (Host.absf X) (broadcastInDim S ![] hb (constant (F := Ideal) Pre_finite.S_ .bf16 0x7F80#16)) = fun _ => 1#1) :
    ∃ x : S.Idx → ℝ, X = fun i => ((x i : ℝ) : EReal) :=
  exists_real X fun i => by
    have hi := congrFun h i
    pointwise at hi
    rw [word_top16] at hi
    by_contra hn
    exact absurd (hi.symm.trans (congrArg BitVec.ofBool (decide_eq_false hn))) (by decide)

end Cert.InPre

end
-- ==== Proof.InClaim.lean ====
/- The kernel for the input projection's gradient against its reference: from arguments that pass the test for finiteness,
   both of the kernel's arrays are the reference's. -/
module

public import proofs.«01_k».proof.Defs
public import proofs.«01_k».proof.Proof.Gen.Pre_finite
public import proofs.«01_k».proof.Proof.InFinal
public import proofs.«01_k».proof.Proof.InRef
public import proofs.«01_k».proof.Proof.InPre

@[expose] public section

set_option maxRecDepth 16384

noncomputable section

open Idealize.ShloMosaic Idealize.ShloMosaic.TcCoe Idealize.SL.Sem

namespace Cert.InClaim

open Cert.RealLift Cert.InPre

/-- A matrix is given by its rows and columns. -/
theorem ix2_eta {a b : ℕ} (i : (⟨2, ![a, b]⟩ : Shape).Idx) : i = ix2 (i 0) (i 1) := by
  funext q; match q with | 0 => rfl | 1 => rfl

/-- Arguments that pass the test are real arrays. -/
theorem args (m : (ℓ : Loc Cert.KernelIdeal.nD Cert.KernelIdeal.τ Cert.KernelIdeal.sig) → Buf (Elt Ideal) ℓ) (hpre : Cert.Pre_KernelIdeal_finite m)
    (c : Dev Cert.KernelIdeal.nD) : ∃ d f x y w g, InBwd.Args m c d f x y w g := by
  obtain ⟨p0, p1, p2, p3, p4, p5, p6, p7, p8, p9, p10, p11, p12⟩ := hpre c
  obtain ⟨a0, e0⟩ := real16 _ _ p0
  obtain ⟨a1, e1⟩ := real16 _ _ p1
  obtain ⟨a2, e2⟩ := real16 _ _ p2
  obtain ⟨a3, e3⟩ := real16 _ _ p3
  obtain ⟨a4, e4⟩ := real16 _ _ p4
  obtain ⟨a5, e5⟩ := real16 _ _ p5
  obtain ⟨a6, e6⟩ := real16 _ _ p6
  obtain ⟨a7, e7⟩ := real16 _ _ p7
  obtain ⟨a8, e8⟩ := real16 _ _ p8
  obtain ⟨a9, e9⟩ := real32 _ _ p9
  obtain ⟨a10, e10⟩ := real32 _ _ p10
  obtain ⟨a11, e11⟩ := real32 _ _ p11
  obtain ⟨a12, e12⟩ := real32 _ _ p12
  exact ⟨fun p i k => (![a0, a1, a2, a3, a4, a5, a6, a7] p) (ix2 i k), fun i k => a8 (ix2 i k), fun i k => a9 (ix2 i k), fun i k => a10 (ix2 i k),
    fun i k => a11 (ix2 i k), fun k => a12 (ix2 0 k),
    { d0 := fun i k => congrFun e0 _, d1 := fun i k => congrFun e1 _, d2 := fun i k => congrFun e2 _, d3 := fun i k => congrFun e3 _
      d4 := fun i k => congrFun e4 _, d5 := fun i k => congrFun e5 _, d6 := fun i k => congrFun e6 _, d7 := fun i k => congrFun e7 _
      f := fun i k => congrFun e8 _, x := fun i k => congrFun e9 _, y := fun i k => congrFun e10 _, w := fun i k => congrFun e11 _
      g := fun k => congrFun e12 _ }⟩

/-- Both results of the kernel are the reference's. -/
theorem algebraic : Cert.algebraic_KernelIdeal_ReferenceIdeal_pre_finite := by
  intro m g m' g' hpre hagree
  refine ⟨_, _, Cert.KernelIdeal.Value.run_blocks m g, (θ_run _ _ _).mono (fun r h c => ?_) (Cert.ReferenceIdeal.Value.run m' g')⟩
  obtain ⟨d, f, x, y, w, gw, A⟩ := args m hpre c
  obtain ⟨q0, q1, q2, q3, q4, q5, q6, q7, q8, q9, q10, q11, q12⟩ := hagree c
  have hH := InRef.gradH_at _ _ _ _ _ _ _ _ _ _ d f w (fun i k => (congrFun q0 (ix2 i k)).trans (A.d0 i k)) (fun i k => (congrFun q1 (ix2 i k)).trans (A.d1 i k))
    (fun i k => (congrFun q2 (ix2 i k)).trans (A.d2 i k)) (fun i k => (congrFun q3 (ix2 i k)).trans (A.d3 i k)) (fun i k => (congrFun q4 (ix2 i k)).trans (A.d4 i k))
    (fun i k => (congrFun q5 (ix2 i k)).trans (A.d5 i k)) (fun i k => (congrFun q6 (ix2 i k)).trans (A.d6 i k)) (fun i k => (congrFun q7 (ix2 i k)).trans (A.d7 i k))
    (fun i k => (congrFun q8 (ix2 i k)).trans (A.f i k)) (fun i k => (congrFun q11 (ix2 i k)).trans (A.w i k))
  have hX := fun i k => (congrFun q9 (ix2 i k)).trans (A.x i k)
  obtain ⟨hx, hg, ha⟩ := h c
  refine ⟨hx.trans ?_, hg.trans ?_, ha⟩
  · rw [InRef.res_eq, InBwd.final_gx A]
    funext i
    obtain ⟨r, j, rfl⟩ : ∃ (r : Fin 8192) (j : Fin 1024), i = ix2 r j := ⟨i 0, i 1, ix2_eta i⟩
    refine (InRef.gradX_at _ _ _ _ _ x y gw hH hX (fun i k => (congrFun q10 (ix2 i k)).trans (A.y i k)) (fun k => (congrFun q12 (ix2 0 k)).trans (A.g k)) _ _).trans ?_
    rw [InRef.rowX_eq]; rfl
  · rw [InBwd.final_gw A]
    funext i
    obtain ⟨j, rfl⟩ : ∃ j : Fin 1024, i = ix2 0 j := ⟨i 1, (ix2_eta i).trans (congrArg (fun q => ix2 q (i 1)) (Subsingleton.elim (α := Fin 1) _ _))⟩
    refine (InRef.gradG_at _ _ _ x hH hX j).trans ?_
    exact congrArg (fun q : ℝ => (q : EReal)) (Finset.sum_congr rfl fun r _ => mul_comm _ _)

end Cert.InClaim

end
-- ==== Proof.MergeParts.lean ====
module

public import proofs.«01_k».proof.Proof.Gen.Kernel2Ideal.Frame.Runs
public import Idealize.ShloMosaic.Lib.VecWindow

/-! The merge gate's kernel, one printed stretch of its body at a time: what each stretch reads, what it leaves in the
buffers that it stores, and the values that it hands on. -/
@[expose] public section

set_option maxRecDepth 16384

noncomputable section

namespace Cert.Kernel2Ideal.Parts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

/-- A buffer that a stretch only reads is handed back as it was. -/
theorem kept {s : Shape} {e : EltTy} {a : Memref sig .tc .vmem s e} (h : a.IsWhole) (x : Vec F s e) :
    iprop(a.view.loc (c : Thread nD τ) ↦[a.view.set]{fullShare} h.unread x) ⊢ (iprop(∃ f, ⌜a.view.read (Elt F) f = x⌝ ∗ (a.view.loc (c : Thread nD τ) ↦[a.view.set]{fullShare} f)) : sProp 𝕄) := by
  iintro H; iexists _; isplitr; · ipureintro; exact h.read_unread _
  iexact H

/-- A store of a whole buffer leaves its payload there, whatever was there before. -/
theorem left {s : Shape} {e : EltTy} {a : Memref sig .tc .vmem s e} {off : Fin s.rank → ℕ} {inb : ∀ k, off k + s.size k ≤ s.size k}
    {w : (Rect.unit off s.size inb).shape.Idx → Elt F e} {f : a.view.ty.Contents (Elt F)} {L : List (View.Piece (Elt F) s e)} :
    iprop(a.view.loc (c : Thread nD τ) ↦[a.view.set]{fullShare} a.view.writes (Elt F) f (⟨Rect.unit off s.size inb, w⟩ :: L))
      ⊢ (iprop(∃ f, ⌜a.view.read (Elt F) f = w⌝ ∗ (a.view.loc (c : Thread nD τ) ↦[a.view.set]{fullShare} f)) : sProp 𝕄) := by
  iintro H; iexists _; isplitr
  swap; · iexact H
  ipureintro; exact View.read_writes_full _ _ _ _ _

/-- A load of the whole of a buffer that holds `x` reads `x`. -/
theorem rd {s : Shape} {e : EltTy} {a : Memref sig .tc .vmem s e} (h : a.IsWhole) (x : Vec F s e) {off : Fin s.rank → ℕ}
    (inb : ∀ k, off k + s.size k ≤ s.size k) :
    View.readAt (Elt F) a.view (Rect.unit off s.size inb).toLoadRect (h.unread x) = x := by
  rw [View.readAt_full, h.read_unread]

variable {i : grid0.Coords}
variable {a1 a2 a3 a4 a5 a6 a8 a15 a16 a17 a18 a19 a20 a21 a22 a23 a24 : Memref sig .tc .vmem S256x1024 .bf16}
  {a7 a9 a10 a25 : Memref sig .tc .vmem S256x1024 .f32}
  {a11 a12 a13 : Memref sig .tc .vmem S1024x1024 .bf16}
  {a14 a28 : Memref sig .tc .vmem S1x1024 .f32} {a26 : Memref sig .tc .vmem S1x16x256 .f32} {a27 : Memref sig .tc .vmem S8x128 .f32}
  {h1 : a1.IsWhole} {h2 : a2.IsWhole} {h3 : a3.IsWhole} {h4 : a4.IsWhole} {h5 : a5.IsWhole} {h6 : a6.IsWhole} {h7 : a7.IsWhole}
  {h8 : a8.IsWhole} {h9 : a9.IsWhole} {h10 : a10.IsWhole} {h11 : a11.IsWhole} {h12 : a12.IsWhole} {h13 : a13.IsWhole} {h14 : a14.IsWhole}
  {h15 : a15.IsWhole} {h16 : a16.IsWhole} {h17 : a17.IsWhole} {h18 : a18.IsWhole} {h19 : a19.IsWhole} {h20 : a20.IsWhole} {h21 : a21.IsWhole}
  {h22 : a22.IsWhole} {h23 : a23.IsWhole} {h24 : a24.IsWhole} {h25 : a25.IsWhole} {h26 : a26.IsWhole} {h27 : a27.IsWhole} {h28 : a28.IsWhole}

set_option maxHeartbeats 800000 in
/-- At the first tile the sums are cleared; then the gates' logits, the two branch projections and their gated mix are formed. -/
theorem part1_first (x0 x1 x2 x3 : Vec F S256x1024 .bf16) (x10 x11 : Vec F S1024x1024 .bf16) (hc0 : cond0_0 i) (Q : _ → sProp 𝕄) :
    iprop(owns (c : Thread nD τ) a1 fullShare x0
        ∗ owns (c : Thread nD τ) a2 fullShare x1
        ∗ owns (c : Thread nD τ) a3 fullShare x2
        ∗ owns (c : Thread nD τ) a11 fullShare x10
        ∗ owns (c : Thread nD τ) a4 fullShare x3
        ∗ owns (c : Thread nD τ) a12 fullShare x11
        ∗ (∃ d, owns (c : Thread nD τ) a27 fullShare d)
        ∗ (∃ d, owns (c : Thread nD τ) a28 fullShare d)
        ∗ (iprop(owns (c : Thread nD τ) a1 fullShare x0
            ∗ owns (c : Thread nD τ) a2 fullShare x1
            ∗ owns (c : Thread nD τ) a3 fullShare x2
            ∗ owns (c : Thread nD τ) a11 fullShare x10
            ∗ owns (c : Thread nD τ) a4 fullShare x3
            ∗ owns (c : Thread nD τ) a12 fullShare x11
            ∗ owns (c : Thread nD τ) a27 fullShare (k0_pay1)
            ∗ owns (c : Thread nD τ) a28 fullShare (k0_pay2))
          -∗ Q ⟨k0_pay3 x0, k0_pay4 x1, k0_pay5 x2 x10, k0_pay6 x3 x11, k0_pay7 x0 x1 x2 x10 x3 x11⟩))
      ⊢ wp frame (wpE (defs₀ (F := F)) Variants.none c none) Set.univ (k0_part1 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 ) Q := by
  rw [k0_part1_eq_skeleton]; unfold k0_part1_skel owns
  iintro ⟨⟨%f1, %e1, H1⟩, ⟨%f2, %e2, H2⟩, ⟨%f3, %e3, H3⟩, ⟨%f11, %e11, H11⟩, ⟨%f4, %e4, H4⟩, ⟨%f12, %e12, H12⟩, ⟨%d27, %f27, -, H27⟩, ⟨%d28, %f28, -, H28⟩, Hk⟩
  obtain rfl := h1.eq_unread e1; obtain rfl := h2.eq_unread e2; obtain rfl := h3.eq_unread e3; obtain rfl := h11.eq_unread e11; obtain rfl := h4.eq_unread e4; obtain rfl := h12.eq_unread e12
  sl_exec (disch := first | sl_exact hc0)
  rw [rd h1 x0 inb_S256x1024_S256x1024_0_0, rd h2 x1 inb_S256x1024_S256x1024_0_0, rd h3 x2 inb_S256x1024_S256x1024_0_0, rd h11 x10 inb_S1024x1024_S1024x1024_0_0, rd h4 x3 inb_S256x1024_S256x1024_0_0, rd h12 x11 inb_S1024x1024_S1024x1024_0_0]
  sl_step
  iapply Hk
  isplitl [H1]; · iapply kept c h1 x0; iexact H1
  isplitl [H2]; · iapply kept c h2 x1; iexact H2
  isplitl [H3]; · iapply kept c h3 x2; iexact H3
  isplitl [H11]; · iapply kept c h11 x10; iexact H11
  isplitl [H4]; · iapply kept c h4 x3; iexact H4
  isplitl [H12]; · iapply kept c h12 x11; iexact H12
  isplitl [H27]; · iapply left c; iexact H27
  iapply left c; iexact H28

set_option maxHeartbeats 800000 in
/-- At every other tile the sums stay as they are. -/
theorem part1_next (x0 x1 x2 x3 : Vec F S256x1024 .bf16) (x10 x11 : Vec F S1024x1024 .bf16) (hc0 : ¬ cond0_0 i) (Q : _ → sProp 𝕄) :
    iprop(owns (c : Thread nD τ) a1 fullShare x0
        ∗ owns (c : Thread nD τ) a2 fullShare x1
        ∗ owns (c : Thread nD τ) a3 fullShare x2
        ∗ owns (c : Thread nD τ) a11 fullShare x10
        ∗ owns (c : Thread nD τ) a4 fullShare x3
        ∗ owns (c : Thread nD τ) a12 fullShare x11
        ∗ (iprop(owns (c : Thread nD τ) a1 fullShare x0
            ∗ owns (c : Thread nD τ) a2 fullShare x1
            ∗ owns (c : Thread nD τ) a3 fullShare x2
            ∗ owns (c : Thread nD τ) a11 fullShare x10
            ∗ owns (c : Thread nD τ) a4 fullShare x3
            ∗ owns (c : Thread nD τ) a12 fullShare x11)
          -∗ Q ⟨k0_pay3 x0, k0_pay4 x1, k0_pay5 x2 x10, k0_pay6 x3 x11, k0_pay7 x0 x1 x2 x10 x3 x11⟩))
      ⊢ wp frame (wpE (defs₀ (F := F)) Variants.none c none) Set.univ (k0_part1 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 ) Q := by
  rw [k0_part1_eq_skeleton]; unfold k0_part1_skel owns
  iintro ⟨⟨%f1, %e1, H1⟩, ⟨%f2, %e2, H2⟩, ⟨%f3, %e3, H3⟩, ⟨%f11, %e11, H11⟩, ⟨%f4, %e4, H4⟩, ⟨%f12, %e12, H12⟩, Hk⟩
  obtain rfl := h1.eq_unread e1; obtain rfl := h2.eq_unread e2; obtain rfl := h3.eq_unread e3; obtain rfl := h11.eq_unread e11; obtain rfl := h4.eq_unread e4; obtain rfl := h12.eq_unread e12
  sl_exec (disch := first | sl_exact hc0)
  rw [rd h1 x0 inb_S256x1024_S256x1024_0_0, rd h2 x1 inb_S256x1024_S256x1024_0_0, rd h3 x2 inb_S256x1024_S256x1024_0_0, rd h11 x10 inb_S1024x1024_S1024x1024_0_0, rd h4 x3 inb_S256x1024_S256x1024_0_0, rd h12 x11 inb_S1024x1024_S1024x1024_0_0]
  sl_step
  iapply Hk
  isplitl [H1]; · iapply kept c h1 x0; iexact H1
  isplitl [H2]; · iapply kept c h2 x1; iexact H2
  isplitl [H3]; · iapply kept c h3 x2; iexact H3
  isplitl [H11]; · iapply kept c h11 x10; iexact H11
  isplitl [H4]; · iapply kept c h4 x3; iexact H4
  iapply kept c h12 x11; iexact H12

/-- The mix is stored; the residual is normalised and compared with the target, and the loss is added to its sum. -/
theorem part2 (v34 : FVec F S256x1024 .bf16) (x8 x9 : Vec F S256x1024 .f32) (x12 : Vec F S1024x1024 .bf16) (x13 : Vec F S1x1024 .f32) (l : Vec F S8x128 .f32) (Q : _ → sProp 𝕄) :
    iprop(owns (c : Thread nD τ) a9 fullShare x8
        ∗ owns (c : Thread nD τ) a10 fullShare x9
        ∗ owns (c : Thread nD τ) a13 fullShare x12
        ∗ owns (c : Thread nD τ) a14 fullShare x13
        ∗ owns (c : Thread nD τ) a27 fullShare l
        ∗ (∃ d, owns (c : Thread nD τ) a24 fullShare d)
        ∗ (iprop(owns (c : Thread nD τ) a9 fullShare x8
            ∗ owns (c : Thread nD τ) a10 fullShare x9
            ∗ owns (c : Thread nD τ) a13 fullShare x12
            ∗ owns (c : Thread nD τ) a14 fullShare x13
            ∗ owns (c : Thread nD τ) a27 fullShare (k0_pay12 v34 x12 x13 x8 x9 l)
            ∗ owns (c : Thread nD τ) a24 fullShare (v34))
          -∗ Q ⟨x13, k0_pay9 v34 x12, k0_pay10 v34 x12, k0_pay11 v34 x12 x13 x8 x9, Scalar.ofBits .f32 0x3A800000#32⟩))
      ⊢ wp frame (wpE (defs₀ (F := F)) Variants.none c none) Set.univ (k0_part2 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 v34) Q := by
  rw [k0_part2_eq_skeleton]; unfold k0_part2_skel owns
  iintro ⟨⟨%f9, %e9, H9⟩, ⟨%f10, %e10, H10⟩, ⟨%f13, %e13, H13⟩, ⟨%f14, %e14, H14⟩, ⟨%f27, %e27, H27⟩, ⟨%d24, %f24, -, H24⟩, Hk⟩
  obtain rfl := h9.eq_unread e9; obtain rfl := h10.eq_unread e10; obtain rfl := h13.eq_unread e13; obtain rfl := h14.eq_unread e14; obtain rfl := h27.eq_unread e27
  sl_exec
  rw [rd h9 x8 inb_S256x1024_S256x1024_0_0, rd h10 x9 inb_S256x1024_S256x1024_0_0, rd h13 x12 inb_S1024x1024_S1024x1024_0_0, rd h14 x13 inb_S1x1024_S1x1024_0_0, rd h27 l inb_S8x128_S8x128_0_0]
  unfold part2.sl.cst_41
  sl_step
  iapply Hk
  isplitl [H9]; · iapply kept c h9 x8; iexact H9
  isplitl [H10]; · iapply kept c h10 x9; iexact H10
  isplitl [H13]; · iapply kept c h13 x12; iexact H13
  isplitl [H14]; · iapply kept c h14 x13; iexact H14
  isplitl [H27]; · iapply left c; iexact H27
  iapply left c; iexact H24

/-- The cotangent passes the norm: the residual's, the norm weight's sum, the projection's, the two gates' logits. -/
theorem part3 (v11 v20 v25 : FVec F S256x1024 .f32) (v39 : Vec F S1x1024 .f32) (v47 : FVec F S256x1 .f32) (v49 v55 : FVec F S256x1024 .f32) (s : F .f32) (x12 : Vec F S1024x1024 .bf16) (w : Vec F S1x1024 .f32) (Q : _ → sProp 𝕄) :
    iprop(owns (c : Thread nD τ) a13 fullShare x12
        ∗ owns (c : Thread nD τ) a28 fullShare w
        ∗ (∃ d, owns (c : Thread nD τ) a25 fullShare d)
        ∗ (∃ d, owns (c : Thread nD τ) a15 fullShare d)
        ∗ (∃ d, owns (c : Thread nD τ) a16 fullShare d)
        ∗ (∃ d, owns (c : Thread nD τ) a17 fullShare d)
        ∗ (iprop(owns (c : Thread nD τ) a13 fullShare x12
            ∗ owns (c : Thread nD τ) a28 fullShare (k0_pay14 v49 v55 s w)
            ∗ owns (c : Thread nD τ) a25 fullShare (k0_pay13 v55 s)
            ∗ owns (c : Thread nD τ) a15 fullShare (k0_pay15 v39 v47 v49 v55 s)
            ∗ owns (c : Thread nD τ) a16 fullShare (k0_pay17 v11 v39 v47 v49 v55 s x12)
            ∗ owns (c : Thread nD τ) a17 fullShare (k0_pay18 v20 v39 v47 v49 v55 s x12))
          -∗ Q ⟨k0_pay16 v39 v47 v49 v55 s x12, k0_pay17 v11 v39 v47 v49 v55 s x12, k0_pay18 v20 v39 v47 v49 v55 s x12, k0_pay19 v11 v25 v39 v47 v49 v55 s x12, k0_pay20⟩))
      ⊢ wp frame (wpE (defs₀ (F := F)) Variants.none c none) Set.univ (k0_part3 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 v11 v20 v25 v39 v47 v49 v55 s) Q := by
  rw [k0_part3_eq_skeleton]; unfold k0_part3_skel owns
  iintro ⟨⟨%f13, %e13, H13⟩, ⟨%f28, %e28, H28⟩, ⟨%d25, %f25, -, H25⟩, ⟨%d15, %f15, -, H15⟩, ⟨%d16, %f16, -, H16⟩, ⟨%d17, %f17, -, H17⟩, Hk⟩
  obtain rfl := h13.eq_unread e13; obtain rfl := h28.eq_unread e28
  sl_exec
  rw [rd h13 x12 inb_S1024x1024_S1024x1024_0_0, rd h28 w inb_S1x1024_S1x1024_0_0]
  sl_step
  iapply Hk
  isplitl [H13]; · iapply kept c h13 x12; iexact H13
  isplitl [H28]; · iapply left c; iexact H28
  isplitl [H25]; · iapply left c; iexact H25
  isplitl [H15]; · iapply left c; iexact H15
  isplitl [H16]; · iapply left c; iexact H16
  iapply left c; iexact H17

/-- The gates' cotangents, and the first branch's back through its projection. -/
theorem part4 (v11 v20 v30 v97 : FVec F S256x1024 .f32) (v99 : FVec F S256x1024 .bf16) (v105 v106 : FVec F S256x1024 .f32) (x4 : Vec F S256x1024 .bf16) (x6 : Vec F S256x1024 .f32) (x10 : Vec F S1024x1024 .bf16) (Q : _ → sProp 𝕄) :
    iprop(owns (c : Thread nD τ) a7 fullShare x6
        ∗ owns (c : Thread nD τ) a11 fullShare x10
        ∗ owns (c : Thread nD τ) a5 fullShare x4
        ∗ (∃ d, owns (c : Thread nD τ) a18 fullShare d)
        ∗ (∃ d, owns (c : Thread nD τ) a19 fullShare d)
        ∗ (∃ d, owns (c : Thread nD τ) a21 fullShare d)
        ∗ (iprop(owns (c : Thread nD τ) a7 fullShare x6
            ∗ owns (c : Thread nD τ) a11 fullShare x10
            ∗ owns (c : Thread nD τ) a5 fullShare x4
            ∗ owns (c : Thread nD τ) a18 fullShare (k0_pay21 v11 v105 v106)
            ∗ owns (c : Thread nD τ) a19 fullShare (k0_pay22 v20 v30 v97)
            ∗ owns (c : Thread nD τ) a21 fullShare (k0_pay27 v99 x6 x10 x4))
          -∗ Q ⟨x6, k0_pay26 v99 x10 x4⟩))
      ⊢ wp frame (wpE (defs₀ (F := F)) Variants.none c none) Set.univ (k0_part4 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 v11 v20 v30 v97 v99 v105 v106) Q := by
  rw [k0_part4_eq_skeleton]; unfold k0_part4_skel owns
  iintro ⟨⟨%f7, %e7, H7⟩, ⟨%f11, %e11, H11⟩, ⟨%f5, %e5, H5⟩, ⟨%d18, %f18, -, H18⟩, ⟨%d19, %f19, -, H19⟩, ⟨%d21, %f21, -, H21⟩, Hk⟩
  obtain rfl := h7.eq_unread e7; obtain rfl := h11.eq_unread e11; obtain rfl := h5.eq_unread e5
  sl_exec
  rw [rd h7 x6 inb_S256x1024_S256x1024_0_0, rd h11 x10 inb_S1024x1024_S1024x1024_0_0, rd h5 x4 inb_S256x1024_S256x1024_0_0]
  sl_step
  iapply Hk
  isplitl [H7]; · iapply kept c h7 x6; iexact H7
  isplitl [H11]; · iapply kept c h11 x10; iexact H11
  isplitl [H5]; · iapply kept c h5 x4; iexact H5
  isplitl [H18]; · iapply left c; iexact H18
  isplitl [H19]; · iapply left c; iexact H19
  iapply left c; iexact H21

/-- The second branch's cotangent back through its projection and its gate. -/
theorem part5 (v101 : FVec F S256x1024 .bf16) (v133 : FVec F S256x1024 .bf16) (x5 : Vec F S256x1024 .bf16) (x7 : Vec F S256x1024 .bf16) (x11 : Vec F S1024x1024 .bf16) (Q : _ → sProp 𝕄) :
    iprop(owns (c : Thread nD τ) a8 fullShare x7
        ∗ owns (c : Thread nD τ) a12 fullShare x11
        ∗ owns (c : Thread nD τ) a6 fullShare x5
        ∗ (∃ d, owns (c : Thread nD τ) a20 fullShare d)
        ∗ (∃ d, owns (c : Thread nD τ) a22 fullShare d)
        ∗ (∃ d, owns (c : Thread nD τ) a23 fullShare d)
        ∗ (iprop(owns (c : Thread nD τ) a8 fullShare x7
            ∗ owns (c : Thread nD τ) a12 fullShare x11
            ∗ owns (c : Thread nD τ) a6 fullShare x5
            ∗ owns (c : Thread nD τ) a20 fullShare (v133)
            ∗ owns (c : Thread nD τ) a22 fullShare (k0_pay31 v101 x11 x5)
            ∗ owns (c : Thread nD τ) a23 fullShare (k0_pay32 v101 x7 x11 x5))
          -∗ Q ⟨iota .tc S1024x128 32 [0] iota_S1024x128_d0_w32, iota .tc S1024x128 32 [1] iota_S1024x128_d1_w32, 64#32, k0_pay33, k0_pay34, k0_pay35⟩))
      ⊢ wp frame (wpE (defs₀ (F := F)) Variants.none c none) Set.univ (k0_part5 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 v101 v133) Q := by
  rw [k0_part5_eq_skeleton]; unfold k0_part5_skel owns
  iintro ⟨⟨%f8, %e8, H8⟩, ⟨%f12, %e12, H12⟩, ⟨%f6, %e6, H6⟩, ⟨%d20, %f20, -, H20⟩, ⟨%d22, %f22, -, H22⟩, ⟨%d23, %f23, -, H23⟩, Hk⟩
  obtain rfl := h8.eq_unread e8; obtain rfl := h12.eq_unread e12; obtain rfl := h6.eq_unread e6
  sl_exec
  rw [rd h8 x7 inb_S256x1024_S256x1024_0_0, rd h12 x11 inb_S1024x1024_S1024x1024_0_0, rd h6 x5 inb_S256x1024_S256x1024_0_0]
  unfold part5.sl.v173 part5.sl.v174
  sl_step
  iapply Hk
  isplitl [H8]; · iapply kept c h8 x7; iexact H8
  isplitl [H12]; · iapply kept c h12 x11; iexact H12
  isplitl [H6]; · iapply kept c h6 x5; iexact H6
  isplitl [H20]; · iapply left c; iexact H20
  isplitl [H22]; · iapply left c; iexact H22
  iapply left c; iexact H23

end Cert.Kernel2Ideal.Parts

end
-- ==== Proof.MergeBody.lean ====
module

public import proofs.«01_k».proof.Proof.MergeParts

/-! The merge gate's body at one tile: from the tile's blocks and the two sums so far to the fourteen stored values. -/

@[expose] public section

set_option maxRecDepth 16384

noncomputable section

namespace Cert.Kernel2Ideal.Parts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks that one tile reads: the two gates' logits, the two gated branches, the two branches' own gates' logits, the two
    branches, the residual input, the target, the three weights and the norm's weight. -/
structure Blk (F : FTy → Type) [FloatOps F] where
  (x0 x1 x2 x3 x4 x5 : Vec F S256x1024 .bf16)
  x6 : Vec F S256x1024 .f32
  x7 : Vec F S256x1024 .bf16
  (x8 x9 : Vec F S256x1024 .f32)
  (x10 x11 x12 : Vec F S1024x1024 .bf16)
  x13 : Vec F S1x1024 .f32

namespace Blk

/-- The number 1/1024, a row's weight in a mean. -/
def per : F .f32 := Scalar.ofBits .f32 0x3A800000#32
/-- The gated mix of the two projections. -/
def mix (b : Blk F) := k0_pay7 b.x0 b.x1 b.x2 b.x10 b.x3 b.x11
/-- The root of a row's mean square, inverted. -/
def inv (b : Blk F) := k0_pay9 b.mix b.x12
/-- The residual before the norm's weight. -/
def unit (b : Blk F) := k0_pay10 b.mix b.x12
/-- The difference from the target. -/
def diff (b : Blk F) := k0_pay11 b.mix b.x12 b.x13 b.x8 b.x9
/-- The cotangent of the mix. -/
def dmix (b : Blk F) := k0_pay16 b.x13 b.inv b.unit b.diff per b.x12
/-- The cotangent of the projected norm. -/
def o14 (b : Blk F) := k0_pay15 b.x13 b.inv b.unit b.diff per
/-- The cotangent of the first projection. -/
def o15 (b : Blk F) := k0_pay17 (k0_pay3 b.x0) b.x13 b.inv b.unit b.diff per b.x12
/-- The cotangent of the second projection. -/
def o16 (b : Blk F) := k0_pay18 (k0_pay4 b.x1) b.x13 b.inv b.unit b.diff per b.x12
/-- The cotangent of the first gate's logits. -/
def o17 (b : Blk F) :=
  k0_pay21 (k0_pay3 b.x0) (k0_pay19 (k0_pay3 b.x0) (k0_pay5 b.x2 b.x10) b.x13 b.inv b.unit b.diff per b.x12) k0_pay20
/-- The cotangent of the second gate's logits. -/
def o18 (b : Blk F) := k0_pay22 (k0_pay4 b.x1) (k0_pay6 b.x3 b.x11) b.dmix
/-- The cotangent of the first branch. -/
def o19 (b : Blk F) := k0_pay26 b.o15 b.x10 b.x4
/-- The cotangent of the first branch's own gate. -/
def o20 (b : Blk F) := k0_pay27 b.o15 b.x6 b.x10 b.x4
/-- The cotangent of the second branch. -/
def o21 (b : Blk F) := k0_pay31 b.o16 b.x11 b.x5
/-- The cotangent of the second branch's own gate. -/
def o22 (b : Blk F) := k0_pay32 b.o16 b.x7 b.x11 b.x5
/-- The cotangent of the residual. -/
def o24 (b : Blk F) := k0_pay13 b.diff per
/-- The heads' sums of the first branch times its cotangent. -/
def o25 (b : Blk F) :=
  k0_pay36 b.x6 b.o19 (iota .tc S1024x128 32 [0] iota_S1024x128_d0_w32) (iota .tc S1024x128 32 [1] iota_S1024x128_d1_w32) 64#32
    k0_pay33 k0_pay34 k0_pay35
/-- The loss with this tile's share added. -/
def o26 (b : Blk F) (l : Vec F S8x128 .f32) := k0_pay12 b.mix b.x12 b.x13 b.x8 b.x9 l
/-- The norm weight's gradient with this tile's share added. -/
def o27 (b : Blk F) (w : Vec F S1x1024 .f32) := k0_pay14 b.unit b.diff per w

end Blk

variable (c : Dev nD) {i : grid0.Coords}
variable {a1 a2 a3 a4 a5 a6 a8 a15 a16 a17 a18 a19 a20 a21 a22 a23 a24 : Memref sig .tc .vmem S256x1024 .bf16}
  {a7 a9 a10 a25 : Memref sig .tc .vmem S256x1024 .f32}
  {a11 a12 a13 : Memref sig .tc .vmem S1024x1024 .bf16}
  {a14 a28 : Memref sig .tc .vmem S1x1024 .f32} {a26 : Memref sig .tc .vmem S1x16x256 .f32} {a27 : Memref sig .tc .vmem S8x128 .f32}
  {h1 : a1.IsWhole} {h2 : a2.IsWhole} {h3 : a3.IsWhole} {h4 : a4.IsWhole} {h5 : a5.IsWhole} {h6 : a6.IsWhole} {h7 : a7.IsWhole}
  {h8 : a8.IsWhole} {h9 : a9.IsWhole} {h10 : a10.IsWhole} {h11 : a11.IsWhole} {h12 : a12.IsWhole} {h13 : a13.IsWhole} {h14 : a14.IsWhole}
  {h15 : a15.IsWhole} {h16 : a16.IsWhole} {h17 : a17.IsWhole} {h18 : a18.IsWhole} {h19 : a19.IsWhole} {h20 : a20.IsWhole} {h21 : a21.IsWhole}
  {h22 : a22.IsWhole} {h23 : a23.IsWhole} {h24 : a24.IsWhole} {h25 : a25.IsWhole} {h26 : a26.IsWhole} {h27 : a27.IsWhole} {h28 : a28.IsWhole}

/-- The last stretch stores the heads' sums. -/
theorem finish (v : Vec F S1x16x256 .f32) (R : sProp 𝕄) :
    iprop((∃ d, owns (c : Thread nD τ) a26 fullShare d) ∗ (owns (c : Thread nD τ) a26 fullShare v -∗ R))
      ⊢ wp frame (wpE (defs₀ (F := F)) Variants.none c none) Set.univ
          (Prog.lift (.load a26 (Rect.unit (s := S1x16x256) ![0, 0, 0] ![1, 16, 256] inb_S1x16x256_S1x16x256_0_0_0).toLoadRect (View.loadsAt_vmem h_S1x16x256)))
          fun _ => wp frame (wpE (defs₀ (F := F)) Variants.none c none) Set.univ
          (Prog.lift (.store a26 (Rect.unit (s := S1x16x256) ![0, 0, 0] ![1, 16, 256] inb_S1x16x256_S1x16x256_0_0_0) v Finset.univ (View.stores_vmem_bits_univ h_S1x16x256 rfl) (.inl rfl)))
          fun _ => R := by
  unfold owns
  iintro ⟨⟨%d, %f, -, H⟩, Hk⟩
  sl_exec
  sl_step
  iapply Hk
  iapply left c; iexact H

set_option maxHeartbeats 400000 in
/-- At the first tile the sums start from nothing. -/
theorem body_first (b : Blk F) (hc0 : cond0_0 i) (Q : PUnit → sProp 𝕄) :
    iprop(owns (c : Thread nD τ) a1 fullShare b.x0 ∗ owns (c : Thread nD τ) a2 fullShare b.x1
        ∗ owns (c : Thread nD τ) a3 fullShare b.x2 ∗ owns (c : Thread nD τ) a4 fullShare b.x3
        ∗ owns (c : Thread nD τ) a5 fullShare b.x4 ∗ owns (c : Thread nD τ) a6 fullShare b.x5
        ∗ owns (c : Thread nD τ) a7 fullShare b.x6 ∗ owns (c : Thread nD τ) a8 fullShare b.x7
        ∗ owns (c : Thread nD τ) a9 fullShare b.x8 ∗ owns (c : Thread nD τ) a10 fullShare b.x9
        ∗ owns (c : Thread nD τ) a11 fullShare b.x10 ∗ owns (c : Thread nD τ) a12 fullShare b.x11
        ∗ owns (c : Thread nD τ) a13 fullShare b.x12 ∗ owns (c : Thread nD τ) a14 fullShare b.x13
        ∗ (∃ d, owns (c : Thread nD τ) a15 fullShare d) ∗ (∃ d, owns (c : Thread nD τ) a16 fullShare d)
        ∗ (∃ d, owns (c : Thread nD τ) a17 fullShare d) ∗ (∃ d, owns (c : Thread nD τ) a18 fullShare d)
        ∗ (∃ d, owns (c : Thread nD τ) a19 fullShare d) ∗ (∃ d, owns (c : Thread nD τ) a20 fullShare d)
        ∗ (∃ d, owns (c : Thread nD τ) a21 fullShare d) ∗ (∃ d, owns (c : Thread nD τ) a22 fullShare d)
        ∗ (∃ d, owns (c : Thread nD τ) a23 fullShare d) ∗ (∃ d, owns (c : Thread nD τ) a24 fullShare d)
        ∗ (∃ d, owns (c : Thread nD τ) a25 fullShare d) ∗ (∃ d, owns (c : Thread nD τ) a26 fullShare d)
        ∗ (∃ d, owns (c : Thread nD τ) a27 fullShare d) ∗ (∃ d, owns (c : Thread nD τ) a28 fullShare d)
        ∗ (iprop(owns (c : Thread nD τ) a1 fullShare b.x0 ∗ owns (c : Thread nD τ) a2 fullShare b.x1
        ∗ owns (c : Thread nD τ) a3 fullShare b.x2 ∗ owns (c : Thread nD τ) a4 fullShare b.x3
        ∗ owns (c : Thread nD τ) a5 fullShare b.x4 ∗ owns (c : Thread nD τ) a6 fullShare b.x5
        ∗ owns (c : Thread nD τ) a7 fullShare b.x6 ∗ owns (c : Thread nD τ) a8 fullShare b.x7
        ∗ owns (c : Thread nD τ) a9 fullShare b.x8 ∗ owns (c : Thread nD τ) a10 fullShare b.x9
        ∗ owns (c : Thread nD τ) a11 fullShare b.x10 ∗ owns (c : Thread nD τ) a12 fullShare b.x11
        ∗ owns (c : Thread nD τ) a13 fullShare b.x12 ∗ owns (c : Thread nD τ) a14 fullShare b.x13
        ∗ owns (c : Thread nD τ) a15 fullShare b.o14 ∗ owns (c : Thread nD τ) a16 fullShare b.o15
        ∗ owns (c : Thread nD τ) a17 fullShare b.o16 ∗ owns (c : Thread nD τ) a18 fullShare b.o17
        ∗ owns (c : Thread nD τ) a19 fullShare b.o18 ∗ owns (c : Thread nD τ) a20 fullShare b.o19
        ∗ owns (c : Thread nD τ) a21 fullShare b.o20 ∗ owns (c : Thread nD τ) a22 fullShare b.o21
        ∗ owns (c : Thread nD τ) a23 fullShare b.o22 ∗ owns (c : Thread nD τ) a24 fullShare b.mix
        ∗ owns (c : Thread nD τ) a25 fullShare b.o24 ∗ owns (c : Thread nD τ) a26 fullShare b.o25
        ∗ owns (c : Thread nD τ) a27 fullShare (b.o26 k0_pay1) ∗ owns (c : Thread nD τ) a28 fullShare (b.o27 k0_pay2))
          -∗ Q ⟨⟩))
      ⊢ wp frame (wpE (defs₀ (F := F)) Variants.none c none) Set.univ
          (cc0_merge_loss i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) Q := by
  simp only [cc0_merge_loss_eq_skeleton]; unfold cc0_merge_loss_skel
  rw [k0_part6_eq_skeleton]; unfold k0_part6_skel
  simp only [wp_bind, wp_pure]
  iintro ⟨H1, H2, H3, H4, H5, H6, H7, H8, H9, H10, H11, H12, H13, H14, H15, H16, H17, H18, H19, H20, H21, H22, H23, H24, H25, H26, H27, H28, Hk⟩
  iapply part1_first (hc0 := hc0)
  isplitl [H1]; · iexact H1
  isplitl [H2]; · iexact H2
  isplitl [H3]; · iexact H3
  isplitl [H11]; · iexact H11
  isplitl [H4]; · iexact H4
  isplitl [H12]; · iexact H12
  isplitl [H27]; · iexact H27
  isplitl [H28]; · iexact H28
  iintro ⟨H1, H2, H3, H11, H4, H12, H27, H28⟩
  simp only []
  iapply part2
  isplitl [H9]; · iexact H9
  isplitl [H10]; · iexact H10
  isplitl [H13]; · iexact H13
  isplitl [H14]; · iexact H14
  isplitl [H27]; · iexact H27
  isplitl [H24]; · iexact H24
  iintro ⟨H9, H10, H13, H14, H27, H24⟩
  simp only []
  iapply part3
  isplitl [H13]; · iexact H13
  isplitl [H28]; · iexact H28
  isplitl [H25]; · iexact H25
  isplitl [H15]; · iexact H15
  isplitl [H16]; · iexact H16
  isplitl [H17]; · iexact H17
  iintro ⟨H13, H28, H25, H15, H16, H17⟩
  simp only []
  iapply part4
  isplitl [H7]; · iexact H7
  isplitl [H11]; · iexact H11
  isplitl [H5]; · iexact H5
  isplitl [H18]; · iexact H18
  isplitl [H19]; · iexact H19
  isplitl [H21]; · iexact H21
  iintro ⟨H7, H11, H5, H18, H19, H21⟩
  simp only []
  iapply part5
  isplitl [H8]; · iexact H8
  isplitl [H12]; · iexact H12
  isplitl [H6]; · iexact H6
  isplitl [H20]; · iexact H20
  isplitl [H22]; · iexact H22
  isplitl [H23]; · iexact H23
  iintro ⟨H8, H12, H6, H20, H22, H23⟩
  simp only []
  iapply finish
  isplitl [H26]; · iexact H26
  iintro H26
  imodintro; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

set_option maxHeartbeats 400000 in
/-- At every other tile the sums go on from what is there. -/
theorem body_next (b : Blk F) (hc0 : ¬ cond0_0 i) (l : Vec F S8x128 .f32) (w : Vec F S1x1024 .f32) (Q : PUnit → sProp 𝕄) :
    iprop(owns (c : Thread nD τ) a1 fullShare b.x0 ∗ owns (c : Thread nD τ) a2 fullShare b.x1
        ∗ owns (c : Thread nD τ) a3 fullShare b.x2 ∗ owns (c : Thread nD τ) a4 fullShare b.x3
        ∗ owns (c : Thread nD τ) a5 fullShare b.x4 ∗ owns (c : Thread nD τ) a6 fullShare b.x5
        ∗ owns (c : Thread nD τ) a7 fullShare b.x6 ∗ owns (c : Thread nD τ) a8 fullShare b.x7
        ∗ owns (c : Thread nD τ) a9 fullShare b.x8 ∗ owns (c : Thread nD τ) a10 fullShare b.x9
        ∗ owns (c : Thread nD τ) a11 fullShare b.x10 ∗ owns (c : Thread nD τ) a12 fullShare b.x11
        ∗ owns (c : Thread nD τ) a13 fullShare b.x12 ∗ owns (c : Thread nD τ) a14 fullShare b.x13
        ∗ (∃ d, owns (c : Thread nD τ) a15 fullShare d) ∗ (∃ d, owns (c : Thread nD τ) a16 fullShare d)
        ∗ (∃ d, owns (c : Thread nD τ) a17 fullShare d) ∗ (∃ d, owns (c : Thread nD τ) a18 fullShare d)
        ∗ (∃ d, owns (c : Thread nD τ) a19 fullShare d) ∗ (∃ d, owns (c : Thread nD τ) a20 fullShare d)
        ∗ (∃ d, owns (c : Thread nD τ) a21 fullShare d) ∗ (∃ d, owns (c : Thread nD τ) a22 fullShare d)
        ∗ (∃ d, owns (c : Thread nD τ) a23 fullShare d) ∗ (∃ d, owns (c : Thread nD τ) a24 fullShare d)
        ∗ (∃ d, owns (c : Thread nD τ) a25 fullShare d) ∗ (∃ d, owns (c : Thread nD τ) a26 fullShare d)
        ∗ owns (c : Thread nD τ) a27 fullShare l ∗ owns (c : Thread nD τ) a28 fullShare w
        ∗ (iprop(owns (c : Thread nD τ) a1 fullShare b.x0 ∗ owns (c : Thread nD τ) a2 fullShare b.x1
        ∗ owns (c : Thread nD τ) a3 fullShare b.x2 ∗ owns (c : Thread nD τ) a4 fullShare b.x3
        ∗ owns (c : Thread nD τ) a5 fullShare b.x4 ∗ owns (c : Thread nD τ) a6 fullShare b.x5
        ∗ owns (c : Thread nD τ) a7 fullShare b.x6 ∗ owns (c : Thread nD τ) a8 fullShare b.x7
        ∗ owns (c : Thread nD τ) a9 fullShare b.x8 ∗ owns (c : Thread nD τ) a10 fullShare b.x9
        ∗ owns (c : Thread nD τ) a11 fullShare b.x10 ∗ owns (c : Thread nD τ) a12 fullShare b.x11
        ∗ owns (c : Thread nD τ) a13 fullShare b.x12 ∗ owns (c : Thread nD τ) a14 fullShare b.x13
        ∗ owns (c : Thread nD τ) a15 fullShare b.o14 ∗ owns (c : Thread nD τ) a16 fullShare b.o15
        ∗ owns (c : Thread nD τ) a17 fullShare b.o16 ∗ owns (c : Thread nD τ) a18 fullShare b.o17
        ∗ owns (c : Thread nD τ) a19 fullShare b.o18 ∗ owns (c : Thread nD τ) a20 fullShare b.o19
        ∗ owns (c : Thread nD τ) a21 fullShare b.o20 ∗ owns (c : Thread nD τ) a22 fullShare b.o21
        ∗ owns (c : Thread nD τ) a23 fullShare b.o22 ∗ owns (c : Thread nD τ) a24 fullShare b.mix
        ∗ owns (c : Thread nD τ) a25 fullShare b.o24 ∗ owns (c : Thread nD τ) a26 fullShare b.o25
        ∗ owns (c : Thread nD τ) a27 fullShare (b.o26 l) ∗ owns (c : Thread nD τ) a28 fullShare (b.o27 w))
          -∗ Q ⟨⟩))
      ⊢ wp frame (wpE (defs₀ (F := F)) Variants.none c none) Set.univ
          (cc0_merge_loss i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28) Q := by
  simp only [cc0_merge_loss_eq_skeleton]; unfold cc0_merge_loss_skel
  rw [k0_part6_eq_skeleton]; unfold k0_part6_skel
  simp only [wp_bind, wp_pure]
  iintro ⟨H1, H2, H3, H4, H5, H6, H7, H8, H9, H10, H11, H12, H13, H14, H15, H16, H17, H18, H19, H20, H21, H22, H23, H24, H25, H26, H27, H28, Hk⟩
  iapply part1_next (hc0 := hc0)
  isplitl [H1]; · iexact H1
  isplitl [H2]; · iexact H2
  isplitl [H3]; · iexact H3
  isplitl [H11]; · iexact H11
  isplitl [H4]; · iexact H4
  isplitl [H12]; · iexact H12
  iintro ⟨H1, H2, H3, H11, H4, H12⟩
  simp only []
  iapply part2
  isplitl [H9]; · iexact H9
  isplitl [H10]; · iexact H10
  isplitl [H13]; · iexact H13
  isplitl [H14]; · iexact H14
  isplitl [H27]; · iexact H27
  isplitl [H24]; · iexact H24
  iintro ⟨H9, H10, H13, H14, H27, H24⟩
  simp only []
  iapply part3
  isplitl [H13]; · iexact H13
  isplitl [H28]; · iexact H28
  isplitl [H25]; · iexact H25
  isplitl [H15]; · iexact H15
  isplitl [H16]; · iexact H16
  isplitl [H17]; · iexact H17
  iintro ⟨H13, H28, H25, H15, H16, H17⟩
  simp only []
  iapply part4
  isplitl [H7]; · iexact H7
  isplitl [H11]; · iexact H11
  isplitl [H5]; · iexact H5
  isplitl [H18]; · iexact H18
  isplitl [H19]; · iexact H19
  isplitl [H21]; · iexact H21
  iintro ⟨H7, H11, H5, H18, H19, H21⟩
  simp only []
  iapply part5
  isplitl [H8]; · iexact H8
  isplitl [H12]; · iexact H12
  isplitl [H6]; · iexact H6
  isplitl [H20]; · iexact H20
  isplitl [H22]; · iexact H22
  isplitl [H23]; · iexact H23
  iintro ⟨H8, H12, H6, H20, H22, H23⟩
  simp only []
  iapply finish
  isplitl [H26]; · iexact H26
  iintro H26
  imodintro; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

end Cert.Kernel2Ideal.Parts

end
-- ==== Proof.MergeFrame.lean ====
module

public import proofs.«01_k».proof.Proof.MergeBody
public import Idealize.ShloMosaic.Lib.Claim

/-! The merge gate's pipeline: what every window holds at every tile, and the run of the whole program. -/

@[expose] public section

set_option maxRecDepth 16384

noncomputable section

namespace Cert.Kernel2Ideal.Merge

open Cert.Kernel2Ideal Cert.Kernel2Ideal.Gen Cert.Kernel2Ideal.Parts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that tile `t` reads. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The loss summed up to tile `n`. -/
def lossAt (c : Dev nD) : (n : ℕ) → n < cfg0.N → Vec F S8x128 .f32
  | 0, h => (blk m c ⟨0, h⟩).o26 k0_pay1
  | n + 1, h => (blk m c ⟨n + 1, h⟩).o26 (lossAt c n (Nat.lt_of_succ_lt h))

/-- The norm weight's gradient summed up to tile `n`. -/
def normAt (c : Dev nD) : (n : ℕ) → n < cfg0.N → Vec F S1x1024 .f32
  | 0, h => (blk m c ⟨0, h⟩).o27 k0_pay2
  | n + 1, h => (blk m c ⟨n + 1, h⟩).o27 (normAt c n (Nat.lt_of_succ_lt h))

/-- The proof data: the arrays as the host leaves them; after every tile the inputs' blocks as they were, the tile's own outputs,
    and the two sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (blk m c t).o14
    | ⟨15, _⟩ => (blk m c t).o15
    | ⟨16, _⟩ => (blk m c t).o16
    | ⟨17, _⟩ => (blk m c t).o17
    | ⟨18, _⟩ => (blk m c t).o18
    | ⟨19, _⟩ => (blk m c t).o19
    | ⟨20, _⟩ => (blk m c t).o20
    | ⟨21, _⟩ => (blk m c t).o21
    | ⟨22, _⟩ => (blk m c t).o22
    | ⟨23, _⟩ => (blk m c t).mix
    | ⟨24, _⟩ => (blk m c t).o24
    | ⟨25, _⟩ => (blk m c t).o25
    | ⟨26, _⟩ => lossAt m c t.val t.isLt
    | ⟨27, _⟩ => normAt m c t.val t.isLt
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (blk m c t).o14 := by dsimp only [dats]
theorem after_15 (c : Dev nD) (t : Fin cfg0.N) : (dats m 0 c).after 15 t = (blk m c t).o15 := by dsimp only [dats]
theorem after_16 (c : Dev nD) (t : Fin cfg0.N) : (dats m 0 c).after 16 t = (blk m c t).o16 := by dsimp only [dats]
theorem after_17 (c : Dev nD) (t : Fin cfg0.N) : (dats m 0 c).after 17 t = (blk m c t).o17 := by dsimp only [dats]
theorem after_18 (c : Dev nD) (t : Fin cfg0.N) : (dats m 0 c).after 18 t = (blk m c t).o18 := by dsimp only [dats]
theorem after_19 (c : Dev nD) (t : Fin cfg0.N) : (dats m 0 c).after 19 t = (blk m c t).o19 := by dsimp only [dats]
theorem after_20 (c : Dev nD) (t : Fin cfg0.N) : (dats m 0 c).after 20 t = (blk m c t).o20 := by dsimp only [dats]
theorem after_21 (c : Dev nD) (t : Fin cfg0.N) : (dats m 0 c).after 21 t = (blk m c t).o21 := by dsimp only [dats]
theorem after_22 (c : Dev nD) (t : Fin cfg0.N) : (dats m 0 c).after 22 t = (blk m c t).o22 := by dsimp only [dats]
theorem after_23 (c : Dev nD) (t : Fin cfg0.N) : (dats m 0 c).after 23 t = (blk m c t).mix := by dsimp only [dats]
theorem after_24 (c : Dev nD) (t : Fin cfg0.N) : (dats m 0 c).after 24 t = (blk m c t).o24 := by dsimp only [dats]
theorem after_25 (c : Dev nD) (t : Fin cfg0.N) : (dats m 0 c).after 25 t = (blk m c t).o25 := by dsimp only [dats]
theorem after_26 (c : Dev nD) (t : Fin cfg0.N) : (dats m 0 c).after 26 t = lossAt m c t.val t.isLt := by dsimp only [dats]
theorem after_27 (c : Dev nD) (t : Fin cfg0.N) : (dats m 0 c).after 27 t = normAt m c t.val t.isLt := by dsimp only [dats]

theorem before_0 (c : Dev nD) (t : Fin cfg0.N) (d) : (dats m 0 c).before 0 t d = (blk m c t).x0 :=
  before0_0_of m (dats m 0 c) (A_eq m c 0) (after_0 m c) t d
theorem before_1 (c : Dev nD) (t : Fin cfg0.N) (d) : (dats m 0 c).before 1 t d = (blk m c t).x1 :=
  before0_1_of m (dats m 0 c) (A_eq m c 1) (after_1 m c) t d
theorem before_2 (c : Dev nD) (t : Fin cfg0.N) (d) : (dats m 0 c).before 2 t d = (blk m c t).x2 :=
  before0_2_of m (dats m 0 c) (A_eq m c 2) (after_2 m c) t d
theorem before_3 (c : Dev nD) (t : Fin cfg0.N) (d) : (dats m 0 c).before 3 t d = (blk m c t).x3 :=
  before0_3_of m (dats m 0 c) (A_eq m c 3) (after_3 m c) t d
theorem before_4 (c : Dev nD) (t : Fin cfg0.N) (d) : (dats m 0 c).before 4 t d = (blk m c t).x4 :=
  before0_4_of m (dats m 0 c) (A_eq m c 4) (after_4 m c) t d
theorem before_5 (c : Dev nD) (t : Fin cfg0.N) (d) : (dats m 0 c).before 5 t d = (blk m c t).x5 :=
  before0_5_of m (dats m 0 c) (A_eq m c 5) (after_5 m c) t d
theorem before_6 (c : Dev nD) (t : Fin cfg0.N) (d) : (dats m 0 c).before 6 t d = (blk m c t).x6 :=
  before0_6_of m (dats m 0 c) (A_eq m c 6) (after_6 m c) t d
theorem before_7 (c : Dev nD) (t : Fin cfg0.N) (d) : (dats m 0 c).before 7 t d = (blk m c t).x7 :=
  before0_7_of m (dats m 0 c) (A_eq m c 7) (after_7 m c) t d
theorem before_8 (c : Dev nD) (t : Fin cfg0.N) (d) : (dats m 0 c).before 8 t d = (blk m c t).x8 :=
  before0_8_of m (dats m 0 c) (A_eq m c 8) (after_8 m c) t d
theorem before_9 (c : Dev nD) (t : Fin cfg0.N) (d) : (dats m 0 c).before 9 t d = (blk m c t).x9 :=
  before0_9_of m (dats m 0 c) (A_eq m c 9) (after_9 m c) t d
theorem before_10 (c : Dev nD) (t : Fin cfg0.N) (d) : (dats m 0 c).before 10 t d = (blk m c t).x10 :=
  before0_10_of m (dats m 0 c) (A_eq m c 10) (after_10 m c) t d
theorem before_11 (c : Dev nD) (t : Fin cfg0.N) (d) : (dats m 0 c).before 11 t d = (blk m c t).x11 :=
  before0_11_of m (dats m 0 c) (A_eq m c 11) (after_11 m c) t d
theorem before_12 (c : Dev nD) (t : Fin cfg0.N) (d) : (dats m 0 c).before 12 t d = (blk m c t).x12 :=
  before0_12_of m (dats m 0 c) (A_eq m c 12) (after_12 m c) t d
theorem before_13 (c : Dev nD) (t : Fin cfg0.N) (d) : (dats m 0 c).before 13 t d = (blk m c t).x13 :=
  before0_13_of m (dats m 0 c) (A_eq m c 13) (after_13 m c) t d

/-- After the first tile the sum's buffer holds the sum so far. -/
theorem before_26 (c : Dev nD) (n : ℕ) (h : n + 1 < cfg0.N) (d) :
    (dats m 0 c).before 26 ⟨n + 1, h⟩ d = lossAt m c n (Nat.lt_of_succ_lt h) := by
  have hN : n + 1 < 32 := lt_of_lt_of_eq h (show cfg0.N = 32 from N_0)
  rw [Dat.before_out_kept _ 26 rfl ⟨n + 1, h⟩ (Nat.succ_ne_zero n) (Bool.eq_false_iff.mpr fun h' => by
    have := (flush0_26 _).mp h'; dsimp only at this; omega) (fun _ => rfl) (fun _ _ => rfl)]
  dsimp only [dats]
  rfl

/-- After the first tile the sum's buffer holds the sum so far. -/
theorem before_27 (c : Dev nD) (n : ℕ) (h : n + 1 < cfg0.N) (d) :
    (dats m 0 c).before 27 ⟨n + 1, h⟩ d = normAt m c n (Nat.lt_of_succ_lt h) := by
  have hN : n + 1 < 32 := lt_of_lt_of_eq h (show cfg0.N = 32 from N_0)
  rw [Dat.before_out_kept _ 27 rfl ⟨n + 1, h⟩ (Nat.succ_ne_zero n) (Bool.eq_false_iff.mpr fun h' => by
    have := (flush0_27 _).mp h'; dsimp only at this; omega) (fun _ => rfl) (fun _ _ => rfl)]
  dsimp only [dats]
  rfl

/-- What the body is called with at tile `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 2000000 in
/-- The body at any tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27]
  obtain ⟨n, hn⟩ := t
  have hN : n < 32 := lt_of_lt_of_eq hn (show cfg0.N = 32 from N_0)
  cases n with
  | zero =>
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply body_first c (blk m c ⟨0, hn⟩) ((hcond0_0 ⟨0, hn⟩).mpr rfl)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iintro ⟨H0, H1, H2, H3, H4, H5, H6, H7, H8, H9, H10, H11, H12, H13, H14, H15, H16, H17, H18, H19, H20, H21, H22, H23, H24, H25, H26, H27⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  | succ n =>
    have h0 : ¬ cond0_0 (grid0.coords ⟨n + 1, hn⟩) := fun h => by
      have := (hcond0_0 ⟨n + 1, hn⟩).mp h; dsimp only at this; omega
    simp only [before_26, before_27]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
    iapply body_next c (blk m c ⟨n + 1, hn⟩) h0 (lossAt m c n (Nat.lt_of_succ_lt hn)) (normAt m c n (Nat.lt_of_succ_lt hn))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexact H26
    isplitl [H27]; · iexact H27
    iintro ⟨H0, H1, H2, H3, H4, H5, H6, H7, H8, H9, H10, H11, H12, H13, H14, H15, H16, H17, H18, H19, H20, H21, H22, H23, H24, H25, H26, H27⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to an end, with every array as the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ)) ((θ_run defs _ _).mono (fun _ h => h.2) (run_main_quiescent m ρ))

/-- Every output array ends as the pipeline's write-backs make it, and the arguments unchanged. -/
theorem run : θ_run defs (onTc (τ := τ) (main (F := F))) ⟨m, fun _ => 0, ρ⟩ (fun r => ∀ c : Dev nD,
      r.2.mem ((c : Thread nD τ).loc main_v14_0) = (dats m 0 c).arrAt 14 cfg0.N
      ∧ r.2.mem ((c : Thread nD τ).loc main_v14_1) = (dats m 0 c).arrAt 15 cfg0.N
      ∧ r.2.mem ((c : Thread nD τ).loc main_v14_2) = (dats m 0 c).arrAt 16 cfg0.N
      ∧ r.2.mem ((c : Thread nD τ).loc main_v14_3) = (dats m 0 c).arrAt 17 cfg0.N
      ∧ r.2.mem ((c : Thread nD τ).loc main_v14_4) = (dats m 0 c).arrAt 18 cfg0.N
      ∧ r.2.mem ((c : Thread nD τ).loc main_v14_5) = (dats m 0 c).arrAt 19 cfg0.N
      ∧ r.2.mem ((c : Thread nD τ).loc main_v14_6) = (dats m 0 c).arrAt 20 cfg0.N
      ∧ r.2.mem ((c : Thread nD τ).loc main_v14_7) = (dats m 0 c).arrAt 21 cfg0.N
      ∧ r.2.mem ((c : Thread nD τ).loc main_v14_8) = (dats m 0 c).arrAt 22 cfg0.N
      ∧ r.2.mem ((c : Thread nD τ).loc main_v14_9) = (dats m 0 c).arrAt 23 cfg0.N
      ∧ r.2.mem ((c : Thread nD τ).loc main_v14_10) = (dats m 0 c).arrAt 24 cfg0.N
      ∧ r.2.mem ((c : Thread nD τ).loc main_v14_11) = (dats m 0 c).arrAt 25 cfg0.N
      ∧ r.2.mem ((c : Thread nD τ).loc main_v14_12) = (dats m 0 c).arrAt 26 cfg0.N
      ∧ r.2.mem ((c : Thread nD τ).loc main_v14_13) = (dats m 0 c).arrAt 27 cfg0.N) :=
  (θ_run defs _ _).mono (fun r h c => ⟨(h c).1 14, (h c).1 15, (h c).1 16, (h c).1 17, (h c).1 18, (h c).1 19, (h c).1 20, (h c).1 21, (h c).1 22, (h c).1 23, (h c).1 24, (h c).1 25, (h c).1 26, (h c).1 27⟩) (run_main m ρ)

end Cert.Kernel2Ideal.Merge

end
-- ==== Proof.MergeReal.lean ====
module

public import proofs.«01_k».proof.Proof.RealLift

/-! One row of the merge gate, in real numbers: two gated branches, their projections, the gated mix, the output projection, the
norm and the loss, and what each step's cotangent is. -/

@[expose] public section

noncomputable section

namespace Cert.Merge

open Idealize.ShloMosaic Cert.RealLift

/-- The logistic function. -/
def sg (u : ℝ) : ℝ := (1 + Real.exp (-u))⁻¹

/-- The logistic function by a hyperbolic tangent. -/
theorem tanh_sg (u : ℝ) : 1 / 2 * Real.tanh (1 / 2 * u) + 1 / 2 = sg u := by
  have ha := Real.exp_pos (1 / 2 * u)
  have hb := Real.exp_pos (-(1 / 2 * u))
  have hab : Real.exp (1 / 2 * u) * Real.exp (-(1 / 2 * u)) = 1 := by rw [← Real.exp_add]; simp
  have hu : Real.exp (-u) = Real.exp (-(1 / 2 * u)) * Real.exp (-(1 / 2 * u)) := by rw [← Real.exp_add]; congr 1; ring
  unfold sg
  rw [Real.tanh_eq_sinh_div_cosh, Real.sinh_eq, Real.cosh_eq, hu]
  set a := Real.exp (1 / 2 * u)
  set b := Real.exp (-(1 / 2 * u))
  have h1 : a + b ≠ 0 := by positivity
  have h2 : 1 + b * b ≠ 0 := by positivity
  field_simp
  nlinarith [hab]

/-- The logistic function by a quotient, on a real number. -/
theorem div_sg (u : ℝ) : Ideal.div 1 (1 + Ideal.exp (-(u : EReal))) = ((sg u : ℝ) : EReal) := by
  have h : (1 : ℝ) + Real.exp (-u) ≠ 0 := by have := Real.exp_pos (-u); positivity
  rw [← EReal.coe_one, coe_neg, Ideal.exp_coe, coe_add, coe_div _ _ h, one_div]
  rfl

theorem word_mean : Ideal.ofBits .f32 0x3A800000#32 = ((1 / 1024 : ℝ) : EReal) := by
  simp [Ideal.ofBits, Ideal.ieee]; rw [← EReal.coe_mul]; norm_num

/-- What one row reads: the two mixing gates' logits, the two branches' own gates' logits, the branches, the residual, the target. -/
structure Row where
  (ma mr ga gr y h x t : Fin 1024 → ℝ)

/-- The three projections and the norm's weight. -/
structure Wts where
  (wa wr wo : Fin 1024 → Fin 1024 → ℝ)
  g : Fin 1024 → ℝ

variable (w : Wts) (q : Row)

def pa (k : Fin 1024) : ℝ := q.y k * (q.ga k * sg (q.ga k))
def pr (k : Fin 1024) : ℝ := q.h k * (q.gr k * sg (q.gr k))
def ya (j : Fin 1024) : ℝ := ∑ k, pa q k * w.wa k j
def yr (j : Fin 1024) : ℝ := ∑ k, pr q k * w.wr k j
/-- The mix. -/
def mix (j : Fin 1024) : ℝ := sg (q.ma j) * ya w q j + sg (q.mr j) * yr w q j
/-- The projected mix. -/
def ov (j : Fin 1024) : ℝ := ∑ k, mix w q k * w.wo k j
/-- The projected mix, normed. -/
def oh (j : Fin 1024) : ℝ := ov w q j * inv (ov w q)
/-- The error. -/
def er (j : Fin 1024) : ℝ := q.x j + oh w q j * w.g j - q.t j
/-- The loss of the row. -/
def ls : ℝ := (∑ k, er w q k * er w q k) / 1024
/-- The cotangent of the residual. -/
def dy (j : Fin 1024) : ℝ := er w q j * (1 / 1024)
/-- The cotangent of the projected mix. -/
def dO (j : Fin 1024) : ℝ := inv (ov w q) * (dy w q j * w.g j - oh w q j * ((∑ k, dy w q k * w.g k * oh w q k) / 1024))
/-- The cotangent of the mix. -/
def dm (j : Fin 1024) : ℝ := ∑ k, dO w q k * w.wo j k
def dya (j : Fin 1024) : ℝ := dm w q j * sg (q.ma j)
def dyr (j : Fin 1024) : ℝ := dm w q j * sg (q.mr j)
def dma (j : Fin 1024) : ℝ := dm w q j * ya w q j * sg (q.ma j) * (1 - sg (q.ma j))
def dmr (j : Fin 1024) : ℝ := dm w q j * yr w q j * sg (q.mr j) * (1 - sg (q.mr j))
def dpa (j : Fin 1024) : ℝ := ∑ k, dya w q k * w.wa j k
def dpr (j : Fin 1024) : ℝ := ∑ k, dyr w q k * w.wr j k
def doa (j : Fin 1024) : ℝ := dpa w q j * (q.ga j * sg (q.ga j))
def dga (j : Fin 1024) : ℝ := dpa w q j * q.y j * (sg (q.ga j) * (1 + q.ga j * (1 - sg (q.ga j))))
def dh (j : Fin 1024) : ℝ := dpr w q j * (q.gr j * sg (q.gr j))
def dgr (j : Fin 1024) : ℝ := dpr w q j * q.h j * (sg (q.gr j) * (1 + q.gr j * (1 - sg (q.gr j))))
/-- A head's sum of the branch times its cotangent. -/
def hd (n : Fin 16) : ℝ := ∑ k : Fin 64, doa w q ⟨n.val * 64 + k.val, by omega⟩ * q.y ⟨n.val * 64 + k.val, by omega⟩
/-- A head's sum in row `r` of block `b` of 256 rows. -/
def hds (q : Fin 8192 → Row) (b : Fin 32) (n : Fin 16) (r : Fin 256) : ℝ := hd w (q ⟨b.val * 256 + r.val, by omega⟩) n

end Cert.Merge

end
-- ==== Proof.MergeTile.lean ====
module

public import proofs.«01_k».proof.Proof.MergeBody
public import proofs.«01_k».proof.Proof.MergeReal

/-! The merge gate's stored values at one element of a tile whose blocks hold real numbers. -/

@[expose] public section

set_option maxRecDepth 16384

noncomputable section

open Idealize.ShloMosaic Idealize.ShloMosaic.TcCoe Idealize.SL.Sem

namespace Cert.Merge

open Cert.Kernel2Ideal Cert.Kernel2Ideal.Gen Cert.Kernel2Ideal.Parts Cert.RealLift

/-- The blocks hold these rows and these weights. -/
structure Reads (b : Blk Ideal) (w : Wts) (q : Fin 256 → Row) : Prop where
  x0 : ∀ r k, b.x0 (ix2 r k) = (((q r).ma k : ℝ) : EReal)
  x1 : ∀ r k, b.x1 (ix2 r k) = (((q r).mr k : ℝ) : EReal)
  x2 : ∀ r k, b.x2 (ix2 r k) = ((pa (q r) k : ℝ) : EReal)
  x3 : ∀ r k, b.x3 (ix2 r k) = ((pr (q r) k : ℝ) : EReal)
  x4 : ∀ r k, b.x4 (ix2 r k) = (((q r).ga k : ℝ) : EReal)
  x5 : ∀ r k, b.x5 (ix2 r k) = (((q r).gr k : ℝ) : EReal)
  x6 : ∀ r k, b.x6 (ix2 r k) = (((q r).y k : ℝ) : EReal)
  x7 : ∀ r k, b.x7 (ix2 r k) = (((q r).h k : ℝ) : EReal)
  x8 : ∀ r k, b.x8 (ix2 r k) = (((q r).x k : ℝ) : EReal)
  x9 : ∀ r k, b.x9 (ix2 r k) = (((q r).t k : ℝ) : EReal)
  x10 : ∀ k j, b.x10 (ix2 k j) = ((w.wa k j : ℝ) : EReal)
  x11 : ∀ k j, b.x11 (ix2 k j) = ((w.wr k j : ℝ) : EReal)
  x12 : ∀ k j, b.x12 (ix2 k j) = ((w.wo k j : ℝ) : EReal)
  x13 : ∀ k, b.x13 (ix2 0 k) = ((w.g k : ℝ) : EReal)

theorem gate_at (X : FVec Ideal S256x1024 .bf16) (x : Fin 256 → Fin 1024 → ℝ) (h : ∀ r k, X (ix2 r k) = ((x r k : ℝ) : EReal)) (r : Fin 256) (k : Fin 1024) :
    k0_pay3 (F := Ideal) X (ix2 r k) = ((sg (x r k) : ℝ) : EReal) := by
  pointwise [k0_pay3]
  simp only [h, word_half, coe_mul, Ideal.tanh_coe, coe_add, tanh_sg]

variable {b : Blk Ideal} {w : Wts} {q : Fin 256 → Row} (H : Reads b w q)
include H

theorem sa_at (r : Fin 256) (k : Fin 1024) : k0_pay3 (F := Ideal) b.x0 (ix2 r k) = ((sg ((q r).ma k) : ℝ) : EReal) := gate_at _ _ H.x0 r k
theorem sr_at (r : Fin 256) (k : Fin 1024) : k0_pay4 (F := Ideal) b.x1 (ix2 r k) = ((sg ((q r).mr k) : ℝ) : EReal) := gate_at _ _ H.x1 r k
theorem sga_at (r : Fin 256) (k : Fin 1024) : k0_pay25 (F := Ideal) b.x4 (ix2 r k) = ((sg ((q r).ga k) : ℝ) : EReal) := gate_at _ _ H.x4 r k
theorem sgr_at (r : Fin 256) (k : Fin 1024) : k0_pay30 (F := Ideal) b.x5 (ix2 r k) = ((sg ((q r).gr k) : ℝ) : EReal) := gate_at _ _ H.x5 r k

theorem ya_at (r : Fin 256) (j : Fin 1024) : k0_pay5 (F := Ideal) b.x2 b.x10 (ix2 r j) = ((ya w (q r) j : ℝ) : EReal) := by
  pointwise [k0_pay5]
  simp only [H.x2, H.x10, coe_mul, coe_sum]
  rfl

theorem yr_at (r : Fin 256) (j : Fin 1024) : k0_pay6 (F := Ideal) b.x3 b.x11 (ix2 r j) = ((yr w (q r) j : ℝ) : EReal) := by
  pointwise [k0_pay6]
  simp only [H.x3, H.x11, coe_mul, coe_sum]
  rfl

theorem mix_at (r : Fin 256) (j : Fin 1024) : b.mix (ix2 r j) = ((mix w (q r) j : ℝ) : EReal) := by
  pointwise [Blk.mix, k0_pay7]
  simp only [sa_at H, sr_at H, ya_at H, yr_at H, coe_mul, coe_add]
  rfl

theorem ov_at (r : Fin 256) (j : Fin 1024) : k0_pay8 (F := Ideal) b.mix b.x12 (ix2 r j) = ((ov w (q r) j : ℝ) : EReal) := by
  pointwise [k0_pay8]
  simp only [mix_at H, H.x12, coe_mul, coe_sum]
  rfl

theorem inv_at (r : Fin 256) : b.inv (ix2 r 0) = ((inv (ov w (q r)) : ℝ) : EReal) := by
  pointwise [Blk.inv, k0_pay9]
  simp only [ov_at H, word_1024, word_eps, coe_mul, coe_sum, coe_div _ _ (show (1024 : ℝ) ≠ 0 by norm_num), coe_add, rsqrt_row]

theorem oh_at (r : Fin 256) (j : Fin 1024) : b.unit (ix2 r j) = ((oh w (q r) j : ℝ) : EReal) := by
  have e := inv_at H
  unfold Blk.inv at e
  pointwise [Blk.unit, k0_pay10]
  simp only [ov_at H, e, coe_mul]
  rfl

theorem er_at (r : Fin 256) (j : Fin 1024) : b.diff (ix2 r j) = ((er w (q r) j : ℝ) : EReal) := by
  have e := oh_at H
  unfold Blk.unit at e
  pointwise [Blk.diff, k0_pay11]
  simp only [e, H.x8, H.x9, H.x13, coe_mul, coe_add, coe_sub]
  rfl

omit H in
theorem per_eq : (Blk.per : Ideal .f32) = ((1 / 1024 : ℝ) : EReal) := word_mean

theorem dy_at (r : Fin 256) (j : Fin 1024) : b.o24 (ix2 r j) = ((dy w (q r) j : ℝ) : EReal) := by
  pointwise [Blk.o24, k0_pay13]
  simp only [er_at H, per_eq, coe_mul]
  rfl

theorem dO_at (r : Fin 256) (j : Fin 1024) : b.o14 (ix2 r j) = ((dO w (q r) j : ℝ) : EReal) := by
  have e := dy_at H
  unfold Blk.o24 at e
  pointwise [Blk.o14, k0_pay15]
  simp only [e, oh_at H, inv_at H, H.x13, word_1024, coe_mul, coe_sum, coe_div _ _ (show (1024 : ℝ) ≠ 0 by norm_num), coe_sub]
  rfl

theorem dm_at (r : Fin 256) (j : Fin 1024) : b.dmix (ix2 r j) = ((dm w (q r) j : ℝ) : EReal) := by
  have e := dO_at H
  unfold Blk.o14 at e
  pointwise [Blk.dmix, k0_pay16]
  simp only [e, H.x12, coe_mul, coe_sum]
  rfl

theorem dya_at (r : Fin 256) (j : Fin 1024) : b.o15 (ix2 r j) = ((dya w (q r) j : ℝ) : EReal) := by
  have e := dm_at H
  unfold Blk.dmix at e
  pointwise [Blk.o15, k0_pay17]
  simp only [e, sa_at H, coe_mul]
  rfl

theorem dyr_at (r : Fin 256) (j : Fin 1024) : b.o16 (ix2 r j) = ((dyr w (q r) j : ℝ) : EReal) := by
  have e := dm_at H
  unfold Blk.dmix at e
  pointwise [Blk.o16, k0_pay18]
  simp only [e, sr_at H, coe_mul]
  rfl

theorem dma_at (r : Fin 256) (j : Fin 1024) : b.o17 (ix2 r j) = ((dma w (q r) j : ℝ) : EReal) := by
  have e := dm_at H
  unfold Blk.dmix at e
  pointwise [Blk.o17, k0_pay21, k0_pay19, k0_pay20]
  simp only [e, sa_at H, ya_at H, word_one, coe_mul, coe_sub]
  rfl

theorem dmr_at (r : Fin 256) (j : Fin 1024) : b.o18 (ix2 r j) = ((dmr w (q r) j : ℝ) : EReal) := by
  pointwise [Blk.o18, k0_pay22]
  simp only [dm_at H, sr_at H, yr_at H, word_one, coe_mul, coe_sub]
  rfl

theorem dpa_at (r : Fin 256) (j : Fin 1024) : k0_pay23 (F := Ideal) b.o15 b.x10 (ix2 r j) = ((dpa w (q r) j : ℝ) : EReal) := by
  pointwise [k0_pay23]
  simp only [dya_at H, H.x10, coe_mul, coe_sum]
  rfl

theorem dpr_at (r : Fin 256) (j : Fin 1024) : k0_pay28 (F := Ideal) b.o16 b.x11 (ix2 r j) = ((dpr w (q r) j : ℝ) : EReal) := by
  pointwise [k0_pay28]
  simp only [dyr_at H, H.x11, coe_mul, coe_sum]
  rfl

theorem doa_at (r : Fin 256) (j : Fin 1024) : b.o19 (ix2 r j) = ((doa w (q r) j : ℝ) : EReal) := by
  pointwise [Blk.o19, k0_pay26, k0_pay24]
  simp only [dpa_at H, sga_at H, H.x4, coe_mul]
  rfl

theorem dga_at (r : Fin 256) (j : Fin 1024) : b.o20 (ix2 r j) = ((dga w (q r) j : ℝ) : EReal) := by
  pointwise [Blk.o20, k0_pay27, k0_pay24]
  simp only [dpa_at H, sga_at H, H.x4, H.x6, word_one, coe_mul, coe_sub, coe_add]
  rfl

theorem dh_at (r : Fin 256) (j : Fin 1024) : b.o21 (ix2 r j) = ((dh w (q r) j : ℝ) : EReal) := by
  pointwise [Blk.o21, k0_pay31, k0_pay29]
  simp only [dpr_at H, sgr_at H, H.x5, coe_mul]
  rfl

theorem dgr_at (r : Fin 256) (j : Fin 1024) : b.o22 (ix2 r j) = ((dgr w (q r) j : ℝ) : EReal) := by
  pointwise [Blk.o22, k0_pay32, k0_pay29]
  simp only [dpr_at H, sgr_at H, H.x5, H.x7, word_one, coe_mul, coe_sub, coe_add]
  rfl

/-- The loss that a tile adds. -/
theorem ls_at (l : Vec Ideal S8x128 .f32) (j : S8x128.Idx) : b.o26 l j = l j + ((1 / 2 * ∑ r, ls w (q r) : ℝ) : EReal) := by
  have e := er_at H
  unfold Blk.diff at e
  idx_vars j
  pointwise [Blk.o26, k0_pay12]
  simp only [e, word_1024, word_half, coe_mul, coe_sum, coe_div _ _ (show (1024 : ℝ) ≠ 0 by norm_num), coe_add, Finset.univ_unique,
    Finset.sum_singleton]
  rfl

/-- The norm weight's gradient that a tile adds. -/
theorem dw_at (v : Vec Ideal S1x1024 .f32) (j : S1x1024.Idx) : b.o27 v j = v j + ((∑ r, dy w (q r) (j 1) * oh w (q r) (j 1) : ℝ) : EReal) := by
  have e := dy_at H
  unfold Blk.o24 at e
  idx_vars j
  pointwise [Blk.o27, k0_pay14]
  simp only [e, oh_at H, coe_mul, coe_sum]

end Cert.Merge

end
-- ==== Proof.MergeDelta.lean ====
module

public import proofs.«01_k».proof.Proof.MergeTile

/-! The merge gate's sum over each head of the attention branch times its cotangent: a product with a matrix that picks the
head of each channel, the products' left side given in three parts of which the last two are zero on real numbers. -/

@[expose] public section

set_option maxRecDepth 16384

noncomputable section

open Idealize.ShloMosaic Idealize.ShloMosaic.TcCoe Idealize.SL.Sem

namespace Cert.Merge

open Cert.Kernel2Ideal Cert.Kernel2Ideal.Gen Cert.Kernel2Ideal.Parts Cert.RealLift

/-- The head of a channel: the kernel's quotient of the channel by 64, rounded down. -/
def chead (x : ℕ) : BitVec 32 :=
  Scalar.select
    (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x) 64#32) 0#32))
    (IntOp.subi (IntOp.divsi ArithUnit.vector (BitVec.ofNat 32 x) 64#32) 1#32)
    (IntOp.divsi ArithUnit.vector (BitVec.ofNat 32 x) 64#32)

theorem chead_eq : ∀ x : Fin 1024, chead x.val = BitVec.ofNat 32 (x.val / 64) := by decide +kernel

theorem same : ∀ a n : Fin 16, BitVec.setWidth 32 (IntOp.cmpi CmpIPredicate.eq (BitVec.ofNat 32 a.val) (BitVec.ofNat 32 n.val)) = if a = n then 1#32 else 0#32 := by
  decide +kernel

/-- The number that picks a channel for a head. -/
theorem pick_eq (x : Fin 1024) (n : Fin 16) :
    (FloatOps.sitofp (F := Ideal) FTy.f32 (BitVec.setWidth 32 (IntOp.cmpi CmpIPredicate.eq (chead x.val) (BitVec.ofNat 32 n.val))) : EReal)
      = (((if (⟨x.val / 64, by omega⟩ : Fin 16) = n then 1 else 0 : ℝ)) : EReal) := by
  rw [chead_eq x, same ⟨x.val / 64, by omega⟩ n]
  split
  · exact (show (((1#32 : BitVec 32).toInt : ℝ) : EReal) = _ by norm_num)
  · exact (show (((0#32 : BitVec 32).toInt : ℝ) : EReal) = _ by norm_num)

/-- A sum over channels picked by a head is the sum over the head's channels. -/
theorem sum_pick (p : Fin 1024 → ℝ) (n : Fin 16) :
    ∑ x : Fin 1024, p x * (if (⟨x.val / 64, by omega⟩ : Fin 16) = n then 1 else 0) = ∑ k : Fin 64, p ⟨n.val * 64 + k.val, by omega⟩ := by
  rw [← Fin.sum_mul_add_fin 16 64 (fun x : Fin 1024 => p x * (if (⟨x.val / 64, by omega⟩ : Fin 16) = n then 1 else 0)) (by norm_num),
    Finset.sum_eq_single n]
  · refine Finset.sum_congr rfl fun k _ => ?_
    rw [if_pos (Fin.ext (by dsimp only; omega)), mul_one]
  · intro a _ ha
    refine Finset.sum_eq_zero fun k _ => ?_
    rw [if_neg (fun e => ha (Fin.ext (by have := congrArg Fin.val e; dsimp only at this; omega))), mul_zero]
  · intro h; exact absurd (Finset.mem_univ n) h

variable {b : Blk Ideal} {w : Wts} {q : Fin 256 → Row} (H : Reads b w q)
include H

theorem hd_at (n : Fin 16) (r : Fin 256) : b.o25 (ix3 0 n r) = ((hd w (q r) n : ℝ) : EReal) := by
  pointwise [Blk.o25, k0_pay36, k0_pay33, k0_pay34, k0_pay35]
  simp only [doa_at H, H.x6, coe_mul, coe_sub]
  have e : ∀ x : Fin 1024, _ := fun x => pick_eq x n
  unfold chead at e
  simp only [e, coe_mul, coe_sum, coe_add, sub_self, zero_mul, Finset.sum_const_zero, add_zero]
  exact congrArg _ (sum_pick (fun x => doa w (q r) x * (q r).y x) n)

end Cert.Merge

end
-- ==== Proof.MergeBlocks.lean ====
module

public import proofs.«01_k».proof.Proof.MergeFrame
public import proofs.«01_k».proof.Proof.MergeDelta

/-! The blocks that the merge gate's kernel reads, for arguments that are real numbers. -/

@[expose] public section

set_option maxRecDepth 16384

noncomputable section

open Idealize.ShloMosaic Idealize.ShloMosaic.TcCoe Idealize.SL.Sem
open Idealize.ShloMosaic.Pipeline (Dat)

namespace Cert.Merge

open Cert.Kernel2Ideal Cert.Kernel2Ideal.Gen Cert.Kernel2Ideal.Parts Cert.Kernel2Ideal.Merge Cert.RealLift

/-- The arguments are these rows and these weights. -/
structure Args (m : (ℓ : Loc nD τ sig) → Buf (Elt Ideal) ℓ) (c : Dev nD) (w : Wts) (q : Fin 8192 → Row) : Prop where
  ga : ∀ i (k : Fin 1024), (show FVec Ideal S8192x5120 .bf16 from m ((c : Thread nD τ).loc main_arg0)) (ix2 i ⟨k.val, by omega⟩) = (((q i).ga k : ℝ) : EReal)
  gr : ∀ i (k : Fin 1024), (show FVec Ideal S8192x5120 .bf16 from m ((c : Thread nD τ).loc main_arg0)) (ix2 i ⟨2048 + k.val, by omega⟩) = (((q i).gr k : ℝ) : EReal)
  ma : ∀ i (k : Fin 1024), (show FVec Ideal S8192x5120 .bf16 from m ((c : Thread nD τ).loc main_arg0)) (ix2 i ⟨3072 + k.val, by omega⟩) = (((q i).ma k : ℝ) : EReal)
  mr : ∀ i (k : Fin 1024), (show FVec Ideal S8192x5120 .bf16 from m ((c : Thread nD τ).loc main_arg0)) (ix2 i ⟨4096 + k.val, by omega⟩) = (((q i).mr k : ℝ) : EReal)
  y : ∀ i k, (show FVec Ideal S8192x1024 .f32 from m ((c : Thread nD τ).loc main_arg1)) (ix2 i k) = (((q i).y k : ℝ) : EReal)
  h : ∀ i k, (show FVec Ideal S8192x1024 .bf16 from m ((c : Thread nD τ).loc main_arg2)) (ix2 i k) = (((q i).h k : ℝ) : EReal)
  x : ∀ i k, (show FVec Ideal S8192x1024 .f32 from m ((c : Thread nD τ).loc main_arg3)) (ix2 i k) = (((q i).x k : ℝ) : EReal)
  t : ∀ i k, (show FVec Ideal S8192x1024 .f32 from m ((c : Thread nD τ).loc main_arg4)) (ix2 i k) = (((q i).t k : ℝ) : EReal)
  wa : ∀ i k, (show FVec Ideal S1024x1024 .f32 from m ((c : Thread nD τ).loc main_arg5)) (ix2 i k) = ((w.wa i k : ℝ) : EReal)
  wr : ∀ i k, (show FVec Ideal S1024x1024 .f32 from m ((c : Thread nD τ).loc main_arg6)) (ix2 i k) = ((w.wr i k : ℝ) : EReal)
  wo : ∀ i k, (show FVec Ideal S1024x1024 .f32 from m ((c : Thread nD τ).loc main_arg7)) (ix2 i k) = ((w.wo i k : ℝ) : EReal)
  g : ∀ k, (show FVec Ideal S1x1024 .f32 from m ((c : Thread nD τ).loc main_arg8)) (ix2 0 k) = ((w.g k : ℝ) : EReal)

theorem lt32 (t : Fin cfg0.N) : t.val < 32 := lt_of_lt_of_eq t.isLt (show cfg0.N = 32 from N_0)

/-- Row `r` of the block at point `t`. -/
def row (t : Fin cfg0.N) (r : Fin 256) : Fin 8192 := ⟨t.val * 256 + r.val, by have := lt32 t; omega⟩

theorem idx : ∀ t : Fin cfg0.N, win0_0.index t = ![t.val, 3] ∧ win0_1.index t = ![t.val, 4] ∧ win0_2.index t = ![t.val, 0]
    ∧ win0_3.index t = ![t.val, 0] ∧ win0_4.index t = ![t.val, 0] ∧ win0_5.index t = ![t.val, 2] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] ∧ win0_13.index t = ![0, 0] :=
  (by decide +kernel : ∀ t : Fin grid0.N, _)

theorem idxo : ∀ t : Fin cfg0.N, win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0, 0] ∧ win0_26.index t = ![0, 0] ∧ win0_27.index t = ![0, 0] :=
  (by decide +kernel : ∀ t : Fin grid0.N, _)

/-- A branch times its own gate, an array's columns from `o` on gated by their logistic function. -/
def gated (X : FVec Ideal S8192x5120 .bf16) (o : ℕ) (hs : S8192x5120.Slices ![0, o] S8192x1024) (Y : FVec Ideal S8192x1024 .f32) : FVec Ideal S8192x1024 .bf16 :=
  let E : FVec Ideal S8192x1024 .f32 := extf .f32 (extractStridedSlice S8192x1024 ![0, o] X hs) bitsLt_bf16_f32
  let one : FVec Ideal S8192x1024 .f32 := broadcastInDim S8192x1024 ![] bcast_S_S8192x1024 (constant S_ .f32 0x3F800000#32)
  truncf .bf16 (mulf Y (mulf E (Host.divf one (addf one (Host.exp (Host.negf E)))))) bitsLt_bf16_f32

theorem gated_at (X : FVec Ideal S8192x5120 .bf16) (o : ℕ) (hs) (Y : FVec Ideal S8192x1024 .f32) (i : Fin 8192) (k : Fin 1024) (ho : o + 1024 ≤ 5120)
    (y u : ℝ) (hY : Y (ix2 i k) = (y : EReal)) (hX : X (ix2 i ⟨o + k.val, by omega⟩) = (u : EReal)) :
    gated X o hs Y (ix2 i k) = ((y * (u * sg u) : ℝ) : EReal) := by
  pointwise [gated]
  simp only [hX, hY, div_sg, coe_mul]

variable (m : (ℓ : Loc nD τ sig) → Buf (Elt Ideal) ℓ) (c : Dev nD)

theorem V_6 : V m c main_v6 = gated (m ((c : Thread nD τ).loc main_arg0)) 0 slices_S8192x5120_S8192x1024_0_0 (m ((c : Thread nD τ).loc main_arg1)) := by
  unfold V
  simp only [hostOps0, hostOps0_1, hostOps0_2, hostOps0_3, hostOps0_4, List.flatten_cons, List.flatten_nil, List.append_nil, List.cons_append, List.nil_append]
  after_results_simp
  rfl

theorem V_10 : V m c main_v10 = gated (m ((c : Thread nD τ).loc main_arg0)) 2048 slices_S8192x5120_S8192x1024_0_2048
    (extf .f32 (show FVec Ideal S8192x1024 .bf16 from m ((c : Thread nD τ).loc main_arg2)) bitsLt_bf16_f32) := by
  unfold V
  simp only [hostOps0, hostOps0_1, hostOps0_2, hostOps0_3, hostOps0_4, List.flatten_cons, List.flatten_nil, List.append_nil, List.cons_append, List.nil_append]
  after_results_simp
  rfl

variable {m} {c} {w : Wts} {q : Fin 8192 → Row} (A : Args m c w q)
include A

/-- The attention branch, gated, as the host prepares it. -/
theorem pa_host (i : Fin 8192) (k : Fin 1024) : (show FVec Ideal S8192x1024 .bf16 from V m c main_v6) (ix2 i k) = ((pa (q i) k : ℝ) : EReal) := by
  refine (congrFun (V_6 m c) _).trans (gated_at _ 0 _ _ i k (by norm_num) _ _ (A.y i k) ?_)
  refine Eq.trans (congrArg _ (congrArg (ix2 i) (Fin.ext ?_))) (A.ga i k)
  dsimp only; omega

/-- The recurrent branch, gated, as the host prepares it. -/
theorem pr_host (i : Fin 8192) (k : Fin 1024) : (show FVec Ideal S8192x1024 .bf16 from V m c main_v10) (ix2 i k) = ((pr (q i) k : ℝ) : EReal) :=
  (congrFun (V_10 m c) _).trans (gated_at _ 2048 _ _ i k (by norm_num) _ _ (A.h i k) (A.gr i k))

theorem rd0 (t : Fin cfg0.N) (r : Fin 256) (k : Fin 1024) : iblk m c 0 t (ix2 r k) = (((q (row t r)).ma k : ℝ) : EReal) := by
  rw [← A.ma]; blk_ext [iblk, V, idx t, row]
theorem rd1 (t : Fin cfg0.N) (r : Fin 256) (k : Fin 1024) : iblk m c 1 t (ix2 r k) = (((q (row t r)).mr k : ℝ) : EReal) := by
  rw [← A.mr]; blk_ext [iblk, V, idx t, row]
theorem rd2 (t : Fin cfg0.N) (r : Fin 256) (k : Fin 1024) : iblk m c 2 t (ix2 r k) = ((pa (q (row t r)) k : ℝ) : EReal) := by
  rw [← pa_host A]; blk_ext [iblk, idx t, row]
theorem rd3 (t : Fin cfg0.N) (r : Fin 256) (k : Fin 1024) : iblk m c 3 t (ix2 r k) = ((pr (q (row t r)) k : ℝ) : EReal) := by
  rw [← pr_host A]; blk_ext [iblk, idx t, row]
theorem rd4 (t : Fin cfg0.N) (r : Fin 256) (k : Fin 1024) : iblk m c 4 t (ix2 r k) = (((q (row t r)).ga k : ℝ) : EReal) := by
  rw [← A.ga]; blk_ext [iblk, V, idx t, row]
theorem rd5 (t : Fin cfg0.N) (r : Fin 256) (k : Fin 1024) : iblk m c 5 t (ix2 r k) = (((q (row t r)).gr k : ℝ) : EReal) := by
  rw [← A.gr]; blk_ext [iblk, V, idx t, row]
theorem rd6 (t : Fin cfg0.N) (r : Fin 256) (k : Fin 1024) : iblk m c 6 t (ix2 r k) = (((q (row t r)).y k : ℝ) : EReal) := by
  rw [← A.y]; blk_ext [iblk, V, idx t, row]
theorem rd7 (t : Fin cfg0.N) (r : Fin 256) (k : Fin 1024) : iblk m c 7 t (ix2 r k) = (((q (row t r)).h k : ℝ) : EReal) := by
  rw [← A.h]; blk_ext [iblk, V, idx t, row]
theorem rd8 (t : Fin cfg0.N) (r : Fin 256) (k : Fin 1024) : iblk m c 8 t (ix2 r k) = (((q (row t r)).x k : ℝ) : EReal) := by
  rw [← A.x]; blk_ext [iblk, V, idx t, row]
theorem rd9 (t : Fin cfg0.N) (r : Fin 256) (k : Fin 1024) : iblk m c 9 t (ix2 r k) = (((q (row t r)).t k : ℝ) : EReal) := by
  rw [← A.t]; blk_ext [iblk, V, idx t, row]
theorem rd10 (t : Fin cfg0.N) (k j : Fin 1024) : iblk m c 10 t (ix2 k j) = ((w.wa k j : ℝ) : EReal) := by
  rw [← A.wa]; blk_ext [iblk, V, idx t]
theorem rd11 (t : Fin cfg0.N) (k j : Fin 1024) : iblk m c 11 t (ix2 k j) = ((w.wr k j : ℝ) : EReal) := by
  rw [← A.wr]; blk_ext [iblk, V, idx t]
theorem rd12 (t : Fin cfg0.N) (k j : Fin 1024) : iblk m c 12 t (ix2 k j) = ((w.wo k j : ℝ) : EReal) := by
  rw [← A.wo]; blk_ext [iblk, V, idx t]
theorem rd13 (t : Fin cfg0.N) (k : Fin 1024) : iblk m c 13 t (ix2 0 k) = ((w.g k : ℝ) : EReal) := by
  rw [← A.g]; blk_ext [iblk, V, idx t]

set_option maxHeartbeats 4000000 in
/-- The blocks at point `t` hold its rows and the weights. -/
theorem reads (t : Fin cfg0.N) : Reads (blk m c t) w (fun r => q (row t r)) where
  x0 := rd0 A t
  x1 := rd1 A t
  x2 := rd2 A t
  x3 := rd3 A t
  x4 := rd4 A t
  x5 := rd5 A t
  x6 := rd6 A t
  x7 := rd7 A t
  x8 := rd8 A t
  x9 := rd9 A t
  x10 := rd10 A t
  x11 := rd11 A t
  x12 := rd12 A t
  x13 := rd13 A t

end Cert.Merge

end
-- ==== Proof.MergeFinal.lean ====
module

public import proofs.«01_k».proof.Proof.MergeBlocks

/-! What the merge gate's kernel has written when it ends, for arguments that are real numbers. -/

@[expose] public section

set_option maxRecDepth 16384

noncomputable section

open Idealize.ShloMosaic Idealize.ShloMosaic.TcCoe Idealize.SL.Sem
open Idealize.ShloMosaic.Pipeline (Dat)

namespace Cert.Merge

open Cert.Kernel2Ideal Cert.Kernel2Ideal.Gen Cert.Kernel2Ideal.Parts Cert.Kernel2Ideal.Merge Cert.RealLift

variable {m : (ℓ : Loc nD τ sig) → Buf (Elt Ideal) ℓ} {c : Dev nD} {w : Wts} {q : Fin 8192 → Row} (A : Args m c w q)
include A

/-- The gradient of the projected mix. -/
theorem final_14 : (dats m 0 c).arrAt 14 cfg0.N = (fun i : S8192x1024.Idx => ((dO w (q (i 0)) (i 1) : ℝ) : EReal)) := by
  refine (dats m 0 c).arrAt_eq_of_covers 14 _ (by decide +kernel) fun t _ j => ?_
  blk_simp
  rw [after_14]
  obtain ⟨r, k, rfl⟩ : ∃ (r : Fin 256) (k : Fin 1024), j = ix2 r k := ⟨j 0, j 1, by funext a; match a with | 0 => rfl | 1 => rfl⟩
  have e : (win0_14.blk t).view.emb (ix2 r k) = ix2 (row t r) k := by blk_point [idxo t, row]
  rw [e]
  exact dO_at (reads A t) r k

/-- The gradient of the projected attention branch. -/
theorem final_15 : (dats m 0 c).arrAt 15 cfg0.N = (fun i : S8192x1024.Idx => ((dya w (q (i 0)) (i 1) : ℝ) : EReal)) := by
  refine (dats m 0 c).arrAt_eq_of_covers 15 _ (by decide +kernel) fun t _ j => ?_
  blk_simp
  rw [after_15]
  obtain ⟨r, k, rfl⟩ : ∃ (r : Fin 256) (k : Fin 1024), j = ix2 r k := ⟨j 0, j 1, by funext a; match a with | 0 => rfl | 1 => rfl⟩
  have e : (win0_15.blk t).view.emb (ix2 r k) = ix2 (row t r) k := by blk_point [idxo t, row]
  rw [e]
  exact dya_at (reads A t) r k

/-- The gradient of the projected recurrent branch. -/
theorem final_16 : (dats m 0 c).arrAt 16 cfg0.N = (fun i : S8192x1024.Idx => ((dyr w (q (i 0)) (i 1) : ℝ) : EReal)) := by
  refine (dats m 0 c).arrAt_eq_of_covers 16 _ (by decide +kernel) fun t _ j => ?_
  blk_simp
  rw [after_16]
  obtain ⟨r, k, rfl⟩ : ∃ (r : Fin 256) (k : Fin 1024), j = ix2 r k := ⟨j 0, j 1, by funext a; match a with | 0 => rfl | 1 => rfl⟩
  have e : (win0_16.blk t).view.emb (ix2 r k) = ix2 (row t r) k := by blk_point [idxo t, row]
  rw [e]
  exact dyr_at (reads A t) r k

/-- The gradient of the attention branch's mixing logit. -/
theorem final_17 : (dats m 0 c).arrAt 17 cfg0.N = (fun i : S8192x1024.Idx => ((dma w (q (i 0)) (i 1) : ℝ) : EReal)) := by
  refine (dats m 0 c).arrAt_eq_of_covers 17 _ (by decide +kernel) fun t _ j => ?_
  blk_simp
  rw [after_17]
  obtain ⟨r, k, rfl⟩ : ∃ (r : Fin 256) (k : Fin 1024), j = ix2 r k := ⟨j 0, j 1, by funext a; match a with | 0 => rfl | 1 => rfl⟩
  have e : (win0_17.blk t).view.emb (ix2 r k) = ix2 (row t r) k := by blk_point [idxo t, row]
  rw [e]
  exact dma_at (reads A t) r k

/-- The gradient of the recurrent branch's mixing logit. -/
theorem final_18 : (dats m 0 c).arrAt 18 cfg0.N = (fun i : S8192x1024.Idx => ((dmr w (q (i 0)) (i 1) : ℝ) : EReal)) := by
  refine (dats m 0 c).arrAt_eq_of_covers 18 _ (by decide +kernel) fun t _ j => ?_
  blk_simp
  rw [after_18]
  obtain ⟨r, k, rfl⟩ : ∃ (r : Fin 256) (k : Fin 1024), j = ix2 r k := ⟨j 0, j 1, by funext a; match a with | 0 => rfl | 1 => rfl⟩
  have e : (win0_18.blk t).view.emb (ix2 r k) = ix2 (row t r) k := by blk_point [idxo t, row]
  rw [e]
  exact dmr_at (reads A t) r k

/-- The gradient of the attention branch. -/
theorem final_19 : (dats m 0 c).arrAt 19 cfg0.N = (fun i : S8192x1024.Idx => ((doa w (q (i 0)) (i 1) : ℝ) : EReal)) := by
  refine (dats m 0 c).arrAt_eq_of_covers 19 _ (by decide +kernel) fun t _ j => ?_
  blk_simp
  rw [after_19]
  obtain ⟨r, k, rfl⟩ : ∃ (r : Fin 256) (k : Fin 1024), j = ix2 r k := ⟨j 0, j 1, by funext a; match a with | 0 => rfl | 1 => rfl⟩
  have e : (win0_19.blk t).view.emb (ix2 r k) = ix2 (row t r) k := by blk_point [idxo t, row]
  rw [e]
  exact doa_at (reads A t) r k

/-- The gradient of the attention branch's own gate. -/
theorem final_20 : (dats m 0 c).arrAt 20 cfg0.N = (fun i : S8192x1024.Idx => ((dga w (q (i 0)) (i 1) : ℝ) : EReal)) := by
  refine (dats m 0 c).arrAt_eq_of_covers 20 _ (by decide +kernel) fun t _ j => ?_
  blk_simp
  rw [after_20]
  obtain ⟨r, k, rfl⟩ : ∃ (r : Fin 256) (k : Fin 1024), j = ix2 r k := ⟨j 0, j 1, by funext a; match a with | 0 => rfl | 1 => rfl⟩
  have e : (win0_20.blk t).view.emb (ix2 r k) = ix2 (row t r) k := by blk_point [idxo t, row]
  rw [e]
  exact dga_at (reads A t) r k

/-- The gradient of the recurrent branch. -/
theorem final_21 : (dats m 0 c).arrAt 21 cfg0.N = (fun i : S8192x1024.Idx => ((dh w (q (i 0)) (i 1) : ℝ) : EReal)) := by
  refine (dats m 0 c).arrAt_eq_of_covers 21 _ (by decide +kernel) fun t _ j => ?_
  blk_simp
  rw [after_21]
  obtain ⟨r, k, rfl⟩ : ∃ (r : Fin 256) (k : Fin 1024), j = ix2 r k := ⟨j 0, j 1, by funext a; match a with | 0 => rfl | 1 => rfl⟩
  have e : (win0_21.blk t).view.emb (ix2 r k) = ix2 (row t r) k := by blk_point [idxo t, row]
  rw [e]
  exact dh_at (reads A t) r k

/-- The gradient of the recurrent branch's own gate. -/
theorem final_22 : (dats m 0 c).arrAt 22 cfg0.N = (fun i : S8192x1024.Idx => ((dgr w (q (i 0)) (i 1) : ℝ) : EReal)) := by
  refine (dats m 0 c).arrAt_eq_of_covers 22 _ (by decide +kernel) fun t _ j => ?_
  blk_simp
  rw [after_22]
  obtain ⟨r, k, rfl⟩ : ∃ (r : Fin 256) (k : Fin 1024), j = ix2 r k := ⟨j 0, j 1, by funext a; match a with | 0 => rfl | 1 => rfl⟩
  have e : (win0_22.blk t).view.emb (ix2 r k) = ix2 (row t r) k := by blk_point [idxo t, row]
  rw [e]
  exact dgr_at (reads A t) r k

/-- The mix. -/
theorem final_23 : (dats m 0 c).arrAt 23 cfg0.N = (fun i : S8192x1024.Idx => ((mix w (q (i 0)) (i 1) : ℝ) : EReal)) := by
  refine (dats m 0 c).arrAt_eq_of_covers 23 _ (by decide +kernel) fun t _ j => ?_
  blk_simp
  rw [after_23]
  obtain ⟨r, k, rfl⟩ : ∃ (r : Fin 256) (k : Fin 1024), j = ix2 r k := ⟨j 0, j 1, by funext a; match a with | 0 => rfl | 1 => rfl⟩
  have e : (win0_23.blk t).view.emb (ix2 r k) = ix2 (row t r) k := by blk_point [idxo t, row]
  rw [e]
  exact mix_at (reads A t) r k

/-- The gradient of the residual. -/
theorem final_24 : (dats m 0 c).arrAt 24 cfg0.N = (fun i : S8192x1024.Idx => ((dy w (q (i 0)) (i 1) : ℝ) : EReal)) := by
  refine (dats m 0 c).arrAt_eq_of_covers 24 _ (by decide +kernel) fun t _ j => ?_
  blk_simp
  rw [after_24]
  obtain ⟨r, k, rfl⟩ : ∃ (r : Fin 256) (k : Fin 1024), j = ix2 r k := ⟨j 0, j 1, by funext a; match a with | 0 => rfl | 1 => rfl⟩
  have e : (win0_24.blk t).view.emb (ix2 r k) = ix2 (row t r) k := by blk_point [idxo t, row]
  rw [e]
  exact dy_at (reads A t) r k

/-- Each head's sum of the attention branch times its gradient, the heads of a block of 256 rows side by side. -/
theorem final_25 : (dats m 0 c).arrAt 25 cfg0.N
    = (fun i : S32x16x256.Idx => ((hds w q (i 0) (i 1) (i 2) : ℝ) : EReal)) := by
  refine (dats m 0 c).arrAt_eq_of_covers 25 _ (by decide +kernel) fun t _ j => ?_
  blk_simp
  rw [after_25]
  obtain ⟨n, r, rfl⟩ : ∃ (n : Fin 16) (r : Fin 256), j = ix3 0 n r :=
    ⟨j 1, j 2, by funext a; match a with | 0 => exact Subsingleton.elim (α := Fin 1) _ _ | 1 => rfl | 2 => rfl⟩
  have e : (win0_25.blk t).view.emb (ix3 0 n r) = ix3 ⟨t.val, lt32 t⟩ n r := by blk_point [idxo t]
  rw [e]
  exact hd_at (reads A t) n r

/-- The loss after tile `n`. -/
theorem loss_at (n : ℕ) (hn : n < cfg0.N) (j : S8x128.Idx) :
    lossAt m c n hn j = ((∑ t : Fin (n + 1), 1 / 2 * ∑ r : Fin 256, ls w (q (row ⟨t.val, by omega⟩ r)) : ℝ) : EReal) := by
  induction n with
  | zero =>
    unfold lossAt
    rw [ls_at (reads A _), Fin.sum_univ_one]
    pointwise [k0_pay1]
  | succ n ih =>
    unfold lossAt
    rw [ls_at (reads A _), ih, Fin.sum_univ_castSucc (n := n + 1), coe_add]
    rfl

/-- The norm weight's gradient after tile `n`. -/
theorem norm_at (n : ℕ) (hn : n < cfg0.N) (j : S1x1024.Idx) :
    normAt m c n hn j = ((∑ t : Fin (n + 1), ∑ r : Fin 256, dy w (q (row ⟨t.val, by omega⟩ r)) (j 1) * oh w (q (row ⟨t.val, by omega⟩ r)) (j 1) : ℝ) : EReal) := by
  induction n with
  | zero =>
    unfold normAt
    rw [dw_at (reads A _), Fin.sum_univ_one]
    pointwise [k0_pay2]
  | succ n ih =>
    unfold normAt
    rw [dw_at (reads A _), ih, Fin.sum_univ_castSucc (n := n + 1), coe_add]
    rfl

/-- The last point. -/
def last : Fin cfg0.N := ⟨31, lt_of_lt_of_eq (by norm_num) (show 32 = cfg0.N from N_0.symm)⟩

omit A in
theorem sum_tiles (f : Fin 8192 → ℝ) : ∑ t : Fin 32, ∑ r : Fin 256, f ⟨t.val * 256 + r.val, by omega⟩ = ∑ i, f i :=
  Fin.sum_mul_add_fin 32 256 f (by norm_num)

/-- The loss. -/
theorem final_26 : (dats m 0 c).arrAt 26 cfg0.N = (fun _ : S8x128.Idx => ((1 / 2 * ∑ i, ls w (q i) : ℝ) : EReal)) := by
  refine (dats m 0 c).arrAt_eq_of_after_last 26 last (by decide +kernel) _ fun j => ?_
  blk_simp
  rw [after_26]
  refine (loss_at A 31 _ _).trans (congrArg _ ?_)
  rw [← Finset.mul_sum, ← sum_tiles (fun i => ls w (q i))]
  rfl

/-- The norm weight's gradient. -/
theorem final_27 : (dats m 0 c).arrAt 27 cfg0.N = (fun i : S1x1024.Idx => ((∑ r, dy w (q r) (i 1) * oh w (q r) (i 1) : ℝ) : EReal)) := by
  refine (dats m 0 c).arrAt_eq_of_after_last 27 last (by decide +kernel) _ fun j => ?_
  blk_simp
  rw [after_27]
  refine (norm_at A 31 _ _).trans (congrArg _ ?_)
  have e : (cfg0.win 27).arr.view.emb j = j := rfl
  rw [← sum_tiles (fun i => dy w (q i) (j 1) * oh w (q i) (j 1))]
  rfl

end Cert.Merge

end
-- ==== Proof.MergeRef.lean ====
module

public import proofs.«01_k».proof.Proof.Gen.Reference2Ideal.Run
public import proofs.«01_k».proof.Proof.MergeReal

/-! What the merge gate's reference computes, for arguments that are real numbers. -/

@[expose] public section

set_option maxRecDepth 16384

noncomputable section

open Idealize.ShloMosaic Idealize.ShloMosaic.TcCoe Idealize.SL.Sem

namespace Cert.MergeRef

open Cert.Reference2Ideal Cert.Reference2Ideal.Gen Cert.Reference2Ideal.Facts Cert.Reference2Ideal.Value Cert.RealLift Cert.Merge

/-- The arguments are these rows and these weights. -/
structure Args (V : Valuation τ sig (Elt Ideal)) (w : Wts) (q : Fin 8192 → Row) : Prop where
  ga : ∀ i (k : Fin 1024), (show FVec Ideal S8192x5120 .bf16 from V (Proc.devRef .tc main_arg0)) (ix2 i ⟨k.val, by omega⟩) = (((q i).ga k : ℝ) : EReal)
  gr : ∀ i (k : Fin 1024), (show FVec Ideal S8192x5120 .bf16 from V (Proc.devRef .tc main_arg0)) (ix2 i ⟨2048 + k.val, by omega⟩) = (((q i).gr k : ℝ) : EReal)
  ma : ∀ i (k : Fin 1024), (show FVec Ideal S8192x5120 .bf16 from V (Proc.devRef .tc main_arg0)) (ix2 i ⟨3072 + k.val, by omega⟩) = (((q i).ma k : ℝ) : EReal)
  mr : ∀ i (k : Fin 1024), (show FVec Ideal S8192x5120 .bf16 from V (Proc.devRef .tc main_arg0)) (ix2 i ⟨4096 + k.val, by omega⟩) = (((q i).mr k : ℝ) : EReal)
  y : ∀ i k, (show FVec Ideal S8192x1024 .f32 from V (Proc.devRef .tc main_arg1)) (ix2 i k) = (((q i).y k : ℝ) : EReal)
  h : ∀ i k, (show FVec Ideal S8192x1024 .bf16 from V (Proc.devRef .tc main_arg2)) (ix2 i k) = (((q i).h k : ℝ) : EReal)
  x : ∀ i k, (show FVec Ideal S8192x1024 .f32 from V (Proc.devRef .tc main_arg3)) (ix2 i k) = (((q i).x k : ℝ) : EReal)
  t : ∀ i k, (show FVec Ideal S8192x1024 .f32 from V (Proc.devRef .tc main_arg4)) (ix2 i k) = (((q i).t k : ℝ) : EReal)
  wa : ∀ i k, (show FVec Ideal S1024x1024 .f32 from V (Proc.devRef .tc main_arg5)) (ix2 i k) = ((w.wa i k : ℝ) : EReal)
  wr : ∀ i k, (show FVec Ideal S1024x1024 .f32 from V (Proc.devRef .tc main_arg6)) (ix2 i k) = ((w.wr i k : ℝ) : EReal)
  wo : ∀ i k, (show FVec Ideal S1024x1024 .f32 from V (Proc.devRef .tc main_arg7)) (ix2 i k) = ((w.wo i k : ℝ) : EReal)
  g : ∀ k, (show FVec Ideal S1x1024 .f32 from V (Proc.devRef .tc main_arg8)) (ix2 0 k) = ((w.g k : ℝ) : EReal)

variable {V : Valuation τ sig (Elt Ideal)} {w : Wts} {q : Fin 8192 → Row} (A : Args V w q)
include A

theorem v1 (i : Fin 8192) (j : Fin 1024) : res_main_v1 (F := Ideal) V (ix2 i j) = (((q i).ga j : ℝ) : EReal) := by
  pointwise [res_main_v1, res_main_v0]
  simp only [A.ga]

theorem v2 (i : Fin 8192) (j : Fin 1024) : res_main_v2 (F := Ideal) V (ix2 i j) = (((q i).gr j : ℝ) : EReal) := by
  pointwise [res_main_v2, res_main_v0]
  simp only [A.gr]

theorem v5_2 (i : Fin 8192) (j : Fin 1024) : res_main_v5_2 (F := Ideal) V (ix2 i j) = ((sg ((q i).ga j) : ℝ) : EReal) := by
  pointwise [res_main_v5_2]
  simp only [v1 A, div_sg]

theorem v9_2 (i : Fin 8192) (j : Fin 1024) : res_main_v9_2 (F := Ideal) V (ix2 i j) = ((sg ((q i).gr j) : ℝ) : EReal) := by
  pointwise [res_main_v9_2]
  simp only [v2 A, div_sg]

theorem v5_0 (i : Fin 8192) (j : Fin 1024) : res_main_v5_0 (F := Ideal) V (ix2 i j) = (((q i).ga j * sg ((q i).ga j) : ℝ) : EReal) := by
  pointwise [res_main_v5_0]
  simp only [v1 A, v5_2 A, coe_mul]

theorem v9_0 (i : Fin 8192) (j : Fin 1024) : res_main_v9_0 (F := Ideal) V (ix2 i j) = (((q i).gr j * sg ((q i).gr j) : ℝ) : EReal) := by
  pointwise [res_main_v9_0]
  simp only [v2 A, v9_2 A, coe_mul]

theorem v8 (i : Fin 8192) (j : Fin 1024) : res_main_v8 (F := Ideal) V (ix2 i j) = (((q i).h j : ℝ) : EReal) := by
  pointwise [res_main_v8]
  simp only [A.h]

theorem v7 (i : Fin 8192) (j : Fin 1024) : res_main_v7 (F := Ideal) V (ix2 i j) = ((ya w (q i) j : ℝ) : EReal) := by
  pointwise [res_main_v7]
  simp only [A.y, v5_0 A, A.wa, coe_mul, coe_sum]
  rfl

theorem v11 (i : Fin 8192) (j : Fin 1024) : res_main_v11 (F := Ideal) V (ix2 i j) = ((yr w (q i) j : ℝ) : EReal) := by
  pointwise [res_main_v11]
  simp only [v8 A, v9_0 A, A.wr, coe_mul, coe_sum]
  rfl

theorem v17 (i : Fin 8192) (j : Fin 1024) : res_main_v17 (F := Ideal) V (ix2 i j) = ((sg ((q i).ma j) : ℝ) : EReal) := by
  pointwise [res_main_v17, res_main_v0]
  simp only [A.ma, div_sg]

theorem v27 (i : Fin 8192) (j : Fin 1024) : res_main_v27 (F := Ideal) V (ix2 i j) = ((sg ((q i).mr j) : ℝ) : EReal) := by
  pointwise [res_main_v27, res_main_v0]
  simp only [A.mr, div_sg]

theorem v32 (i : Fin 8192) (j : Fin 1024) : res_main_v32 (F := Ideal) V (ix2 i j) = ((mix w (q i) j : ℝ) : EReal) := by
  pointwise [res_main_v32]
  simp only [v17 A, v7 A, v27 A, v11 A, coe_mul, coe_add]
  rfl

theorem v33 (i : Fin 8192) (j : Fin 1024) : res_main_v33 (F := Ideal) V (ix2 i j) = ((ov w (q i) j : ℝ) : EReal) := by
  pointwise [res_main_v33]
  simp only [v32 A, A.wo, coe_mul, coe_sum]
  rfl

theorem v40 (i : Fin 8192) : res_main_v40 (F := Ideal) V (ix2 i 0) = ((msq (ov w (q i)) : ℝ) : EReal) := by
  pointwise [res_main_v40]
  simp only [v33 A, word_1024, word_eps, coe_mul, coe_sum, coe_div _ _ (show (1024 : ℝ) ≠ 0 by norm_num), coe_add]
  rfl

theorem v41 (i : Fin 8192) : res_main_v41 (F := Ideal) V (ix2 i 0) = ((inv (ov w (q i)) : ℝ) : EReal) := by
  pointwise [res_main_v41]
  simp only [v40 A, msq, rsqrt_row]

theorem v46 (i : Fin 8192) (j : Fin 1024) : res_main_v46 (F := Ideal) V (ix2 i j) = ((oh w (q i) j : ℝ) : EReal) := by
  pointwise [res_main_v46]
  simp only [v33 A, v41 A, coe_mul]
  rfl

theorem v50 (i : Fin 8192) (j : Fin 1024) : res_main_v50 (F := Ideal) V (ix2 i j) = ((er w (q i) j : ℝ) : EReal) := by
  pointwise [res_main_v50]
  simp only [A.x, A.t, A.g, v46 A, coe_mul, coe_add, coe_sub]
  rfl

theorem v64 (i : Fin 8192) (j : Fin 1024) : res_main_v64 (F := Ideal) V (ix2 i j) = ((dy w (q i) j : ℝ) : EReal) := by
  pointwise [res_main_v64, res_main_v61]
  simp only [v50 A, word_half, word_1024, mul_one, coe_mul, coe_div _ _ (show (1024 : ℝ) ≠ 0 by norm_num), coe_add]
  refine congrArg _ ?_
  unfold dy
  ring

theorem v69 (i : Fin 8192) (j : Fin 1024) : res_main_v69 (F := Ideal) V (ix2 i j) = ((dy w (q i) j * w.g j : ℝ) : EReal) := by
  pointwise [res_main_v69]
  simp only [v64 A, A.g, coe_mul]

/-- What reaches the projected mix through its mean square, per unit of it. -/
def thr (w : Wts) (q : Row) : ℝ := (∑ k, ov w q k * (dy w q k * w.g k)) * (-(1/2) * (inv (ov w q) / msq (ov w q))) / 1024

theorem v79 (i : Fin 8192) (j : Fin 1024) : res_main_v79 (F := Ideal) V (ix2 i j) = ((thr w (q i) : ℝ) : EReal) := by
  pointwise [res_main_v79]
  simp only [Finset.univ_unique, Finset.sum_singleton, Fin.default_eq_zero]
  simp only [v33 A, v69 A, v41 A, v40 A, word_neg_half, word_1024, coe_mul, coe_sum, coe_div _ _ (show (1024 : ℝ) ≠ 0 by norm_num), coe_div _ _ (msq_pos (ov w (q i))).ne']
  rfl

theorem v83 (i : Fin 8192) (j : Fin 1024) : res_main_v83 (F := Ideal) V (ix2 i j) = ((dO w (q i) j : ℝ) : EReal) := by
  pointwise [res_main_v83]
  simp only [v69 A, v41 A, v33 A, v79 A, coe_mul, coe_add]
  refine congrArg _ ?_
  have h1 : ∑ k, dy w (q i) k * w.g k * (ov w (q i) k * inv (ov w (q i))) = inv (ov w (q i)) * ∑ k, ov w (q i) k * (dy w (q i) k * w.g k) := by
    rw [Finset.mul_sum]; exact Finset.sum_congr rfl fun k _ => by ring
  have h2 : inv (ov w (q i)) / msq (ov w (q i)) = inv (ov w (q i)) * (inv (ov w (q i)) * inv (ov w (q i))) := by rw [inv_sq, div_eq_mul_inv]
  unfold thr dO oh
  rw [h1, h2]; ring

theorem v84 (i : Fin 8192) (j : Fin 1024) : res_main_v84 (F := Ideal) V (ix2 i j) = ((dm w (q i) j : ℝ) : EReal) := by
  pointwise [res_main_v84]
  simp only [v83 A, A.wo, coe_mul, coe_sum]
  rfl

theorem v85 (i : Fin 8192) (j : Fin 1024) : res_main_v85 (F := Ideal) V (ix2 i j) = ((dyr w (q i) j : ℝ) : EReal) := by
  pointwise [res_main_v85]
  simp only [v27 A, v84 A, coe_mul]
  refine congrArg _ ?_
  unfold dyr
  ring

theorem v88 (i : Fin 8192) (j : Fin 1024) : res_main_v88 (F := Ideal) V (ix2 i j) = ((dya w (q i) j : ℝ) : EReal) := by
  pointwise [res_main_v88]
  simp only [v17 A, v84 A, coe_mul]
  refine congrArg _ ?_
  unfold dya
  ring

theorem v91 (i : Fin 8192) (j : Fin 1024) : res_main_v91 (F := Ideal) V (ix2 i j) = ((dpa w (q i) j : ℝ) : EReal) := by
  pointwise [res_main_v91]
  simp only [v88 A, A.wa, coe_mul, coe_sum]
  rfl

theorem v95 (i : Fin 8192) (j : Fin 1024) : res_main_v95 (F := Ideal) V (ix2 i j) = ((dpr w (q i) j : ℝ) : EReal) := by
  pointwise [res_main_v95]
  simp only [v85 A, A.wr, coe_mul, coe_sum]
  rfl

theorem v92 (i : Fin 8192) (j : Fin 1024) : res_main_v92 (F := Ideal) V (ix2 i j) = (((q i).y j * dpa w (q i) j : ℝ) : EReal) := by
  pointwise [res_main_v92]
  simp only [A.y, v91 A, coe_mul]

theorem v96 (i : Fin 8192) (j : Fin 1024) : res_main_v96 (F := Ideal) V (ix2 i j) = (((q i).h j * dpr w (q i) j : ℝ) : EReal) := by
  pointwise [res_main_v96]
  simp only [v8 A, v95 A, coe_mul]

theorem v93 (i : Fin 8192) (j : Fin 1024) : res_main_v93 (F := Ideal) V (ix2 i j) = ((doa w (q i) j : ℝ) : EReal) := by
  pointwise [res_main_v93]
  simp only [v91 A, v5_0 A, coe_mul]
  rfl

theorem v106 (i : Fin 8192) (j : Fin 1024) : (truncf .bf16 (mulf (mulf (res_main_v84 V) (res_main_v7 V)) (mulf (res_main_v17 V) (subf (broadcastInDim S8192x1024 ![] bcast_S_S8192x1024 (constant S_ .f32 0x3F800000#32)) (res_main_v17 V)))) bitsLt_bf16_f32 : FVec Ideal S8192x1024 .bf16) (ix2 i j) = ((dma w (q i) j : ℝ) : EReal) := by
  pointwise []
  simp only [v84 A, v7 A, v17 A, ← EReal.coe_one, coe_mul, coe_sub, coe_add]
  refine congrArg _ ?_
  unfold dma
  ring

theorem v107 (i : Fin 8192) (j : Fin 1024) : (truncf .bf16 (mulf (mulf (res_main_v84 V) (res_main_v11 V)) (mulf (res_main_v27 V) (subf (broadcastInDim S8192x1024 ![] bcast_S_S8192x1024 (constant S_ .f32 0x3F800000#32)) (res_main_v27 V)))) bitsLt_bf16_f32 : FVec Ideal S8192x1024 .bf16) (ix2 i j) = ((dmr w (q i) j : ℝ) : EReal) := by
  pointwise []
  simp only [v84 A, v11 A, v27 A, ← EReal.coe_one, coe_mul, coe_sub, coe_add]
  refine congrArg _ ?_
  unfold dmr
  ring

theorem v109 (i : Fin 8192) (j : Fin 1024) : (truncf .bf16 (addf (mulf (res_main_v92 V) (res_main_v5_2 V)) (mulf (mulf (res_main_v1 V) (res_main_v92 V)) (mulf (res_main_v5_2 V) (subf (broadcastInDim S8192x1024 ![] bcast_S_S8192x1024 (constant S_ .f32 0x3F800000#32)) (res_main_v5_2 V))))) bitsLt_bf16_f32 : FVec Ideal S8192x1024 .bf16) (ix2 i j) = ((dga w (q i) j : ℝ) : EReal) := by
  pointwise []
  simp only [v92 A, v5_2 A, v1 A, ← EReal.coe_one, coe_mul, coe_sub, coe_add]
  refine congrArg _ ?_
  unfold dga
  ring

theorem v110 (i : Fin 8192) (j : Fin 1024) : (truncf .bf16 (mulf (res_main_v95 V) (res_main_v9_0 V)) bitsLt_bf16_f32 : FVec Ideal S8192x1024 .bf16) (ix2 i j) = ((dh w (q i) j : ℝ) : EReal) := by
  pointwise []
  simp only [v95 A, v9_0 A, coe_mul]
  rfl

theorem v111 (i : Fin 8192) (j : Fin 1024) : (truncf .bf16 (addf (mulf (res_main_v96 V) (res_main_v9_2 V)) (mulf (mulf (res_main_v2 V) (res_main_v96 V)) (mulf (res_main_v9_2 V) (subf (broadcastInDim S8192x1024 ![] bcast_S_S8192x1024 (constant S_ .f32 0x3F800000#32)) (res_main_v9_2 V))))) bitsLt_bf16_f32 : FVec Ideal S8192x1024 .bf16) (ix2 i j) = ((dgr w (q i) j : ℝ) : EReal) := by
  pointwise []
  simp only [v96 A, v9_2 A, v2 A, ← EReal.coe_one, coe_mul, coe_sub, coe_add]
  refine congrArg _ ?_
  unfold dgr
  ring

theorem v102 (b : Fin 32) (n : Fin 16) (r : Fin 256) :
    (transpose S32x16x256 [0, 2, 1] (Host.reduceAdd (shapeCast S32x256x16x64 (mulf (res_main_v93 (F := Ideal) V) (V (Proc.devRef .tc main_arg1))) shapeCasts_S8192x1024_S32x256x16x64) (constant S_ .f32 0x00000000#32) reducesTo_S32x256x16x64_S32x256x16_d3 h_S_) transposes_S32x256x16_S32x16x256_0_2_1 : FVec Ideal S32x16x256 .f32) (ix3 b n r)
      = ((hds w q b n r : ℝ) : EReal) := by
  pointwise
  simp only [v93 A, A.y, coe_mul, coe_sum]
  rfl

theorem v113 (j : S8x128.Idx) :
    (broadcastInDim S8x128 ![] bcast_S_S8x128 (mulf (constant S_ .f32 0x3F000000#32) (Host.reduceAdd (Host.divf (Host.reduceAdd (mulf (res_main_v50 (F := Ideal) V) (res_main_v50 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S8x128 .f32) j
      = ((1 / 2 * ∑ i, ls w (q i) : ℝ) : EReal) := by
  pointwise
  simp only [v50 A, word_half, word_1024, coe_mul, coe_sum, coe_div _ _ (show (1024 : ℝ) ≠ 0 by norm_num)]
  rfl

theorem v67 (j : Fin 1024) :
    (shapeCast S1x1024 (Host.reduceAdd (mulf (res_main_v46 (F := Ideal) V) (res_main_v64 V)) (constant S_ .f32 0x00000000#32) reducesTo_S8192x1024_S1024_d0 h_S_) shapeCasts_S1024_S1x1024 : FVec Ideal S1x1024 .f32) (ix2 0 j)
      = ((∑ r, dy w (q r) j * oh w (q r) j : ℝ) : EReal) := by
  pointwise
  simp only [v46 A, v64 A, coe_mul, coe_sum]
  exact congrArg _ (Finset.sum_congr rfl fun r _ => mul_comm _ _)

end Cert.MergeRef

end
-- ==== Proof.MergeClaim.lean ====
module

public import proofs.«01_k».proof.Defs
public import proofs.«01_k».proof.Proof.Gen.Pre_finite2
public import proofs.«01_k».proof.Proof.MergeFinal
public import proofs.«01_k».proof.Proof.MergeRef

/-! The merge gate's kernel against its reference: from arguments that pass the test for finiteness, all of the kernel's
fourteen arrays are the reference's. -/

@[expose] public section

set_option maxRecDepth 16384

noncomputable section

open Idealize.ShloMosaic Idealize.ShloMosaic.TcCoe Idealize.SL.Sem

namespace Cert.MergeClaim

open Cert.RealLift

/-- A 32-bit array that passes the test holds real numbers. -/
theorem real32 {S : Shape} (X : FVec Ideal S .f32) (hb : Pre_finite2.S_.BroadcastsInDim S (![] : Fin 0 → Fin S.rank))
    (h : cmpf .olt (Host.absf X) (broadcastInDim S ![] hb (constant (F := Ideal) Pre_finite2.S_ .f32 0x7F800000#32)) = fun _ => 1#1) :
    ∃ x : S.Idx → ℝ, X = fun i => ((x i : ℝ) : EReal) :=
  exists_real X fun i => by
    have hi := congrFun h i
    pointwise at hi
    rw [word_top32] at hi
    by_contra hn
    exact absurd (hi.symm.trans (congrArg BitVec.ofBool (decide_eq_false hn))) (by decide)

/-- A 16-bit array that passes the test holds real numbers. -/
theorem real16 {S : Shape} (X : FVec Ideal S .bf16) (hb : Pre_finite2.S_.BroadcastsInDim S (![] : Fin 0 → Fin S.rank))
    (h : cmpf .olt (Host.absf X) (broadcastInDim S ![] hb (constant (F := Ideal) Pre_finite2.S_ .bf16 0x7F80#16)) = fun _ => 1#1) :
    ∃ x : S.Idx → ℝ, X = fun i => ((x i : ℝ) : EReal) :=
  exists_real X fun i => by
    have hi := congrFun h i
    pointwise at hi
    rw [word_top16] at hi
    by_contra hn
    exact absurd (hi.symm.trans (congrArg BitVec.ofBool (decide_eq_false hn))) (by decide)

/-- A matrix is given by its rows and columns. -/
theorem ix2_eta {a b : ℕ} (i : (⟨2, ![a, b]⟩ : Shape).Idx) : i = ix2 (i 0) (i 1) := by
  funext q; match q with | 0 => rfl | 1 => rfl

theorem ix3_eta {a b d : ℕ} (i : (⟨3, ![a, b, d]⟩ : Shape).Idx) : i = ix3 (i 0) (i 1) (i 2) := by
  funext q; match q with | 0 => rfl | 1 => rfl | 2 => rfl

/-- Arguments that pass the test are real arrays. -/
theorem args (m : (ℓ : Loc Cert.Kernel2Ideal.nD Cert.Kernel2Ideal.τ Cert.Kernel2Ideal.sig) → Buf (Elt Ideal) ℓ) (hpre : Cert.Pre_Kernel2Ideal_finite2 m)
    (c : Dev Cert.Kernel2Ideal.nD) : ∃ w q, Merge.Args m c w q := by
  obtain ⟨p0, p1, p2, p3, p4, p5, p6, p7, p8⟩ := hpre c
  obtain ⟨a0, e0⟩ := real16 _ _ p0
  obtain ⟨a1, e1⟩ := real32 _ _ p1
  obtain ⟨a2, e2⟩ := real16 _ _ p2
  obtain ⟨a3, e3⟩ := real32 _ _ p3
  obtain ⟨a4, e4⟩ := real32 _ _ p4
  obtain ⟨a5, e5⟩ := real32 _ _ p5
  obtain ⟨a6, e6⟩ := real32 _ _ p6
  obtain ⟨a7, e7⟩ := real32 _ _ p7
  obtain ⟨a8, e8⟩ := real32 _ _ p8
  exact ⟨⟨fun k j => a5 (ix2 k j), fun k j => a6 (ix2 k j), fun k j => a7 (ix2 k j), fun k => a8 (ix2 0 k)⟩,
    fun i => ⟨fun k => a0 (ix2 i ⟨3072 + k.val, by omega⟩), fun k => a0 (ix2 i ⟨4096 + k.val, by omega⟩), fun k => a0 (ix2 i ⟨k.val, by omega⟩),
      fun k => a0 (ix2 i ⟨2048 + k.val, by omega⟩), fun k => a1 (ix2 i k), fun k => a2 (ix2 i k), fun k => a3 (ix2 i k), fun k => a4 (ix2 i k)⟩,
    { ga := fun i k => congrFun e0 _, gr := fun i k => congrFun e0 _, ma := fun i k => congrFun e0 _, mr := fun i k => congrFun e0 _
      y := fun i k => congrFun e1 _, h := fun i k => congrFun e2 _, x := fun i k => congrFun e3 _, t := fun i k => congrFun e4 _
      wa := fun i k => congrFun e5 _, wr := fun i k => congrFun e6 _, wo := fun i k => congrFun e7 _, g := fun k => congrFun e8 _ }⟩

section
open Cert.Kernel2Ideal Cert.Kernel2Ideal.Gen
open Idealize.ShloMosaic.Pipeline (Dat)

/-- The kernel's run: its arrays and its unchanged arguments. -/
theorem run_all (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v14_0) = (Cert.Kernel2Ideal.Merge.dats m 0 c).arrAt 14 cfg0.N
      ∧ r.2.mem ((c : Thread nD τ).loc main_v14_1) = (Cert.Kernel2Ideal.Merge.dats m 0 c).arrAt 15 cfg0.N
      ∧ r.2.mem ((c : Thread nD τ).loc main_v14_2) = (Cert.Kernel2Ideal.Merge.dats m 0 c).arrAt 16 cfg0.N
      ∧ r.2.mem ((c : Thread nD τ).loc main_v14_3) = (Cert.Kernel2Ideal.Merge.dats m 0 c).arrAt 17 cfg0.N
      ∧ r.2.mem ((c : Thread nD τ).loc main_v14_4) = (Cert.Kernel2Ideal.Merge.dats m 0 c).arrAt 18 cfg0.N
      ∧ r.2.mem ((c : Thread nD τ).loc main_v14_5) = (Cert.Kernel2Ideal.Merge.dats m 0 c).arrAt 19 cfg0.N
      ∧ r.2.mem ((c : Thread nD τ).loc main_v14_6) = (Cert.Kernel2Ideal.Merge.dats m 0 c).arrAt 20 cfg0.N
      ∧ r.2.mem ((c : Thread nD τ).loc main_v14_7) = (Cert.Kernel2Ideal.Merge.dats m 0 c).arrAt 21 cfg0.N
      ∧ r.2.mem ((c : Thread nD τ).loc main_v14_8) = (Cert.Kernel2Ideal.Merge.dats m 0 c).arrAt 22 cfg0.N
      ∧ r.2.mem ((c : Thread nD τ).loc main_v14_9) = (Cert.Kernel2Ideal.Merge.dats m 0 c).arrAt 23 cfg0.N
      ∧ r.2.mem ((c : Thread nD τ).loc main_v14_10) = (Cert.Kernel2Ideal.Merge.dats m 0 c).arrAt 24 cfg0.N
      ∧ r.2.mem ((c : Thread nD τ).loc main_v14_11) = (Cert.Kernel2Ideal.Merge.dats m 0 c).arrAt 25 cfg0.N
      ∧ r.2.mem ((c : Thread nD τ).loc main_v14_12) = (Cert.Kernel2Ideal.Merge.dats m 0 c).arrAt 26 cfg0.N
      ∧ r.2.mem ((c : Thread nD τ).loc main_v14_13) = (Cert.Kernel2Ideal.Merge.dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => by
    obtain ⟨h0, h1, h2, h3, h4, h5, h6, h7, h8, h9, h10, h11, h12, h13⟩ := h.1 c
    exact ⟨h0, h1, h2, h3, h4, h5, h6, h7, h8, h9, h10, h11, h12, h13, h.2.1 c⟩)
    (θ_run_and (Cert.Kernel2Ideal.Merge.run m ρ) (Cert.Kernel2Ideal.Merge.frame m ρ))

end

/-- Two matrices agree when their elements do. -/
theorem eq2 (X Y : (⟨2, ![8192, 1024]⟩ : Shape).Idx → EReal) (h : ∀ r j, X (ix2 r j) = Y (ix2 r j)) : X = Y := by
  funext i
  rw [ix2_eta i]
  exact h _ _

set_option maxHeartbeats 4000000 in
/-- All results of the kernel are the reference's. -/
theorem algebraic : Cert.algebraic_Kernel2Ideal_Reference2Ideal_pre_finite2 := by
  intro m g m' g' hpre hagree
  refine ⟨_, _, _, _, _, _, _, _, _, _, _, _, _, _, run_all m g, (θ_run _ _ _).mono (fun r h c => ?_) (Cert.Reference2Ideal.Value.run m' g')⟩
  obtain ⟨w, q, A⟩ := args m hpre c
  obtain ⟨q0, q1, q2, q3, q4, q5, q6, q7, q8⟩ := hagree c
  have B : MergeRef.Args (StableHlo.launchContents m' c) w q :=
    { ga := fun i k => (congrFun q0 _).trans (A.ga i k), gr := fun i k => (congrFun q0 _).trans (A.gr i k)
      ma := fun i k => (congrFun q0 _).trans (A.ma i k), mr := fun i k => (congrFun q0 _).trans (A.mr i k)
      y := fun i k => (congrFun q1 _).trans (A.y i k), h := fun i k => (congrFun q2 _).trans (A.h i k)
      x := fun i k => (congrFun q3 _).trans (A.x i k), t := fun i k => (congrFun q4 _).trans (A.t i k)
      wa := fun i k => (congrFun q5 _).trans (A.wa i k), wr := fun i k => (congrFun q6 _).trans (A.wr i k)
      wo := fun i k => (congrFun q7 _).trans (A.wo i k), g := fun k => (congrFun q8 _).trans (A.g k) }
  obtain ⟨h0, h1, h2, h3, h4, h5, h6, h7, h8, h9, h10, h11, h12, h13, ha⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, ha⟩
  · rw [Merge.final_14 A]
    exact eq2 _ _ fun r j => MergeRef.v83 B r j
  · rw [Merge.final_15 A]
    exact eq2 _ _ fun r j => MergeRef.v88 B r j
  · rw [Merge.final_16 A]
    exact eq2 _ _ fun r j => MergeRef.v85 B r j
  · rw [Merge.final_17 A]
    exact eq2 _ _ fun r j => MergeRef.v106 B r j
  · rw [Merge.final_18 A]
    exact eq2 _ _ fun r j => MergeRef.v107 B r j
  · rw [Merge.final_19 A]
    exact eq2 _ _ fun r j => MergeRef.v93 B r j
  · rw [Merge.final_20 A]
    exact eq2 _ _ fun r j => MergeRef.v109 B r j
  · rw [Merge.final_21 A]
    exact eq2 _ _ fun r j => MergeRef.v110 B r j
  · rw [Merge.final_22 A]
    exact eq2 _ _ fun r j => MergeRef.v111 B r j
  · rw [Merge.final_23 A]
    exact eq2 _ _ fun r j => MergeRef.v32 B r j
  · rw [Merge.final_24 A]
    exact eq2 _ _ fun r j => MergeRef.v64 B r j
  · rw [Merge.final_25 A]
    funext i
    obtain ⟨b, n, r, rfl⟩ : ∃ (b : Fin 32) (n : Fin 16) (r : Fin 256), i = ix3 b n r := ⟨i 0, i 1, i 2, ix3_eta i⟩
    exact MergeRef.v102 B b n r
  · rw [Merge.final_26 A]
    funext i
    exact MergeRef.v113 B i
  · rw [Merge.final_27 A]
    funext i
    obtain ⟨j, rfl⟩ : ∃ j : Fin 1024, i = ix2 0 j := ⟨i 1, (ix2_eta i).trans (congrArg (fun q => ix2 q (i 1)) (Subsingleton.elim (α := Fin 1) _ _))⟩
    exact MergeRef.v67 B j

end Cert.MergeClaim

end
-- ==== Proof.MergeBits.lean ====
module

public import proofs.«01_k».proof.Defs
public import proofs.«01_k».proof.Proof.Gen.Kernel2
public import proofs.«01_k».proof.Proof.MergeFrame

/-! The merge gate's run for the program as printed: it is the program that the run is proved for over any numbers. -/

@[expose] public section

set_option maxRecDepth 16384

noncomputable section

open Idealize.ShloMosaic Idealize.SL.Sem

namespace Cert.MergeBits

attribute [local instance] Cert.Kernel2.Gen.facts Cert.Kernel2Ideal.Gen.facts

set_option maxHeartbeats 8000000 in
/-- The two programs call the same body at their one label. -/
theorem body_eq : Cert.Kernel2.defs₀ (F := Bits) = Cert.Kernel2Ideal.defs₀ (F := Bits) := by
  refine congrArg Defs.onTc (funext fun l => ?_)
  match l with
  | ⟨0, _⟩ => exact funext fun ⟨t, s⟩ => rfl

set_option maxHeartbeats 8000000 in
/-- So they have the same table of bodies. -/
theorem defs_eq : Cert.Kernel2.defs (F := Bits) = Cert.Kernel2Ideal.defs (F := Bits) :=
  congrArg (Pipeline.defs (Cert.Kernel2.pcfgs (F := Bits))) body_eq

set_option maxHeartbeats 8000000 in
/-- Every run of the program as printed ends. -/
theorem frame : Cert.quiescent_Kernel2 (hKernel2 := Cert.Kernel2.Gen.facts) := by
  intro m ρ _
  rw [defs_eq]
  exact (θ_run Cert.Kernel2Ideal.defs _ _).mono (fun _ h => h) (Cert.Kernel2Ideal.Merge.frame (F := Bits) m ρ)

end Cert.MergeBits

end
-- ==== Proof.NormFrame.lean ====
module

public import proofs.«01_k».proof.Proof.Gen.Kernel5Ideal.Frame
public import proofs.«01_k».proof.Proof.Gen.Kernel5Ideal.Launch
public import proofs.«01_k».proof.Proof.Gen.Kernel5Ideal.Skeleton
public import Idealize.ShloMosaic.Lib.VecWindow
public import Idealize.ShloMosaic.Lib.Claim
public import Idealize.ShloMosaic.Lib.Pipeline.TableIdle

/-! The forward norm and the projection to the queries, keys, values and forget gate, at every point of its grid: the first of a
row tile's three points norms the rows and projects them to the forget gate, every point projects the normed rows to one
section. The normed rows and the forget gate's logits stay in their output buffers until the tile's last point. -/

@[expose] public section

set_option maxRecDepth 16384

noncomputable section

namespace Cert.Kernel5Ideal.Norm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD)

/-- A buffer that the body only reads is handed back as it was. -/
theorem kept {s : Shape} {e : EltTy} {a : Memref sig .tc .vmem s e} (h : a.IsWhole) (x : Vec F s e) :
    iprop(a.view.loc (c : Thread nD τ) ↦[a.view.set]{fullShare} h.unread x) ⊢ (iprop(∃ f, ⌜a.view.read (Elt F) f = x⌝ ∗ (a.view.loc (c : Thread nD τ) ↦[a.view.set]{fullShare} f)) : sProp 𝕄) := by
  iintro H; iexists _; isplitr; · ipureintro; exact h.read_unread _
  iexact H

/-- A store of a whole buffer leaves its payload there, whatever was there before. -/
theorem left {s : Shape} {e : EltTy} {a : Memref sig .tc .vmem s e} {off : Fin s.rank → ℕ} {inb : ∀ k, off k + s.size k ≤ s.size k}
    {w : (Rect.unit off s.size inb).shape.Idx → Elt F e} {f : a.view.ty.Contents (Elt F)} {L : List (View.Piece (Elt F) s e)} :
    iprop(a.view.loc (c : Thread nD τ) ↦[a.view.set]{fullShare} a.view.writes (Elt F) f (⟨Rect.unit off s.size inb, w⟩ :: L))
      ⊢ (iprop(∃ f, ⌜a.view.read (Elt F) f = w⌝ ∗ (a.view.loc (c : Thread nD τ) ↦[a.view.set]{fullShare} f)) : sProp 𝕄) := by
  iintro H; iexists _; isplitr
  swap; · iexact H
  ipureintro; exact View.read_writes_full _ _ _ _ _

/-- A load of the whole of a buffer that holds `x` reads `x`. -/
theorem rd {s : Shape} {e : EltTy} {a : Memref sig .tc .vmem s e} (h : a.IsWhole) (x : Vec F s e) {off : Fin s.rank → ℕ}
    (inb : ∀ k, off k + s.size k ≤ s.size k) :
    View.readAt (Elt F) a.view (Rect.unit off s.size inb).toLoadRect (h.unread x) = x := by
  rw [View.readAt_full, h.read_unread]

variable {i : grid0.Coords}
variable {a2 : Memref sig .tc .vmem S1024x1024 .f32} {a3 : Memref sig .tc .vmem S1x1024 .f32} {a4 : Memref sig .tc .vmem S1024x1024 .bf16}
  {a5 : Memref sig .tc .vmem S1x1024 .f32} {a6 : Memref sig .tc .vmem S128x1024 .bf16} {a7 : Memref sig .tc .vmem S1x128 .f32}
  {a8 a9 : Memref sig .tc .vmem S1024x1024 .bf16} {a10 : Memref sig .tc .vmem S1024x128 .f32}
  {h2 : a2.IsWhole} {h3 : a3.IsWhole} {h4 : a4.IsWhole} {h5 : a5.IsWhole} {h6 : a6.IsWhole} {h7 : a7.IsWhole} {h8 : a8.IsWhole} {h9 : a9.IsWhole}
  {h10 : a10.IsWhole}

/-- The six inputs' buffers, at their blocks. -/
def ins (a2 : Memref sig .tc .vmem S1024x1024 .f32) (a3 : Memref sig .tc .vmem S1x1024 .f32) (a4 : Memref sig .tc .vmem S1024x1024 .bf16)
    (a5 : Memref sig .tc .vmem S1x1024 .f32) (a6 : Memref sig .tc .vmem S128x1024 .bf16) (a7 : Memref sig .tc .vmem S1x128 .f32)
    (x : Vec F S1024x1024 .f32) (g : Vec F S1x1024 .f32) (w : Vec F S1024x1024 .bf16) (b : Vec F S1x1024 .f32) (wf : Vec F S128x1024 .bf16) (bf : Vec F S1x128 .f32) : sProp 𝕄 :=
  iprop(owns (c : Thread nD τ) a2 fullShare x ∗ owns (c : Thread nD τ) a3 fullShare g ∗ owns (c : Thread nD τ) a4 fullShare w
    ∗ owns (c : Thread nD τ) a5 fullShare b ∗ owns (c : Thread nD τ) a6 fullShare wf ∗ owns (c : Thread nD τ) a7 fullShare bf)

variable (x : Vec F S1024x1024 .f32) (g : Vec F S1x1024 .f32) (w : Vec F S1024x1024 .bf16) (b : Vec F S1x1024 .f32) (wf : Vec F S128x1024 .bf16) (bf : Vec F S1x128 .f32)

set_option maxHeartbeats 1600000 in
/-- The body at a row tile's first point. -/
theorem body_first (hc : k0_cond1 i = 1#1) (Q : sProp 𝕄) :
    iprop(ins c a2 a3 a4 a5 a6 a7 x g w b wf bf
        ∗ (∃ d, owns (c : Thread nD τ) a8 fullShare d)
        ∗ (∃ d, owns (c : Thread nD τ) a9 fullShare d)
        ∗ (∃ d, owns (c : Thread nD τ) a10 fullShare d)
        ∗ (iprop(ins c a2 a3 a4 a5 a6 a7 x g w b wf bf
            ∗ owns (c : Thread nD τ) a8 fullShare (k0_pay1 x g)
            ∗ owns (c : Thread nD τ) a9 fullShare (k0_pay3 (k0_pay1 x g) w b)
            ∗ owns (c : Thread nD τ) a10 fullShare (k0_pay2 x g wf bf))
          -∗ Q))
      ⊢ wp frame (wpE (defs₀ (F := F)) Variants.none c none) Set.univ (cc0_norm_qkv i a2 h2 a3 h3 a4 h4 a5 h5 a6 h6 a7 h7 a8 h8 a9 h9 a10 h10) (fun _ => Q) := by
  rw [cc0_norm_qkv_eq_skeleton]; unfold cc0_norm_qkv_skel ins owns
  iintro ⟨⟨⟨%f2, %e2, H2⟩, ⟨%f3, %e3, H3⟩, ⟨%f4, %e4, H4⟩, ⟨%f5, %e5, H5⟩, ⟨%f6, %e6, H6⟩, ⟨%f7, %e7, H7⟩⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact hc)
  sl_unfold_run_names
  simp only [rd h2 x, rd h3 g, rd h4 w, rd h5 b, rd h6 wf, rd h7 bf]
  rw [View.readCov_full a8.view]
  sl_step
  iapply Hk
  isplitl [H2 H3 H4 H5 H6 H7]
  · isplitl [H2]; · iapply kept c h2 x; iexact H2
    isplitl [H3]; · iapply kept c h3 g; iexact H3
    isplitl [H4]; · iapply kept c h4 w; iexact H4
    isplitl [H5]; · iapply kept c h5 b; iexact H5
    isplitl [H6]; · iapply kept c h6 wf; iexact H6
    iapply kept c h7 bf; iexact H7
  isplitl [H8]; · iapply left c; iexact H8
  isplitl [H9]; · iapply left c; iexact H9
  iapply left c; iexact H10

set_option maxHeartbeats 1600000 in
/-- The body at a row tile's other points: the normed rows and the logits are there already. -/
theorem body_next (hc : ¬ k0_cond1 i = 1#1) (r : Vec F S1024x1024 .bf16) (f : Vec F S1024x128 .f32) (Q : sProp 𝕄) :
    iprop(ins c a2 a3 a4 a5 a6 a7 x g w b wf bf
        ∗ owns (c : Thread nD τ) a8 fullShare r
        ∗ (∃ d, owns (c : Thread nD τ) a9 fullShare d)
        ∗ owns (c : Thread nD τ) a10 fullShare f
        ∗ (iprop(ins c a2 a3 a4 a5 a6 a7 x g w b wf bf
            ∗ owns (c : Thread nD τ) a8 fullShare r
            ∗ owns (c : Thread nD τ) a9 fullShare (k0_pay3 r w b)
            ∗ owns (c : Thread nD τ) a10 fullShare f)
          -∗ Q))
      ⊢ wp frame (wpE (defs₀ (F := F)) Variants.none c none) Set.univ (cc0_norm_qkv i a2 h2 a3 h3 a4 h4 a5 h5 a6 h6 a7 h7 a8 h8 a9 h9 a10 h10) (fun _ => Q) := by
  rw [cc0_norm_qkv_eq_skeleton]; unfold cc0_norm_qkv_skel ins owns
  iintro ⟨⟨⟨%f2, %e2, H2⟩, ⟨%f3, %e3, H3⟩, ⟨%f4, %e4, H4⟩, ⟨%f5, %e5, H5⟩, ⟨%f6, %e6, H6⟩, ⟨%f7, %e7, H7⟩⟩, ⟨%f8, %e8, H8⟩, ⟨%d9, %f9, -, H9⟩, ⟨%f10, %e10, H10⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h10.eq_unread e10
  sl_exec (disch := first | sl_exact hc)
  sl_unfold_run_names
  simp only [rd h4 w, rd h5 b, rd h8 r]
  sl_step
  iapply Hk
  isplitl [H2 H3 H4 H5 H6 H7]
  · isplitl [H2]; · iapply kept c h2 x; iexact H2
    isplitl [H3]; · iapply kept c h3 g; iexact H3
    isplitl [H4]; · iapply kept c h4 w; iexact H4
    isplitl [H5]; · iapply kept c h5 b; iexact H5
    isplitl [H6]; · iapply kept c h6 wf; iexact H6
    iapply kept c h7 bf; iexact H7
  isplitl [H8]; · iapply kept c h8 r; iexact H8
  isplitl [H9]; · iapply left c; iexact H9
  iapply kept c h10 f; iexact H10

end Body

variable (m : (ℓ : Loc nD τ sig) → Buf (Elt F) ℓ) (ρ : Dev nD → PrngReg)

/-- The first point of `t`'s row tile. -/
def base (t : Fin cfg0.N) : Fin cfg0.N := ⟨t.val / 3 * 3, lt_of_le_of_lt (Nat.div_mul_le_self _ _) t.isLt⟩

theorem base_first (t : Fin cfg0.N) (h : t.val % 3 = 0) : base t = t := Fin.ext (by unfold base; dsimp only; omega)

theorem base_prev (t : Fin cfg0.N) (h : t.val % 3 ≠ 0) (h' : t.val - 1 < cfg0.N) : base ⟨t.val - 1, h'⟩ = base t :=
  Fin.ext (by unfold base; dsimp only; omega)

/-- The normed rows of `t`'s row tile. -/
def normed (c : Dev nD) (t : Fin cfg0.N) : Vec F S1024x1024 .bf16 := k0_pay1 (iblk m c 0 (base t)) (iblk m c 1 (base t))

/-- The forget gate's logits of `t`'s row tile. -/
def logits (c : Dev nD) (t : Fin cfg0.N) : Vec F S1024x128 .f32 :=
  k0_pay2 (iblk m c 0 (base t)) (iblk m c 1 (base t)) (iblk m c 4 (base t)) (iblk m c 5 (base t))

/-- The proof data: the arrays as the host leaves them; after every point the inputs' blocks as they were, the row tile's normed rows and
    logits, and the point's section of the projection. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => normed m c t
    | ⟨7, _⟩ => k0_pay3 (normed m c t) (X0_2 m c t) (iblk m c 3 t)
    | ⟨8, _⟩ => logits m c t
    | ⟨_ + 9, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = normed m c t := by dsimp only [dats]
theorem after_7 (c : Dev nD) (t : Fin cfg0.N) : (dats m 0 c).after 7 t = k0_pay3 (normed m c t) (X0_2 m c t) (iblk m c 3 t) := by dsimp only [dats]
theorem after_8 (c : Dev nD) (t : Fin cfg0.N) : (dats m 0 c).after 8 t = logits m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The norm is computed at a row tile's first point. -/
theorem first_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- The buffers of the normed rows and of the logits are written there and nowhere else. -/
theorem idle_6 (t : Fin cfg0.N) : cfg0.idle 6 (grid0.coords t) = !decide (t.val % 3 = 0) := by
  show (!(k0_cond1 (grid0.coords t) == 1#1)) = _
  by_cases e : t.val % 3 = 0
  · rw [(first_iff t).mpr e]; simp [e]
  · have : ¬ k0_cond1 (grid0.coords t) = 1#1 := fun h' => e ((first_iff t).mp h')
    simp [e, this]

theorem idle_8 (t : Fin cfg0.N) : cfg0.idle 8 (grid0.coords t) = !decide (t.val % 3 = 0) := idle_6 t

theorem not_first {t : Fin cfg0.N} (h : cfg0.idle 6 (grid0.coords t) = true) : t.val % 3 ≠ 0 := by
  rw [idle_6] at h; simpa using h

/-- After a row tile's first point they hold what was written. -/
theorem held_6 : ∀ t : Fin cfg0.N, t.val % 3 ≠ 0 → cfg0.fresh 6 t.val = false :=
  (by decide +kernel : ∀ t : Fin grid0.N, t.val % 3 ≠ 0 → cfg0.fresh 6 t.val = false)

theorem held_8 : ∀ t : Fin cfg0.N, t.val % 3 ≠ 0 → cfg0.fresh 8 t.val = false :=
  (by decide +kernel : ∀ t : Fin grid0.N, t.val % 3 ≠ 0 → cfg0.fresh 8 t.val = false)

theorem normed_prev (c : Dev nD) (t : Fin cfg0.N) (h : t.val % 3 ≠ 0) (h') : normed m c t = normed m c ⟨t.val - 1, h'⟩ := by
  unfold normed; rw [base_prev t h h']

theorem logits_prev (c : Dev nD) (t : Fin cfg0.N) (h : t.val % 3 ≠ 0) (h') : logits m c t = logits m c ⟨t.val - 1, h'⟩ := by
  unfold logits; rw [base_prev t h h']

theorem before_6 (c : Dev nD) (t : Fin cfg0.N) (h : t.val % 3 ≠ 0) (d) : (dats m 0 c).before 6 t d = normed m c t := by
  rw [(dats m 0 c).before_out_traj 6 rfl (fun _ _ => rfl) (fun t _ hi _ => by
    rw [after_6, after_6]; exact normed_prev m c t (not_first hi) _) t.val t rfl d, held_6 t h, if_neg Bool.false_ne_true, after_6]
  exact (normed_prev m c t h _).symm

theorem before_8 (c : Dev nD) (t : Fin cfg0.N) (h : t.val % 3 ≠ 0) (d) : (dats m 0 c).before 8 t d = logits m c t := by
  rw [(dats m 0 c).before_out_traj 8 rfl (fun _ _ => rfl) (fun t _ hi _ => by
    rw [after_8, after_8]; exact logits_prev m c t (not_first hi) _) t.val t rfl d, held_8 t h, if_neg Bool.false_ne_true, after_8]
  exact (logits_prev m c t h _).symm

/-- What the normed rows' buffer is left with. -/
theorem leaves_6 (c : Dev nD) (t : Fin cfg0.N) :
    owns (c : Thread nD τ) (st0_6 t) fullShare (normed m c t) ⊢ ((dats m 0 c).leavesExact 6 t : sProp 𝕄) := by
  by_cases e : t.val % 3 = 0
  · have hi : cfg0.idle 6 (cfg0.grid.coords t) = false := (idle_6 t).trans (by simp [e])
    unfold Dat.leavesExact
    rw [hi, after_6]
  · have hi : cfg0.idle 6 (cfg0.grid.coords t) = true := (idle_6 t).trans (by simp [e])
    cases hf : (cfg0.win 6).flush t
    · rw [Dat.leavesExact_idle _ 6 t hi hf]
      iintro H; iexists (normed m c t)
      rw [before_6 m c t e]; iexact H
    · unfold Dat.leavesExact
      rw [hi, hf, after_6]

/-- What the logits' buffer is left with. -/
theorem leaves_8 (c : Dev nD) (t : Fin cfg0.N) :
    owns (c : Thread nD τ) (st0_8 t) fullShare (logits m c t) ⊢ ((dats m 0 c).leavesExact 8 t : sProp 𝕄) := by
  by_cases e : t.val % 3 = 0
  · have hi : cfg0.idle 8 (cfg0.grid.coords t) = false := (idle_8 t).trans (by simp [e])
    unfold Dat.leavesExact
    rw [hi, after_8]
  · have hi : cfg0.idle 8 (cfg0.grid.coords t) = true := (idle_8 t).trans (by simp [e])
    cases hf : (cfg0.win 8).flush t
    · rw [Dat.leavesExact_idle _ 8 t hi hf]
      iintro H; iexists (logits m c t)
      rw [before_8 m c t e]; iexact H
    · unfold Dat.leavesExact
      rw [hi, hf, after_8]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ (dats m 0 c).leavesExact 8 t)

/-- From what the body leaves at a point, what it returns there. -/
theorem post_of (c : Dev nD) (t : Fin cfg0.N) :
    iprop((dats m 0 c).Φ t.castSucc ∗ (dats m 0 c).owesAt () t.castSucc
        ∗ ins c (st0_0 t) (st0_1 t) (st0_2 t) (st0_3 t) (st0_4 t) (st0_5 t) (iblk m c 0 t) (iblk m c 1 t) (X0_2 m c t) (iblk m c 3 t) (iblk m c 4 t) (iblk m c 5 t)
        ∗ owns (c : Thread nD τ) (st0_6 t) fullShare (normed m c t)
        ∗ owns (c : Thread nD τ) (st0_7 t) fullShare (k0_pay3 (normed m c t) (X0_2 m c t) (iblk m c 3 t))
        ∗ owns (c : Thread nD τ) (st0_8 t) fullShare (logits m c t))
      ⊢ bodyPost m c t := by
  unfold bodyPost ins
  rw [show (dats m 0 c).Φ t.succ = (dats m 0 c).Φ t.castSucc from rfl, show (dats m 0 c).owesAt () t.succ = (dats m 0 c).owesAt () t.castSucc from rfl,
    after_0, after_1, after_2, after_3, after_4, after_5, after_7]
  iintro ⟨Hp, Ho, ⟨H0, H1, H2, H3, H4, H5⟩, H6, H7, H8⟩
  isplitl [Hp]; · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves_6 m c t; iexact H6
  isplitl [H7]; · iexact H7
  iapply leaves_8 m c t; iexact H8

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5]
  by_cases hm : t.val % 3 = 0
  · have hn : normed m c t = k0_pay1 (iblk m c 0 t) (iblk m c 1 t) := by unfold normed; rw [base_first t hm]
    have hl : logits m c t = k0_pay2 (iblk m c 0 t) (iblk m c 1 t) (iblk m c 4 t) (iblk m c 5 t) := by unfold logits; rw [base_first t hm]
    iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply body_first c (iblk m c 0 t) (iblk m c 1 t) (X0_2 m c t) (iblk m c 3 t) (iblk m c 4 t) (iblk m c 5 t) ((first_iff t).mpr hm)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    iintro ⟨Hi, H6, H7, H8⟩
    iapply post_of m c t
    rw [hn, hl]
    isplitl [Hp]; · iexact Hp
    isplitl [Ho]; · iexact Ho
    isplitl [Hi]; · iexact Hi
    isplitl [H6]; · iexact H6
    isplitl [H7]; · iexact H7
    iexact H8
  · simp only [before_6 m c t hm, before_8 m c t hm]
    iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply body_next c (iblk m c 0 t) (iblk m c 1 t) (X0_2 m c t) (iblk m c 3 t) (iblk m c 4 t) (iblk m c 5 t) (fun h => hm ((first_iff t).mp h)) (normed m c t) (logits m c t)
    isplitl [H0 H1 H2 H3 H4 H5]
    · unfold ins
      isplitl [H0]; · iexact H0
      isplitl [H1]; · iexact H1
      isplitl [H2]; · iexact H2
      isplitl [H3]; · iexact H3
      isplitl [H4]; · iexact H4
      iexact H5
    isplitl [H6]; · iexact H6
    isplitl [H7]; · iexists _; iexact H7
    isplitl [H8]; · iexact H8
    iintro ⟨Hi, H6, H7, H8⟩
    iapply post_of m c t
    isplitl [Hp]; · iexact Hp
    isplitl [Ho]; · iexact Ho
    isplitl [Hi]; · iexact Hi
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to an end, with every array as the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

/-- The three output arrays end as the pipeline's write-backs make them. -/
theorem run : θ_run defs (onTc (τ := τ) (main (F := F))) ⟨m, fun _ => 0, ρ⟩ (fun r => ∀ c : Dev nD,
      r.2.mem ((c : Thread nD τ).loc main_v24_0) = (dats m 0 c).arrAt 6 cfg0.N
      ∧ r.2.mem ((c : Thread nD τ).loc main_v24_1) = (dats m 0 c).arrAt 7 cfg0.N
      ∧ r.2.mem ((c : Thread nD τ).loc main_v24_2) = (dats m 0 c).arrAt 8 cfg0.N) :=
  (θ_run defs _ _).mono (fun r h c => ⟨(h c).1 6, (h c).1 7, (h c).1 8⟩) (run_main m ρ)

end Cert.Kernel5Ideal.Norm

end
-- ==== Proof.NormBits.lean ====
module

public import proofs.«01_k».proof.Defs
public import proofs.«01_k».proof.Proof.Gen.Kernel5
public import proofs.«01_k».proof.Proof.NormFrame

/-! The forward norm's run for the program as printed: it is the program that the run is proved for over any numbers. -/

@[expose] public section

set_option maxRecDepth 16384

noncomputable section

open Idealize.ShloMosaic Idealize.SL.Sem

namespace Cert.NormBits

attribute [local instance] Cert.Kernel5.Gen.facts Cert.Kernel5Ideal.Gen.facts

set_option maxHeartbeats 8000000 in
/-- The two programs call the same body at their one label. -/
theorem body_eq : Cert.Kernel5.defs₀ (F := Bits) = Cert.Kernel5Ideal.defs₀ (F := Bits) := by
  refine congrArg Defs.onTc (funext fun l => ?_)
  match l with
  | ⟨0, _⟩ => exact funext fun ⟨t, s⟩ => rfl

set_option maxHeartbeats 8000000 in
/-- So they have the same table of bodies. -/
theorem defs_eq : Cert.Kernel5.defs (F := Bits) = Cert.Kernel5Ideal.defs (F := Bits) :=
  congrArg (Pipeline.defs (Cert.Kernel5.pcfgs (F := Bits))) body_eq

set_option maxHeartbeats 8000000 in
/-- Every run of the program as printed ends. -/
theorem frame : Cert.quiescent_Kernel5 (hKernel5 := Cert.Kernel5.Gen.facts) := by
  intro m ρ _
  rw [defs_eq]
  exact (θ_run Cert.Kernel5Ideal.defs _ _).mono (fun _ h => h) (Cert.Kernel5Ideal.Norm.frame (F := Bits) m ρ)

end Cert.NormBits

end
-- ==== Proof.NormFinal.lean ====
module

public import proofs.«01_k».proof.Proof.NormFrame
public import proofs.«01_k».proof.Proof.RealLift

/-! What the forward norm and its projection have written when they end: the normed rows, each row's products with the
    projection's first 3072 columns plus the bias, and its products with the sixteen forget columns plus their bias, filled up
    with zeros to 128 lanes. The host lays the projection's columns out as rows of one array, the forget columns last. -/

@[expose] public section

set_option maxRecDepth 16384

noncomputable section

open Idealize.ShloMosaic Idealize.ShloMosaic.TcCoe Idealize.SL.Sem
open Idealize.ShloMosaic.Pipeline (Dat)

namespace Cert.Norm

open Cert.Kernel5Ideal Cert.Kernel5Ideal.Gen Cert.Kernel5Ideal.Norm

variable (m : (ℓ : Loc nD τ sig) → Buf (Elt Ideal) ℓ) (c : Dev nD)

/-- The rows, the norm's weights, the projection and its bias, as given. -/
def rows : FVec Ideal S8192x1024 .f32 := m ((c : Thread nD τ).loc main_arg0)
def scale : FVec Ideal S1x1024 .f32 := m ((c : Thread nD τ).loc main_arg1)
def proj : FVec Ideal S1024x9232 .f32 := m ((c : Thread nD τ).loc main_arg2)
def bias : FVec Ideal S1x9232 .f32 := m ((c : Thread nD τ).loc main_arg3)

/-- A row over the root of its mean square, times the norm's weights. -/
def normRow (X W : Fin 1024 → EReal) (j : Fin 1024) : EReal :=
  X j * Ideal.rsqrt (Ideal.div (∑ k, X k * X k) (Ideal.ofBits .f32 0x44800000#32) + Ideal.ofBits .f32 0x358637BD#32) * W j

/-- The normed rows. -/
def hidden (i : S8192x1024.Idx) : EReal := normRow (fun k => rows m c (ix2 (i 0) k)) (fun k => scale m c (ix2 0 k)) (i 1)

/-- A normed row's product with column `q` of the projection, plus the bias. -/
def logit (r : Fin 8192) (q : Fin 9232) : EReal := (∑ k : Fin 1024, hidden m c (ix2 r k) * proj m c (ix2 k q)) + bias m c (ix2 0 q)

/-- The queries, keys and values. -/
def qkv (i : S8192x3072.Idx) : EReal := logit m c (i 0) ⟨(i 1).val, by have h : (i 1).val < 3072 := (i 1).isLt; omega⟩

/-- The forget gate's logits, filled up with zeros. -/
def forget (i : S8192x128.Idx) : EReal := if h : (i 1).val < 16 then logit m c (i 0) ⟨3072 + (i 1).val, by omega⟩ else 0

theorem forget_lt (r : Fin 8192) (j : Fin 128) (h : j.val < 16) : forget m c (ix2 r j) = logit m c r ⟨3072 + j.val, by omega⟩ := dif_pos (show ((ix2 r j : S8192x128.Idx) 1).val < 16 from h)

theorem forget_ge (r : Fin 8192) (j : Fin 128) (h : ¬ j.val < 16) : forget m c (ix2 r j) = 0 := dif_neg (show ¬ ((ix2 r j : S8192x128.Idx) 1).val < 16 from h)

/-- A transposed slice of the columns from `o` on, at one element. -/
theorem column (X : FVec Ideal S1024x9232 .f32) (o : ℕ) (hs : S1024x9232.Slices ![0, o] S1024x1024) (ht : S1024x1024.Transposes [1, 0] S1024x1024)
    (r j : Fin 1024) (ho : o + 1024 ≤ 9232) :
    transpose S1024x1024 [1, 0] (extractStridedSlice S1024x1024 ![0, o] X hs) ht (ix2 r j) = X (ix2 j ⟨o + r.val, by omega⟩) := by
  pointwise
  blk_ext []

/-- The forget columns, transposed and padded below with zeros, at one element. -/
theorem padded (X : FVec Ideal S1024x9232 .f32) (hs : S1024x9232.Slices ![0, 3072] S1024x16) (ht : S1024x16.Transposes [1, 0] S16x1024)
    (hp : S16x1024.Pads ![0, 0] ![112, 0] ![0, 0] S128x1024) (r : Fin 128) (j : Fin 1024) :
    pad S128x1024 ![0, 0] ![112, 0] ![0, 0] (transpose S16x1024 [1, 0] (extractStridedSlice S1024x16 ![0, 3072] X hs) ht)
        (constant (F := Ideal) S_ .f32 0#32) hp h_S_ (ix2 r j)
      = if h : r.val < 16 then X (ix2 j ⟨3072 + r.val, by omega⟩) else 0 := by
  pointwise

set_option maxHeartbeats 4000000 in
/-- The first 3072 rows of the stacked weights are the projection's columns, the last 128 its forget columns and zeros. -/
theorem stacked (i : Fin 8320) (j : Fin 1024) (hi : i.val < 3072 ∨ 8192 ≤ i.val) :
    (show FVec Ideal S8320x1024 .bf16 from V m c main_v22) (ix2 i j)
      = if h : i.val < 3072 then proj m c (ix2 j ⟨i.val, by omega⟩)
        else if h : i.val < 8208 then proj m c (ix2 j ⟨i.val - 5120, by omega⟩)
        else 0 := by
  unfold V
  after_results_simp
  pointwise
  after_results_simp
  obtain ⟨X, hX⟩ : ∃ X : FVec Ideal S1024x9232 .f32, m ((c : Thread nD τ).loc main_arg2) = X := ⟨_, rfl⟩
  have hX' : m (c, Proc.tc.devRef main_arg2) = X := hX
  have hP : proj m c = X := hX
  simp only [hX, hX', hP, padded]
  split_ifs
  all_goals try (exfalso; omega)
  all_goals first | rw [column X _ _ _ _ _ (by norm_num)] | rw [padded] | skip
  all_goals first
    | rw [dif_pos (show i.val < 3072 by omega)]
    | rw [dif_neg (show ¬ i.val < 3072 by omega)]
  iterate 3 (refine congrArg (fun q => X (ix2 j q)) (Fin.ext ?_); dsimp only; omega)
  by_cases hf : i.val < 8208
  · rw [dif_pos hf]
    refine (dif_pos (by dsimp only; omega)).trans ?_
    refine congrArg (fun q => X (ix2 j q)) (Fin.ext ?_); dsimp only; omega
  · rw [dif_neg hf]
    exact dif_neg (by dsimp only; omega)

theorem idx : ∀ t : Fin cfg0.N, win0_0.index t = ![t.val / 3, 0] ∧ win0_1.index t = ![0, 0] ∧ win0_2.index t = ![t.val % 3, 0]
    ∧ win0_3.index t = ![0, t.val % 3] ∧ win0_4.index t = ![64, 0] ∧ win0_5.index t = ![0, 0] ∧ win0_6.index t = ![t.val / 3, 0]
    ∧ win0_7.index t = ![t.val / 3, t.val % 3] ∧ win0_8.index t = ![t.val / 3, 0] :=
  (by decide +kernel : ∀ t : Fin grid0.N, _)

theorem lt24 (t : Fin cfg0.N) : t.val < 24 := lt_of_lt_of_eq t.isLt (show cfg0.N = 24 from N_0)

theorem base_div (t : Fin cfg0.N) : (base t).val / 3 = t.val / 3 := by unfold base; dsimp only; omega

theorem rd0 (t : Fin cfg0.N) (r k : Fin 1024) :
    iblk m c 0 t (ix2 r k) = rows m c (ix2 ⟨t.val / 3 * 1024 + r.val, by have := lt24 t; omega⟩ k) := by
  unfold rows; blk_ext [iblk, V, idx t]

theorem rd1 (t : Fin cfg0.N) (k : Fin 1024) : iblk m c 1 t (ix2 0 k) = scale m c (ix2 0 k) := by
  unfold scale; blk_ext [iblk, V, idx t]

theorem rd2 (t : Fin cfg0.N) (r k : Fin 1024) : X0_2 m c t (ix2 r k) = proj m c (ix2 k ⟨t.val % 3 * 1024 + r.val, by omega⟩) := by
  have e : X0_2 m c t (ix2 r k) = (show FVec Ideal S8320x1024 .bf16 from V m c main_v22) (ix2 ⟨t.val % 3 * 1024 + r.val, by omega⟩ k) := by
    unfold X0_2 Pipeline.Window.fill
    rw [dif_pos (moved0_2 t _)]
    blk_ext [iblk, idx t]
  rw [e, stacked m c _ k (.inl (by dsimp only; omega))]
  exact dif_pos (by dsimp only; omega)

theorem V_bias : V m c main_v23 = extractStridedSlice S1x3072 ![0, 0] (bias m c) slices_S1x9232_S1x3072_0_0 := by
  unfold V
  after_results_simp
  rfl

theorem rd3 (t : Fin cfg0.N) (r : Fin 1024) : iblk m c 3 t (ix2 0 r) = bias m c (ix2 0 ⟨t.val % 3 * 1024 + r.val, by omega⟩) := by
  have e : iblk m c 3 t (ix2 0 r) = (show FVec Ideal S1x3072 .f32 from V m c main_v23) (ix2 0 ⟨t.val % 3 * 1024 + r.val, by omega⟩) := by
    blk_ext [iblk, idx t]
  rw [e]
  refine (congrFun (V_bias m c) _).trans ?_
  pointwise

theorem rd4 (t : Fin cfg0.N) (r : Fin 128) (k : Fin 1024) :
    iblk m c 4 t (ix2 r k) = if h : r.val < 16 then proj m c (ix2 k ⟨3072 + r.val, by omega⟩) else 0 := by
  have e : iblk m c 4 t (ix2 r k) = (show FVec Ideal S8320x1024 .bf16 from V m c main_v22) (ix2 ⟨8192 + r.val, by omega⟩ k) := by
    blk_ext [iblk, idx t]
  rw [e, stacked m c _ k (.inr (by dsimp only; omega)), dif_neg (by dsimp only; omega)]
  by_cases h : r.val < 16
  · rw [dif_pos h]
    refine (dif_pos (by dsimp only; omega)).trans ?_
    refine congrArg (fun q => proj m c (ix2 k q)) (Fin.ext ?_); dsimp only; omega
  · rw [dif_neg h]
    exact dif_neg (by dsimp only; omega)

theorem V_forget : V m c main_v1 = pad S1x128 ![0, 0] ![0, 112] ![0, 0] (extractStridedSlice S1x16 ![0, 3072] (bias m c) slices_S1x9232_S1x16_0_3072)
    (constant (F := Ideal) S_ .f32 0#32) pads_S1x16_S1x128_000_01120 h_S_ := by
  unfold V
  after_results_simp
  rfl

theorem rd5 (t : Fin cfg0.N) (r : Fin 128) : iblk m c 5 t (ix2 0 r) = if h : r.val < 16 then bias m c (ix2 0 ⟨3072 + r.val, by omega⟩) else 0 := by
  have e : iblk m c 5 t (ix2 0 r) = (show FVec Ideal S1x128 .f32 from V m c main_v1) (ix2 0 r) := by
    blk_ext [iblk, idx t]
  rw [e]
  refine (congrFun (V_forget m c) _).trans ?_
  pointwise

/-- The block step at one element: the norm, a section of the projection, and the forget gate. -/
theorem pay1_at (x : FVec Ideal S1024x1024 .f32) (w : FVec Ideal S1x1024 .f32) (r j : Fin 1024) :
    k0_pay1 (F := Ideal) x w (ix2 r j) = normRow (fun k => x (ix2 r k)) (fun k => w (ix2 0 k)) j := by
  pointwise [k0_pay1]
  rfl

theorem pay3_at (h w : FVec Ideal S1024x1024 .bf16) (b : FVec Ideal S1x1024 .f32) (r j : Fin 1024) :
    k0_pay3 (F := Ideal) h w b (ix2 r j) = (∑ k : Fin 1024, (h (ix2 r k) : EReal) * w (ix2 j k)) + b (ix2 0 j) := by
  pointwise [k0_pay3]

theorem pay2_at (x : FVec Ideal S1024x1024 .f32) (g : FVec Ideal S1x1024 .f32) (w : FVec Ideal S128x1024 .bf16) (b : FVec Ideal S1x128 .f32) (r : Fin 1024) (j : Fin 128) :
    k0_pay2 (F := Ideal) x g w b (ix2 r j) = (∑ k : Fin 1024, (k0_pay1 (F := Ideal) x g (ix2 r k) : EReal) * w (ix2 j k)) + b (ix2 0 j) := by
  obtain ⟨h, eh⟩ : ∃ h, k0_pay1 (F := Ideal) x g = h := ⟨_, rfl⟩
  unfold k0_pay2
  rw [eh]
  pointwise

/-- The normed rows of a point's row tile. -/
theorem normed_at (t : Fin cfg0.N) (r k : Fin 1024) :
    k0_pay1 (F := Ideal) (iblk m c 0 (base t)) (iblk m c 1 (base t)) (ix2 r k) = hidden m c (ix2 ⟨t.val / 3 * 1024 + r.val, by have := lt24 t; omega⟩ k) := by
  rw [pay1_at]
  simp only [rd0, rd1, base_div]
  rfl

/-- The three arrays when the call ends. -/
theorem final_6 : (dats m 0 c).arrAt 6 cfg0.N = hidden m c := by
  refine (dats m 0 c).arrAt_eq_of_covers 6 _ (by decide +kernel) fun t _ y => ?_
  blk_simp
  rw [after_6]
  have ht := lt24 t
  obtain ⟨r, j, rfl⟩ : ∃ (r j : Fin 1024), y = ix2 r j := ⟨y 0, y 1, by funext a; match a with | 0 => rfl | 1 => rfl⟩
  have e : (win0_6.blk t).view.emb (ix2 r j) = ix2 (⟨t.val / 3 * 1024 + r.val, by omega⟩ : Fin 8192) j := by
    blk_point [idx t]
  rw [e]
  exact normed_at m c t r j

theorem final_7 : (dats m 0 c).arrAt 7 cfg0.N = qkv m c := by
  refine (dats m 0 c).arrAt_eq_of_covers 7 _ (by decide +kernel) fun t _ y => ?_
  blk_simp
  rw [after_7]
  have ht := lt24 t
  obtain ⟨r, j, rfl⟩ : ∃ (r j : Fin 1024), y = ix2 r j := ⟨y 0, y 1, by funext a; match a with | 0 => rfl | 1 => rfl⟩
  have e : (win0_7.blk t).view.emb (ix2 r j) = ix2 (⟨t.val / 3 * 1024 + r.val, by omega⟩ : Fin 8192) (⟨t.val % 3 * 1024 + j.val, by omega⟩ : Fin 3072) := by
    blk_point [idx t]
  rw [e]
  refine (pay3_at _ _ _ r j).trans ?_
  unfold normed
  simp only [normed_at, rd2, rd3]
  rfl

theorem final_8 : (dats m 0 c).arrAt 8 cfg0.N = forget m c := by
  refine (dats m 0 c).arrAt_eq_of_covers 8 _ (by decide +kernel) fun t _ y => ?_
  blk_simp
  rw [after_8]
  have ht := lt24 t
  obtain ⟨r, j, rfl⟩ : ∃ (r : Fin 1024) (j : Fin 128), y = ix2 r j := ⟨y 0, y 1, by funext a; match a with | 0 => rfl | 1 => rfl⟩
  have e : (win0_8.blk t).view.emb (ix2 r j) = ix2 (⟨t.val / 3 * 1024 + r.val, by omega⟩ : Fin 8192) j := by
    blk_point [idx t]
  rw [e]
  unfold logits
  refine (pay2_at _ _ _ _ r j).trans ?_
  simp only [normed_at, rd4, rd5]
  by_cases h : j.val < 16
  · simp only [dif_pos h]
    exact (forget_lt m c _ j h).symm
  · simp only [dif_neg h, mul_zero, Finset.sum_const_zero, add_zero]
    exact (forget_ge m c _ j h).symm

end Cert.Norm

end
-- ==== Proof.NormClaim.lean ====
module

public import proofs.«01_k».proof.Defs
public import proofs.«01_k».proof.Proof.Gen.Reference5Ideal.Run
public import proofs.«01_k».proof.Proof.NormFinal

/-! The forward norm and its projection are the reference's, at any arguments: the same normed rows, and the same products
    with the same columns plus the same bias; in the lanes past the sixteenth the kernel's sum is of products with zero. -/

@[expose] public section

set_option maxRecDepth 16384

noncomputable section

open Idealize.ShloMosaic Idealize.ShloMosaic.TcCoe Idealize.SL.Sem

namespace Cert.NormClaim

section
open Cert.Kernel5Ideal Cert.Kernel5Ideal.Gen
open Idealize.ShloMosaic.Pipeline (Dat)

/-- The kernel's run: its arrays and its unchanged arguments. -/
theorem run_all (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v24_0) = (Cert.Kernel5Ideal.Norm.dats m 0 c).arrAt 6 cfg0.N
      ∧ r.2.mem ((c : Thread nD τ).loc main_v24_1) = (Cert.Kernel5Ideal.Norm.dats m 0 c).arrAt 7 cfg0.N
      ∧ r.2.mem ((c : Thread nD τ).loc main_v24_2) = (Cert.Kernel5Ideal.Norm.dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c).1, (h.1 c).2.1, (h.1 c).2.2, h.2.1 c⟩)
    (θ_run_and (Cert.Kernel5Ideal.Norm.run m ρ) (Cert.Kernel5Ideal.Norm.frame m ρ))

end

set_option maxHeartbeats 4000000 in
/-- The three results of the kernel are the reference's. -/
theorem algebraic : Cert.algebraic_Kernel5Ideal_Reference5Ideal (hKernel5Ideal := Cert.Kernel5Ideal.Gen.facts) (hReference5Ideal := Cert.Reference5Ideal.Gen.facts) := by
  intro m g m' g' hpre hagree
  refine ⟨_, _, _, run_all m g, (θ_run _ _ _).mono (fun r h c => ?_) (Cert.Reference5Ideal.Value.run m' g')⟩
  obtain ⟨q0, q1, q2, q3⟩ := hagree c
  obtain ⟨h0, h1, h2, ha⟩ := h c
  refine ⟨h0.trans ?_, h1.trans ?_, h2.trans ?_, ha⟩
  · rw [q0, q1, Norm.final_6]
    funext i
    obtain ⟨r, j, rfl⟩ : ∃ (r : Fin 8192) (j : Fin 1024), i = ix2 r j := ⟨i 0, i 1, by funext a; match a with | 0 => rfl | 1 => rfl⟩
    pointwise
    rfl
  · rw [q0, q1, q2, q3, Norm.final_7]
    funext i
    obtain ⟨r, j, rfl⟩ : ∃ (r : Fin 8192) (j : Fin 3072), i = ix2 r j := ⟨i 0, i 1, by funext a; match a with | 0 => rfl | 1 => rfl⟩
    pointwise
    rfl
  · rw [q0, q1, q2, q3, Norm.final_8]
    funext i
    obtain ⟨r, j, rfl⟩ : ∃ (r : Fin 8192) (j : Fin 128), i = ix2 r j := ⟨i 0, i 1, by funext a; match a with | 0 => rfl | 1 => rfl⟩
    pointwise
    by_cases hj : j.val < 16
    · rw [Norm.forget_lt m c r j hj]
      exact (dif_pos hj).trans rfl
    · rw [Norm.forget_ge m c r j hj]
      exact dif_neg hj

end Cert.NormClaim

end
-- ==== Proof.SquareFinal.lean ====
module

public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import Idealize.ShloMosaic.Lib.WritesUnit

/-! What the kernel for the three square weights has written when it ends: each weight's gradient, the product of its
    input with its product's gradient over all rows. A weight is walked tile by tile; the sums of the eight tiles are one
    sum over the rows, on the extended reals without any condition. -/

@[expose] public section

set_option maxRecDepth 16384

noncomputable section

open Idealize.ShloMosaic Idealize.ShloMosaic.TcCoe Idealize.SL.Sem
open Idealize.ShloMosaic.Pipeline (Dat)

namespace Cert.Square

open Cert.Kernel6Ideal Cert.Kernel6Ideal.Gen

/-- Row `r` of tile `s`. -/
def row (s : ℕ) (r : Fin 1024) : Fin 8192 := ⟨(s * 1024 + r.val) % 8192, Nat.mod_lt _ (by norm_num)⟩

/-- The sum over the tiles is the sum over the rows. -/
theorem sum_tiles (f : Fin 8192 → EReal) : ∑ s ∈ Finset.range 8, ∑ r : Fin 1024, f (row s r) = ∑ t, f t := by
  rw [Finset.sum_range, ← Fintype.sum_prod_type', ← Equiv.sum_comp (finProdFinEquiv (m := 8) (n := 1024)) (fun t : Fin (8 * 1024) => f t)]
  refine Finset.sum_congr rfl fun x _ => congrArg f (Fin.ext ?_)
  have h1 := x.1.isLt
  have h2 := x.2.isLt
  simp only [row, finProdFinEquiv, Equiv.coe_fn_mk]
  omega

variable (m : (ℓ : Loc nD τ sig) → Buf (Elt Ideal) ℓ) (c : Dev nD)

/-- The input of each weight. -/
def left : ℕ → FVec Ideal S8192x1024 .bf16
  | 0 => m ((c : Thread nD τ).loc main_arg0) | 1 => m ((c : Thread nD τ).loc main_arg2) | _ => m ((c : Thread nD τ).loc main_arg4)

/-- The gradient of each weight's product. -/
def right : ℕ → FVec Ideal S8192x1024 .bf16
  | 0 => m ((c : Thread nD τ).loc main_arg1) | 1 => m ((c : Thread nD τ).loc main_arg3) | _ => m ((c : Thread nD τ).loc main_arg5)

theorem idx : ∀ t : Fin cfg0.N, (t.val / 8 = 0 → win0_0.index t = ![t.val % 8, 0] ∧ win0_3.index t = ![t.val % 8, 0])
    ∧ (t.val / 8 = 1 → win0_1.index t = ![t.val % 8, 0] ∧ win0_4.index t = ![t.val % 8, 0])
    ∧ (t.val / 8 = 2 → win0_2.index t = ![t.val % 8, 0] ∧ win0_5.index t = ![t.val % 8, 0]) :=
  (by decide +kernel : ∀ t : Fin grid0.N, _)

theorem idxo : ∀ t : Fin cfg0.N, win0_6.index t = ![0, t.val / 8, 0] :=
  (by decide +kernel : ∀ t : Fin grid0.N, _)

theorem lt24 (t : Fin cfg0.N) : t.val < 24 := lt_of_lt_of_eq t.isLt (show cfg0.N = 24 from N_0)

theorem blk_0 (t : Fin cfg0.N) (h : t.val / 8 = 0) (r k : Fin 1024) :
    iblk m c 0 t (ix2 r k) = left m c 0 (ix2 (row (t.val % 8) r) k) ∧ iblk m c 3 t (ix2 r k) = right m c 0 (ix2 (row (t.val % 8) r) k) := by
  obtain ⟨e, e'⟩ := (idx t).1 h
  constructor
  · unfold left; blk_ext [iblk, V, e, row]
  · unfold right; blk_ext [iblk, V, e', row]

theorem blk_1 (t : Fin cfg0.N) (h : t.val / 8 = 1) (r k : Fin 1024) :
    iblk m c 1 t (ix2 r k) = left m c 1 (ix2 (row (t.val % 8) r) k) ∧ iblk m c 4 t (ix2 r k) = right m c 1 (ix2 (row (t.val % 8) r) k) := by
  obtain ⟨e, e'⟩ := (idx t).2.1 h
  constructor
  · unfold left; blk_ext [iblk, V, e, row]
  · unfold right; blk_ext [iblk, V, e', row]

theorem blk_2 (t : Fin cfg0.N) (h : t.val / 8 = 2) (r k : Fin 1024) :
    iblk m c 2 t (ix2 r k) = left m c 2 (ix2 (row (t.val % 8) r) k) ∧ iblk m c 5 t (ix2 r k) = right m c 2 (ix2 (row (t.val % 8) r) k) := by
  obtain ⟨e, e'⟩ := (idx t).2.2 h
  constructor
  · unfold left; blk_ext [iblk, V, e, row]
  · unfold right; blk_ext [iblk, V, e', row]

theorem pay1_at (i : S1024x1024.Idx) : (k0_pay1 (F := Ideal)) i = (0 : EReal) := by
  pointwise [k0_pay1]

/-- A tile's product added to what was summed before. -/
theorem pay2_at (a : FVec Ideal S1024x1024 .f32) (x y : FVec Ideal S1024x1024 .bf16) (k n : Fin 1024) :
    k0_pay2 (F := Ideal) a x y (ix2 k n) = a (ix2 k n) + ∑ r : Fin 1024, (x (ix2 r k) : EReal) * y (ix2 r n) := by
  pointwise [k0_pay2]

theorem pay3_at (a : FVec Ideal S1024x1024 .f32) (x y : FVec Ideal S1024x1024 .bf16) (k n : Fin 1024) :
    k0_pay3 (F := Ideal) a x y (ix2 k n) = a (ix2 k n) + ∑ r : Fin 1024, (x (ix2 r k) : EReal) * y (ix2 r n) := pay2_at a x y k n

theorem pay4_at (a : FVec Ideal S1024x1024 .f32) (x y : FVec Ideal S1024x1024 .bf16) (k n : Fin 1024) :
    k0_pay4 (F := Ideal) a x y (ix2 k n) = a (ix2 k n) + ∑ r : Fin 1024, (x (ix2 r k) : EReal) * y (ix2 r n) := pay2_at a x y k n

/-- What point `n` adds. -/
def tile (n : ℕ) (k j : Fin 1024) : EReal :=
  ∑ r : Fin 1024, (left m c (n / 8) (ix2 (row (n % 8) r) k) : EReal) * right m c (n / 8) (ix2 (row (n % 8) r) j)

/-- The first tile of a weight. -/
theorem acc_first (t : Fin cfg0.N) (h0 : t.val % 8 = 0) (k j : Fin 1024) : (outsAt0 m c t.val t.isLt).2 (ix2 k j) = tile m c t.val k j := by
  have ht := lt24 t
  have h4 : ¬ t.val % 8 = 7 := by omega
  obtain e | e | e : t.val / 8 = 0 ∨ t.val / 8 = 1 ∨ t.val / 8 = 2 := by omega
  · rw [outsAt0_A m c t h0 (by omega) (by omega) (by omega) h4]
    frame_out
    rw [pay2_at, pay1_at, zero_add]
    unfold tile
    rw [e]
    exact Finset.sum_congr rfl fun r _ => by rw [(blk_0 m c t e r k).1, (blk_0 m c t e r j).2]
  · rw [outsAt0_D m c t h0 (by omega) (by omega) (by omega) h4]
    frame_out
    rw [pay3_at, pay1_at, zero_add]
    unfold tile
    rw [e]
    exact Finset.sum_congr rfl fun r _ => by rw [(blk_1 m c t e r k).1, (blk_1 m c t e r j).2]
  · rw [outsAt0_G m c t h0 (by omega) (by omega) (by omega) h4]
    frame_out
    rw [pay4_at, pay1_at, zero_add]
    unfold tile
    rw [e]
    exact Finset.sum_congr rfl fun r _ => by rw [(blk_2 m c t e r k).1, (blk_2 m c t e r j).2]

/-- A later tile of the weight. -/
theorem acc_next (t : Fin cfg0.N) (h0 : ¬ t.val % 8 = 0) (k j : Fin 1024) : (outsAt0 m c t.val t.isLt).2 (ix2 k j)
    = (outsAt0 m c (t.val - 1) (Nat.lt_of_le_of_lt (Nat.sub_le _ _) t.isLt)).2 (ix2 k j) + tile m c t.val k j := by
  have ht := lt24 t
  obtain e | e | e : t.val / 8 = 0 ∨ t.val / 8 = 1 ∨ t.val / 8 = 2 := by omega
  · have q (a : FVec Ideal S1024x1024 .f32) : k0_pay2 (F := Ideal) a (iblk m c 0 t) (iblk m c 3 t) (ix2 k j) = a (ix2 k j) + tile m c t.val k j := by
      rw [pay2_at]
      unfold tile
      rw [e]
      exact congrArg _ (Finset.sum_congr rfl fun r _ => by rw [(blk_0 m c t e r k).1, (blk_0 m c t e r j).2])
    by_cases h4 : t.val % 8 = 7
    · rw [outsAt0_C m c t h0 (by omega) (by omega) (by omega) h4]; frame_out; rw [read_unread_whole]; exact q _
    · rw [outsAt0_B m c t h0 (by omega) (by omega) (by omega) h4]; frame_out; rw [read_unread_whole]; exact q _
  · have q (a : FVec Ideal S1024x1024 .f32) : k0_pay3 (F := Ideal) a (iblk m c 1 t) (iblk m c 4 t) (ix2 k j) = a (ix2 k j) + tile m c t.val k j := by
      rw [pay3_at]
      unfold tile
      rw [e]
      exact congrArg _ (Finset.sum_congr rfl fun r _ => by rw [(blk_1 m c t e r k).1, (blk_1 m c t e r j).2])
    by_cases h4 : t.val % 8 = 7
    · rw [outsAt0_F m c t h0 (by omega) (by omega) (by omega) h4]; frame_out; rw [read_unread_whole]; exact q _
    · rw [outsAt0_E m c t h0 (by omega) (by omega) (by omega) h4]; frame_out; rw [read_unread_whole]; exact q _
  · have q (a : FVec Ideal S1024x1024 .f32) : k0_pay4 (F := Ideal) a (iblk m c 2 t) (iblk m c 5 t) (ix2 k j) = a (ix2 k j) + tile m c t.val k j := by
      rw [pay4_at]
      unfold tile
      rw [e]
      exact congrArg _ (Finset.sum_congr rfl fun r _ => by rw [(blk_2 m c t e r k).1, (blk_2 m c t e r j).2])
    by_cases h4 : t.val % 8 = 7
    · rw [outsAt0_I m c t h0 (by omega) (by omega) (by omega) h4]; frame_out; rw [read_unread_whole]; exact q _
    · rw [outsAt0_H m c t h0 (by omega) (by omega) (by omega) h4]; frame_out; rw [read_unread_whole]; exact q _

/-- The running product: the sum over the tiles so far. -/
theorem acc_at (k j : Fin 1024) : ∀ (n : ℕ) (h : n < cfg0.N), (outsAt0 m c n h).2 (ix2 k j)
    = ∑ s ∈ Finset.range (n % 8 + 1), ∑ r : Fin 1024, (left m c (n / 8) (ix2 (row s r) k) : EReal) * right m c (n / 8) (ix2 (row s r) j) := by
  intro n
  induction n with
  | zero =>
    intro h
    refine (acc_first m c ⟨0, h⟩ rfl k j).trans ?_
    rw [Nat.zero_mod, Nat.zero_add, Finset.sum_range_one]
    rfl
  | succ n ih =>
    intro h
    by_cases h0 : (n + 1) % 8 = 0
    · refine (acc_first m c ⟨n + 1, h⟩ h0 k j).trans ?_
      unfold tile
      rw [h0, Nat.zero_add, Finset.sum_range_one]
    · refine (acc_next m c ⟨n + 1, h⟩ h0 k j).trans ?_
      rw [Finset.sum_range_succ _ ((n + 1) % 8)]
      refine congrArg₂ (· + ·) ((ih (by omega)).trans ?_) rfl
      rw [show n % 8 + 1 = (n + 1) % 8 by omega, show n / 8 = (n + 1) / 8 by omega]

/-- Rows `o` to `o + 128` of the scratch, read after it was written whole. -/
abbrev slice (v : View sig .tc .vmem S1024x1024 .f32) (W : FVec Ideal S1024x1024 .f32) (o : ℕ) (inb : ∀ a, (![o, 0] : Fin 2 → ℕ) a + (![128, 1024] : Fin 2 → ℕ) a ≤ S1024x1024.size a) : FVec Ideal S128x1024 .f32 :=
  v.readCov (Val := Elt Ideal) [⟨Rect.unit (s := S1024x1024) ![0, 0] ![1024, 1024] inb_S1024x1024_S1024x1024_0_0, W⟩] (Rect.unit (s := S1024x1024) ![o, 0] ![128, 1024] inb).toLoadRect

theorem slice_at (v : View sig .tc .vmem S1024x1024 .f32) (W : FVec Ideal S1024x1024 .f32) (o : ℕ) (inb) (ho : o + 128 ≤ 1024) (r : Fin 128) (n : Fin 1024) :
    slice v W o inb (ix2 r n) = W (ix2 ⟨o + r.val, by omega⟩ n) := by
  refine View.read_writes_cons_unit_of_mem (Val := Elt Ideal) (s := S1024x1024) (e := .f32) (off := ![0, 0]) (size := ![1024, 1024]) (off' := ![0, 0]) v _ inb_S1024x1024_S1024x1024_0_0 W [] _ (ix2 ⟨o + r.val, by omega⟩ n) rfl fun a => ?_
  match a with
  | 0 => show o + 1 * r.val = 0 + (o + r.val); omega
  | 1 => show 0 + 1 * n.val = 0 + n.val; omega

/-- The slices' casts keep the numbers. -/
theorem cast_at (v : FVec Ideal S128x1024 .f32) (r : Fin 128) (n : Fin 1024) :
    k0_pay8 (F := Ideal) v (ix3 0 r n) = v (ix2 r n) := by
  pointwise [k0_pay8]

/-- One device's slice in the output. -/
theorem slice_tile (v : View sig .tc .vmem S1024x1024 .f32) (W : FVec Ideal S1024x1024 .f32) (k : ℕ) (hk : k < 8) (inb) (d : Fin 8) (r : Fin 128) (n : Fin 1024) :
    View.TileAt (Val := Elt Ideal) (S := S8x128x1024) (e := .bf16) (ix3 d r n) ![k, 0, 0] ![1, 128, 1024] (k0_pay8 (F := Ideal) (slice v W (k * 128) inb))
      (W (ix2 ⟨d.val * 128 + r.val, by omega⟩ n)) := by
  intro x hx
  have h0 : d.val = k + (x 0).val := hx 0
  have h1 : r.val = 0 + (x 1).val := hx 1
  have h2 : n.val = 0 + (x 2).val := hx 2
  have hz : (x 0).val < 1 := (x 0).isLt
  have e : x = ix3 0 r n := by
    funext a
    match a with
    | 0 => exact Subsingleton.elim (α := Fin 1) _ _
    | 1 => exact Fin.ext (by show (x 1).val = r.val; omega)
    | 2 => exact Fin.ext (by show (x 2).val = n.val; omega)
  rw [e, cast_at, slice_at v W (k * 128) inb (by omega)]
  exact congrArg (fun q => W (ix2 q n)) (Fin.ext (by dsimp only; omega))

/-- The eight slices, as they are stored, read at one element: the scratch's element. -/
theorem slices_at (v : View sig .tc .vmem S1024x1024 .f32) (W : FVec Ideal S1024x1024 .f32) (d : Fin 8) (r : Fin 128) (n : Fin 1024) :
    View.canon (Val := Elt Ideal) (s := S8x128x1024) (e := .bf16)
      [⟨Rect.unit ![7, 0, 0] ![1, 128, 1024] inb_S8x128x1024_S1x128x1024_7_0_0, k0_pay7 (F := Ideal) (slice v W 896 inb_S1024x1024_S128x1024_896_0)⟩,
       ⟨Rect.unit ![6, 0, 0] ![1, 128, 1024] inb_S8x128x1024_S1x128x1024_6_0_0, k0_pay6 (F := Ideal) (slice v W 768 inb_S1024x1024_S128x1024_768_0)⟩,
       ⟨Rect.unit ![5, 0, 0] ![1, 128, 1024] inb_S8x128x1024_S1x128x1024_5_0_0, k0_pay5 (F := Ideal) (k0_pay13 (F := Ideal) (slice v W 640 inb_S1024x1024_S128x1024_640_0))⟩,
       ⟨Rect.unit ![4, 0, 0] ![1, 128, 1024] inb_S8x128x1024_S1x128x1024_4_0_0, k0_pay12 (F := Ideal) (slice v W 512 inb_S1024x1024_S128x1024_512_0)⟩,
       ⟨Rect.unit ![3, 0, 0] ![1, 128, 1024] inb_S8x128x1024_S1x128x1024_3_0_0, k0_pay11 (F := Ideal) (slice v W 384 inb_S1024x1024_S128x1024_384_0)⟩,
       ⟨Rect.unit ![2, 0, 0] ![1, 128, 1024] inb_S8x128x1024_S1x128x1024_2_0_0, k0_pay10 (F := Ideal) (slice v W 256 inb_S1024x1024_S128x1024_256_0)⟩,
       ⟨Rect.unit ![1, 0, 0] ![1, 128, 1024] inb_S8x128x1024_S1x128x1024_1_0_0, k0_pay9 (F := Ideal) (slice v W 128 inb_S1024x1024_S128x1024_128_0)⟩,
       ⟨Rect.unit ![0, 0, 0] ![1, 128, 1024] inb_S8x128x1024_S1x128x1024_0_0_0, k0_pay8 (F := Ideal) (slice v W 0 inb_S1024x1024_S128x1024_0_0)⟩]
      (ix3 d r n) = W (ix2 ⟨d.val * 128 + r.val, by omega⟩ n) := by
  refine View.canon_eq_of_allAt _ _ _ (View.cover_of_tiled_head _ _ _ rfl _) ?_
  refine View.allAt_cons_unit _ _ _ _ _ (slice_tile v W 7 (by norm_num) _ d r n) ?_
  refine View.allAt_cons_unit _ _ _ _ _ (slice_tile v W 6 (by norm_num) _ d r n) ?_
  refine View.allAt_cons_unit _ _ _ _ _ (slice_tile v W 5 (by norm_num) _ d r n) ?_
  refine View.allAt_cons_unit _ _ _ _ _ (slice_tile v W 4 (by norm_num) _ d r n) ?_
  refine View.allAt_cons_unit _ _ _ _ _ (slice_tile v W 3 (by norm_num) _ d r n) ?_
  refine View.allAt_cons_unit _ _ _ _ _ (slice_tile v W 2 (by norm_num) _ d r n) ?_
  refine View.allAt_cons_unit _ _ _ _ _ (slice_tile v W 1 (by norm_num) _ d r n) ?_
  exact View.allAt_cons_unit _ _ _ _ _ (slice_tile v W 0 (by norm_num) _ d r n) (View.allAt_nil _ _)

set_option maxHeartbeats 4000000 in
/-- At a weight's last tile, the output block holds the sum. -/
theorem out_last (t : Fin cfg0.N) (h4 : t.val % 8 = 7) (d : Fin 8) (r : Fin 128) (n : Fin 1024) :
    (outsAt0 m c t.val t.isLt).1 (ix3 d r n) = (outsAt0 m c t.val t.isLt).2 (ix2 ⟨d.val * 128 + r.val, by omega⟩ n) := by
  have ht := lt24 t
  have h0 : ¬ t.val % 8 = 0 := by omega
  obtain e | e | e : t.val / 8 = 0 ∨ t.val / 8 = 1 ∨ t.val / 8 = 2 := by omega
  · rw [outsAt0_C m c t h0 (by omega) (by omega) (by omega) h4]; frame_out
    generalize k0_pay2 (F := Ideal) _ (iblk m c 0 t) (iblk m c 3 t) = W
    exact slices_at _ W d r n
  · rw [outsAt0_F m c t h0 (by omega) (by omega) (by omega) h4]; frame_out
    generalize k0_pay3 (F := Ideal) _ (iblk m c 1 t) (iblk m c 4 t) = W
    exact slices_at _ W d r n
  · rw [outsAt0_I m c t h0 (by omega) (by omega) (by omega) h4]; frame_out
    generalize k0_pay4 (F := Ideal) _ (iblk m c 2 t) (iblk m c 5 t) = W
    exact slices_at _ W d r n

/-- The three gradients, their rows split over the devices, side by side. -/
def grads (i : S8x384x1024.Idx) : EReal :=
  ∑ t : Fin 8192, (left m c ((i 1).val / 128) (ix2 t ⟨(i 0).val * 128 + (i 1).val % 128, by have : (i 0).val < 8 := (i 0).isLt; omega⟩) : EReal)
    * right m c ((i 1).val / 128) (ix2 t (i 2))

theorem final_6 : (dats m 0 c).arrAt 6 cfg0.N = grads m c := by
  refine (dats m 0 c).arrAt_eq_of_covers 6 _ (by decide +kernel) fun t hf y => ?_
  blk_simp
  rw [after0_6]
  have h7 : t.val % 8 = 7 := (flush0_6 t).mp hf
  have ht := lt24 t
  obtain ⟨d, r, n, rfl⟩ : ∃ (d : Fin 8) (r : Fin 128) (n : Fin 1024), y = ix3 d r n := ⟨y 0, y 1, y 2, (ix3_eta y).symm⟩
  have e : (win0_6.blk t).view.emb (ix3 d r n) = ix3 d (⟨t.val / 8 * 128 + r.val, by omega⟩ : Fin 384) n := by blk_point [idxo t]
  rw [e]
  refine (out_last m c t h7 d r n).trans ?_
  rw [acc_at, h7, sum_tiles (fun s => (left m c (t.val / 8) (ix2 s ⟨d.val * 128 + r.val, by omega⟩) : EReal) * right m c (t.val / 8) (ix2 s n))]
  unfold grads
  refine Finset.sum_congr rfl fun s _ => ?_
  have e1 : (t.val / 8 * 128 + r.val) / 128 = t.val / 8 := by omega
  have e2 : (⟨d.val * 128 + (t.val / 8 * 128 + r.val) % 128, by omega⟩ : Fin 1024) = ⟨d.val * 128 + r.val, by omega⟩ := Fin.ext (by dsimp only; omega)
  show _ = (left m c ((t.val / 8 * 128 + r.val) / 128) (ix2 s ⟨d.val * 128 + (t.val / 8 * 128 + r.val) % 128, _⟩) : EReal)
    * right m c ((t.val / 8 * 128 + r.val) / 128) (ix2 s n)
  rw [e1, e2]

/-- The kernel's run: its array and its unchanged arguments. -/
theorem run (ρ : Dev nD → PrngReg) : θ_run defs (onTc (τ := τ) (main (F := Ideal))) ⟨m, fun _ => 0, ρ⟩ (fun r => ∀ c : Dev nD,
      r.2.mem ((c : Thread nD τ).loc main_v0) = grads m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨((h.1 c).1 6).trans (final_6 m c), h.2.1 c⟩) (θ_run_and (run_main m ρ) (frame m ρ))

end Cert.Square

end
-- ==== Proof.SquareRef.lean ====
module

public import proofs.«01_k».proof.Proof.Gen.Reference6Ideal.Run
public import Idealize.ShloMosaic.Lib.Pipeline.ValueKit
public import Idealize.ShloMosaic.Lib.Pointwise

/-! What the reference for the three square weights computes, read at one element: each weight's gradient, its rows
    split over the eight devices. -/

@[expose] public section

set_option maxRecDepth 16384

noncomputable section

open Idealize.ShloMosaic Idealize.ShloMosaic.TcCoe Idealize.SL.Sem

namespace Cert.SquareRef

open Cert.Reference6Ideal Cert.Reference6Ideal.Gen Cert.Reference6Ideal.Facts

/-- The gradient of one weight, from its input `A` and its product's gradient `G`. -/
def grad (A G : FVec Ideal S8192x1024 .bf16) : FVec Ideal S1024x1024 .f32 :=
  transpose S1024x1024 [1, 0] (Host.dotGeneral dot_S8192x1024_S8192x1024_S1024x1024_0_0_1_1_n_n none
    (extf .f32 G bitsLt_bf16_f32) (extf .f32 A bitsLt_bf16_f32)) transposes_S1024x1024_S1024x1024_1_0

/-- Its rows split over the devices. -/
def piece (A G : FVec Ideal S8192x1024 .bf16) : FVec Ideal S8x128x1024 .f32 :=
  shapeCast _ (grad A G) shapeCasts_S1024x1024_S8x128x1024

theorem grad_at (A G : FVec Ideal S8192x1024 .bf16) (k n : Fin 1024) :
    grad A G (ix2 k n) = ∑ t : Fin 8192, (A (ix2 t k) : EReal) * G (ix2 t n) := by
  refine Eq.trans (b := ∑ t : Fin 8192, (G (ix2 t n) : EReal) * A (ix2 t k)) ?_ (Finset.sum_congr rfl fun t _ => mul_comm _ _)
  pointwise [grad]

theorem piece_at (A G : FVec Ideal S8192x1024 .bf16) (d : Fin 8) (r : Fin 128) (n : Fin 1024) :
    piece A G (ix3 d r n) = grad A G (ix2 ⟨d.val * 128 + r.val, by omega⟩ n) := by
  pointwise [piece]

/-- The three gradients side by side, rounded. -/
def grads (A G : Fin 3 → FVec Ideal S8192x1024 .bf16) : FVec Ideal S8x384x1024 .bf16 :=
  truncf .bf16 ((concatenate S8x384x1024 1 (List.ofFn fun p : Fin 3 => (⟨S8x128x1024, piece (A p) (G p)⟩ : (s : Shape) × (s.Idx → Ideal .f32)))
    concatenates_S8x128x1024_S8x128x1024_S8x128x1024_S8x384x1024_d1) : FVec Ideal S8x384x1024 .f32) bitsLt_bf16_f32

theorem grads_at (A G : Fin 3 → FVec Ideal S8192x1024 .bf16) (p : Fin 3) (d : Fin 8) (r : Fin 128) (n : Fin 1024) :
    grads A G (ix3 d ⟨p.val * 128 + r.val, by omega⟩ n) = ∑ t : Fin 8192, (A p (ix2 t ⟨d.val * 128 + r.val, by omega⟩) : EReal) * G p (ix2 t n) := by
  rw [← grad_at, ← piece_at]
  refine concatenate_ofFn_apply (t := S8x384x1024) (s₁ := S8x128x1024) (1 : Fin 3) (fun p => piece (A p) (G p))
    concatenates_S8x128x1024_S8x128x1024_S8x128x1024_S8x384x1024_d1 rfl 128 rfl _ p ?_ (ix3 d r n) ?_ ?_
  · show (p.val * 128 + r.val) / 128 = p.val; omega
  · show r.val = (p.val * 128 + r.val) % 128; omega
  · intro b hb
    match b with
    | 0 => rfl
    | 1 => exact absurd rfl hb
    | 2 => rfl

end Cert.SquareRef

end
-- ==== Proof.SquareClaim.lean ====
module

public import proofs.«01_k».proof.Defs
public import proofs.«01_k».proof.Proof.SquareFinal
public import proofs.«01_k».proof.Proof.SquareRef

/-! The kernel for the three square weights computes what its reference computes. -/

@[expose] public section

set_option maxRecDepth 16384

noncomputable section

open Idealize.ShloMosaic Idealize.ShloMosaic.TcCoe Idealize.SL.Sem

namespace Cert.SquareClaim

/-- The reference's gradients are the kernel's. -/
theorem grads_eq (m : (ℓ : Loc Cert.Kernel6Ideal.nD Cert.Kernel6Ideal.τ Cert.Kernel6Ideal.sig) → Buf (Elt Ideal) ℓ) (c : Dev Cert.Kernel6Ideal.nD) :
    SquareRef.grads (fun p => Square.left m c p.val) (fun p => Square.right m c p.val) = Square.grads m c := by
  funext i
  obtain ⟨d, q, n, rfl⟩ : ∃ (d : Fin 8) (q : Fin 384) (n : Fin 1024), i = ix3 d q n := ⟨i 0, i 1, i 2, (ix3_eta i).symm⟩
  have e : q = ⟨q.val / 128 * 128 + q.val % 128, by omega⟩ := Fin.ext (by dsimp only; omega)
  exact (congrArg (fun q => SquareRef.grads _ _ (ix3 d q n)) e).trans
    (SquareRef.grads_at _ _ (⟨q.val / 128, by omega⟩ : Fin 3) d (⟨q.val % 128, Nat.mod_lt _ (by norm_num)⟩ : Fin 128) n)

set_option maxHeartbeats 4000000 in
/-- The kernel's result is the reference's. -/
theorem algebraic : Cert.algebraic_Kernel6Ideal_Reference6Ideal (hKernel6Ideal := Cert.Kernel6Ideal.Gen.facts) (hReference6Ideal := Cert.Reference6Ideal.Gen.facts) := by
  intro m g m' g' hpre hagree
  refine ⟨_, Square.run m g, (θ_run _ _ _).mono (fun r h c => ?_) (Cert.Reference6Ideal.Value.run m' g')⟩
  obtain ⟨q0, q1, q2, q3, q4, q5⟩ := hagree c
  obtain ⟨h0, ha⟩ := h c
  refine ⟨h0.trans ?_, ha⟩
  rw [q0, q1, q2, q3, q4, q5]
  exact Eq.trans (b := SquareRef.grads (fun p => Square.left m c p.val) (fun p => Square.right m c p.val)) rfl
    (grads_eq m c)

end Cert.SquareClaim

end
-- ==== Proof.StackBody.lean ====
module

public import proofs.«01_k».proof.Proof.Gen.Kernel3Ideal.Frame
public import proofs.«01_k».proof.Proof.Gen.Kernel3Ideal.Skeleton
public import Idealize.ShloMosaic.Lib.VecWindow

/-! The stacked weight gradient's kernel at one point of its grid: part `p`'s tile of rows is multiplied, transposed, with the
tile of `h` and added to the running product; its column sums are added to the running sums. -/

@[expose] public section

set_option maxRecDepth 16384

noncomputable section

namespace Cert.Kernel3Ideal.Stack

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

/-- The point `i` works on part `p`: of the eight branches of the body, the `p`-th is taken and no other. -/
structure At (i : grid0.Coords) (p : Fin 8) : Prop where
  c2 : k0_cond2 i = 1#1 ↔ p = 0
  c3 : k0_cond3 i = 1#1 ↔ p = 1
  c4 : k0_cond4 i = 1#1 ↔ p = 2
  c5 : k0_cond5 i = 1#1 ↔ p = 3
  c6 : k0_cond6 i = 1#1 ↔ p = 4
  c7 : k0_cond7 i = 1#1 ↔ p = 5
  c8 : k0_cond8 i = 1#1 ↔ p = 6
  c9 : k0_cond9 i = 1#1 ↔ p = 7

/-- The printed comparison of a coordinate with a literal. -/
theorem word_eq : ∀ k p : Fin 8, (Scalar.cmpi .ne (Scalar.extui (Scalar.cmpi .eq (BitVec.ofNat 32 p.val) (BitVec.ofNat 32 k.val)) : BitVec 32) 0#32 = 1#1 ↔ p = k) := by
  decide

/-- The first coordinate of a point is the part that it works on. -/
theorem at_coord (i : grid0.Coords) : At i (i 0) :=
  ⟨word_eq 0 (i 0), word_eq 1 (i 0), word_eq 2 (i 0), word_eq 3 (i 0), word_eq 4 (i 0), word_eq 5 (i 0), word_eq 6 (i 0), word_eq 7 (i 0)⟩

/-- The running sums are cleared at a part's first tile. -/
theorem first_iff (i : grid0.Coords) : k0_cond1 i = 1#1 ↔ (i 1).val = 0 :=
  (word_eq 0 (i 1)).trans Fin.ext_iff

/-- The product is stored at a part's last tile. -/
theorem last_iff (i : grid0.Coords) : k0_cond10 i = 1#1 ↔ (i 1).val = 7 :=
  (word_eq 7 (i 1)).trans Fin.ext_iff

/-- A buffer that the body only reads is handed back as it was. -/
theorem kept {s : Shape} {e : EltTy} {a : Memref sig .tc .vmem s e} (h : a.IsWhole) (x : Vec F s e) :
    iprop(a.view.loc (c : Thread nD τ) ↦[a.view.set]{fullShare} h.unread x) ⊢ (iprop(∃ f, ⌜a.view.read (Elt F) f = x⌝ ∗ (a.view.loc (c : Thread nD τ) ↦[a.view.set]{fullShare} f)) : sProp 𝕄) := by
  iintro H; iexists _; isplitr; · ipureintro; exact h.read_unread _
  iexact H

/-- A store of a whole buffer leaves its payload there, whatever was there before. -/
theorem left {s : Shape} {e : EltTy} {a : Memref sig .tc .vmem s e} {off : Fin s.rank → ℕ} {inb : ∀ k, off k + s.size k ≤ s.size k}
    {w : (Rect.unit off s.size inb).shape.Idx → Elt F e} {f : a.view.ty.Contents (Elt F)} {L : List (View.Piece (Elt F) s e)} :
    iprop(a.view.loc (c : Thread nD τ) ↦[a.view.set]{fullShare} a.view.writes (Elt F) f (⟨Rect.unit off s.size inb, w⟩ :: L))
      ⊢ (iprop(∃ f, ⌜a.view.read (Elt F) f = w⌝ ∗ (a.view.loc (c : Thread nD τ) ↦[a.view.set]{fullShare} f)) : sProp 𝕄) := by
  iintro H; iexists _; isplitr
  swap; · iexact H
  ipureintro; exact View.read_writes_full _ _ _ _ _

/-- A load of the whole of a buffer that holds `x` reads `x`. -/
theorem rd {s : Shape} {e : EltTy} {a : Memref sig .tc .vmem s e} (h : a.IsWhole) (x : Vec F s e) {off : Fin s.rank → ℕ}
    (inb : ∀ k, off k + s.size k ≤ s.size k) :
    View.readAt (Elt F) a.view (Rect.unit off s.size inb).toLoadRect (h.unread x) = x := by
  rw [View.readAt_full, h.read_unread]

variable {i : grid0.Coords}
variable {a2 a3 a4 a5 a6 a7 a8 a9 a10 a11 : Memref sig .tc .vmem S1024x1024 .bf16} {a12 : Memref sig .tc .vmem S1x1x1024 .f32}
  {a13 : Memref sig .tc .vmem S1024x1024 .f32}
  {h2 : a2.IsWhole} {h3 : a3.IsWhole} {h4 : a4.IsWhole} {h5 : a5.IsWhole} {h6 : a6.IsWhole} {h7 : a7.IsWhole} {h8 : a8.IsWhole} {h9 : a9.IsWhole}
  {h10 : a10.IsWhole} {h11 : a11.IsWhole} {h12 : a12.IsWhole} {h13 : a13.IsWhole}

/-- The eight parts' buffers and `h`'s, at their blocks. -/
def ins (a2 a3 a4 a5 a6 a7 a8 a9 a10 : Memref sig .tc .vmem S1024x1024 .bf16) (x : Fin 8 → Vec F S1024x1024 .bf16) (y : Vec F S1024x1024 .bf16) : sProp 𝕄 :=
  iprop(owns (c : Thread nD τ) a2 fullShare (x 0) ∗ owns (c : Thread nD τ) a3 fullShare (x 1) ∗ owns (c : Thread nD τ) a4 fullShare (x 2)
    ∗ owns (c : Thread nD τ) a5 fullShare (x 3) ∗ owns (c : Thread nD τ) a6 fullShare (x 4) ∗ owns (c : Thread nD τ) a7 fullShare (x 5)
    ∗ owns (c : Thread nD τ) a8 fullShare (x 6) ∗ owns (c : Thread nD τ) a9 fullShare (x 7) ∗ owns (c : Thread nD τ) a10 fullShare y)

/-- The eight branches compute the same. -/
theorem pays : @k0_pay6 F _ = k0_pay4 ∧ @k0_pay8 F _ = k0_pay4 ∧ @k0_pay10 F _ = k0_pay4 ∧ @k0_pay12 F _ = k0_pay4 ∧ @k0_pay14 F _ = k0_pay4
    ∧ @k0_pay16 F _ = k0_pay4 ∧ @k0_pay18 F _ = k0_pay4 := ⟨rfl, rfl, rfl, rfl, rfl, rfl, rfl⟩

/-- The eight branches add up the same. -/
theorem sums : @k0_pay7 F _ = k0_pay5 ∧ @k0_pay9 F _ = k0_pay5 ∧ @k0_pay11 F _ = k0_pay5 ∧ @k0_pay13 F _ = k0_pay5 ∧ @k0_pay15 F _ = k0_pay5
    ∧ @k0_pay17 F _ = k0_pay5 ∧ @k0_pay19 F _ = k0_pay5 := ⟨rfl, rfl, rfl, rfl, rfl, rfl, rfl⟩

set_option maxHeartbeats 1600000 in
/-- At a part's first tile the running product and sums start from zero. -/
theorem part1_first (x : Fin 8 → Vec F S1024x1024 .bf16) (y : Vec F S1024x1024 .bf16) (p : Fin 8) (hp : At i p) (hc : k0_cond1 i = 1#1) (Q : sProp 𝕄) :
    iprop(ins c a2 a3 a4 a5 a6 a7 a8 a9 a10 x y
        ∗ (∃ d, owns (c : Thread nD τ) a13 fullShare d)
        ∗ (∃ d, owns (c : Thread nD τ) a12 fullShare d)
        ∗ (iprop(ins c a2 a3 a4 a5 a6 a7 a8 a9 a10 x y
            ∗ owns (c : Thread nD τ) a13 fullShare (k0_pay4 (x p) k0_pay2 y)
            ∗ owns (c : Thread nD τ) a12 fullShare (k0_pay5 (x p) k0_pay3))
          -∗ Q))
      ⊢ wp frame (wpE (defs₀ (F := F)) Variants.none c none) Set.univ (k0_part1 i a2 h2 a3 h3 a4 h4 a5 h5 a6 h6 a7 h7 a8 h8 a9 h9 a10 h10 a11 h11 a12 h12 a13 h13) (fun _ => Q) := by
  rw [k0_part1_eq_skeleton]; unfold k0_part1_skel ins owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%d13, %f13, -, H13⟩, ⟨%d12, %f12, -, H12⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10
  obtain ⟨b2, b3, b4, b5, b6, b7, b8, b9⟩ := hp
  fin_cases p
  all_goals
    simp only [Fin.reduceFinMk, Fin.zero_eta, Fin.isValue, Fin.reduceEq, iff_true, iff_false, Fin.mk_one, zero_ne_one, one_ne_zero] at b2 b3 b4 b5 b6 b7 b8 b9
    sl_exec (disch := first | sl_exact hc | sl_exact b2 | sl_exact b3 | sl_exact b4 | sl_exact b5 | sl_exact b6 | sl_exact b7 | sl_exact b8 | sl_exact b9)
    sl_unfold_run_names
    simp only [Fin.reduceFinMk, Fin.zero_eta, Fin.mk_one, Fin.isValue, pays, sums, rd h2 (x 0), rd h3 (x 1), rd h4 (x 2), rd h5 (x 3), rd h6 (x 4), rd h7 (x 5), rd h8 (x 6), rd h9 (x 7), rd h10 y]
    rw [View.readCov_full a13.view, View.readCov_full a12.view]
    sl_step
    iapply Hk
    isplitl [H2 H3 H4 H5 H6 H7 H8 H9 H10]
    · isplitl [H2]; · iapply kept c h2 (x 0); iexact H2
      isplitl [H3]; · iapply kept c h3 (x 1); iexact H3
      isplitl [H4]; · iapply kept c h4 (x 2); iexact H4
      isplitl [H5]; · iapply kept c h5 (x 3); iexact H5
      isplitl [H6]; · iapply kept c h6 (x 4); iexact H6
      isplitl [H7]; · iapply kept c h7 (x 5); iexact H7
      isplitl [H8]; · iapply kept c h8 (x 6); iexact H8
      isplitl [H9]; · iapply kept c h9 (x 7); iexact H9
      iapply kept c h10 y; iexact H10
    isplitl [H13]; · iapply left c; iexact H13
    iapply left c; iexact H12

set_option maxHeartbeats 1600000 in
/-- At every other tile they go on from what they were. -/
theorem part1_next (x : Fin 8 → Vec F S1024x1024 .bf16) (y : Vec F S1024x1024 .bf16) (u : Vec F S1024x1024 .f32) (v : Vec F S1x1x1024 .f32) (p : Fin 8) (hp : At i p) (hc : ¬ k0_cond1 i = 1#1) (Q : sProp 𝕄) :
    iprop(ins c a2 a3 a4 a5 a6 a7 a8 a9 a10 x y
        ∗ owns (c : Thread nD τ) a13 fullShare u
        ∗ owns (c : Thread nD τ) a12 fullShare v
        ∗ (iprop(ins c a2 a3 a4 a5 a6 a7 a8 a9 a10 x y
            ∗ owns (c : Thread nD τ) a13 fullShare (k0_pay4 (x p) u y)
            ∗ owns (c : Thread nD τ) a12 fullShare (k0_pay5 (x p) v))
          -∗ Q))
      ⊢ wp frame (wpE (defs₀ (F := F)) Variants.none c none) Set.univ (k0_part1 i a2 h2 a3 h3 a4 h4 a5 h5 a6 h6 a7 h7 a8 h8 a9 h9 a10 h10 a11 h11 a12 h12 a13 h13) (fun _ => Q) := by
  rw [k0_part1_eq_skeleton]; unfold k0_part1_skel ins owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%f13, %e13, H13⟩, ⟨%f12, %e12, H12⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h13.eq_unread e13; obtain rfl := h12.eq_unread e12
  obtain ⟨b2, b3, b4, b5, b6, b7, b8, b9⟩ := hp
  fin_cases p
  all_goals
    simp only [Fin.reduceFinMk, Fin.zero_eta, Fin.isValue, Fin.reduceEq, iff_true, iff_false, Fin.mk_one, zero_ne_one, one_ne_zero] at b2 b3 b4 b5 b6 b7 b8 b9
    sl_exec (disch := first | sl_exact hc | sl_exact b2 | sl_exact b3 | sl_exact b4 | sl_exact b5 | sl_exact b6 | sl_exact b7 | sl_exact b8 | sl_exact b9)
    sl_unfold_run_names
    simp only [Fin.reduceFinMk, Fin.zero_eta, Fin.mk_one, Fin.isValue, pays, sums, rd h2 (x 0), rd h3 (x 1), rd h4 (x 2), rd h5 (x 3), rd h6 (x 4), rd h7 (x 5), rd h8 (x 6), rd h9 (x 7), rd h10 y, rd h13 u, rd h12 v]
    sl_step
    iapply Hk
    isplitl [H2 H3 H4 H5 H6 H7 H8 H9 H10]
    · isplitl [H2]; · iapply kept c h2 (x 0); iexact H2
      isplitl [H3]; · iapply kept c h3 (x 1); iexact H3
      isplitl [H4]; · iapply kept c h4 (x 2); iexact H4
      isplitl [H5]; · iapply kept c h5 (x 3); iexact H5
      isplitl [H6]; · iapply kept c h6 (x 4); iexact H6
      isplitl [H7]; · iapply kept c h7 (x 5); iexact H7
      isplitl [H8]; · iapply kept c h8 (x 6); iexact H8
      isplitl [H9]; · iapply kept c h9 (x 7); iexact H9
      iapply kept c h10 y; iexact H10
    isplitl [H13]; · iapply left c; iexact H13
    iapply left c; iexact H12

end Cert.Kernel3Ideal.Stack

end
-- ==== Proof.StackPoint.lean ====
module

public import proofs.«01_k».proof.Proof.StackBody
public import Idealize.ShloMosaic.Lib.Claim

/-! The stacked weight gradient's whole body at one point: the update of the running product and sums, then, at a part's last
tile, the product's store. -/

@[expose] public section

set_option maxRecDepth 16384

noncomputable section

namespace Cert.Kernel3Ideal.Stack

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) {i : grid0.Coords}
variable {a2 a3 a4 a5 a6 a7 a8 a9 a10 a11 : Memref sig .tc .vmem S1024x1024 .bf16} {a12 : Memref sig .tc .vmem S1x1x1024 .f32}
  {a13 : Memref sig .tc .vmem S1024x1024 .f32}
  {h2 : a2.IsWhole} {h3 : a3.IsWhole} {h4 : a4.IsWhole} {h5 : a5.IsWhole} {h6 : a6.IsWhole} {h7 : a7.IsWhole} {h8 : a8.IsWhole} {h9 : a9.IsWhole}
  {h10 : a10.IsWhole} {h11 : a11.IsWhole} {h12 : a12.IsWhole} {h13 : a13.IsWhole}

/-- What the product's output buffer holds after a point that found `g` there: the product at a part's last tile, `g` still elsewhere. -/
def stored (i : grid0.Coords) (u : Vec F S1024x1024 .f32) (g : Vec F S1024x1024 .bf16) : Vec F S1024x1024 .bf16 :=
  if k0_cond10 i = 1#1 then k0_pay1 u else g

set_option maxHeartbeats 800000 in
/-- The body's last branch. -/
theorem tail (h11 : a11.IsWhole) (h13 : a13.IsWhole) (u : Vec F S1024x1024 .f32) (g : Vec F S1024x1024 .bf16) (R : sProp 𝕄) :
    iprop(owns (c : Thread nD τ) a13 fullShare u ∗ owns (c : Thread nD τ) a11 fullShare g
        ∗ (iprop(owns (c : Thread nD τ) a13 fullShare u ∗ owns (c : Thread nD τ) a11 fullShare (stored i u g)) -∗ R))
      ⊢ wp frame (wpE (defs₀ (F := F)) Variants.none c none) Set.univ
          (if k0_h10 : k0_cond10 i = 1#1 then do
            let v30 : Vec F S1024x1024 .f32 ← Prog.lift (.load a13 (Rect.unit (s := S1024x1024) ![0, 0] S1024x1024.size inb_S1024x1024_S1024x1024_0_0).toLoadRect (View.loadsAt_vmem h_S1024x1024))
            let v32 : Vec F S1024x1024 .bf16 ← Prog.lift (.load a11 (Rect.unit (s := S1024x1024) ![0, 0] S1024x1024.size inb_S1024x1024_S1024x1024_0_0).toLoadRect (View.loadsAt_vmem h_S1024x1024))
            Prog.lift (.store a11 (Rect.unit (s := S1024x1024) ![0, 0] S1024x1024.size inb_S1024x1024_S1024x1024_0_0) (k0_pay1 v30) Finset.univ (View.stores_vmem h_S1024x1024 (h11.storeExact_slice rfl _ packedbf16_S1024x1024_S1024x1024_0_0) (fun _ => rfl)) (.inl rfl))
            pure ⟨⟩
          else do
            pure ⟨⟩) (fun _ : PUnit => R) := by
  unfold stored owns
  iintro ⟨⟨%f13, %e13, H13⟩, ⟨%f11, %e11, H11⟩, Hk⟩
  obtain rfl := h13.eq_unread e13; obtain rfl := h11.eq_unread e11
  by_cases hl : k0_cond10 i = 1#1
  · rw [if_pos hl]
    sl_exec (disch := first | sl_exact hl)
    sl_unfold_run_names
    simp only [rd h13 u]
    sl_step
    iapply Hk
    isplitl [H13]; · iapply kept c h13 u; iexact H13
    iapply left c; iexact H11
  · rw [if_neg hl]
    sl_exec (disch := first | sl_exact hl)
    sl_step
    iapply Hk
    isplitl [H13]; · iapply kept c h13 u; iexact H13
    iapply kept c h11 g; iexact H11

/-- The whole body, from what its first stretch leaves: product `u` and sums `v`. -/
theorem body_of (x : Fin 8 → Vec F S1024x1024 .bf16) (y g : Vec F S1024x1024 .bf16) (u : Vec F S1024x1024 .f32) (v : Vec F S1x1x1024 .f32) (P : sProp 𝕄)
    (hp : ∀ Q : sProp 𝕄, iprop(P ∗ (iprop(ins c a2 a3 a4 a5 a6 a7 a8 a9 a10 x y ∗ owns (c : Thread nD τ) a13 fullShare u ∗ owns (c : Thread nD τ) a12 fullShare v) -∗ Q))
      ⊢ wp frame (wpE (defs₀ (F := F)) Variants.none c none) Set.univ (k0_part1 i a2 h2 a3 h3 a4 h4 a5 h5 a6 h6 a7 h7 a8 h8 a9 h9 a10 h10 a11 h11 a12 h12 a13 h13) (fun _ => Q))
    (Q : sProp 𝕄) :
    iprop(P ∗ owns (c : Thread nD τ) a11 fullShare g
        ∗ (iprop(ins c a2 a3 a4 a5 a6 a7 a8 a9 a10 x y ∗ owns (c : Thread nD τ) a13 fullShare u ∗ owns (c : Thread nD τ) a12 fullShare v
            ∗ owns (c : Thread nD τ) a11 fullShare (stored i u g)) -∗ Q))
      ⊢ wp frame (wpE (defs₀ (F := F)) Variants.none c none) Set.univ
          (cc0_dw_in i a2 h2 a3 h3 a4 h4 a5 h5 a6 h6 a7 h7 a8 h8 a9 h9 a10 h10 a11 h11 a12 h12 a13 h13) (fun _ => Q) := by
  simp only [cc0_dw_in_eq_skeleton]; unfold cc0_dw_in_skel
  simp only [wp_bind, wp_pure]
  iintro ⟨HP, H11, Hk⟩
  iapply hp
  isplitl [HP]; · iexact HP
  iintro ⟨Hi, H13, H12⟩
  iapply tail c h11 h13 u g
  isplitl [H13]; · iexact H13
  isplitl [H11]; · iexact H11
  iintro ⟨H13, H11⟩
  iapply Hk
  isplitl [Hi]; · iexact Hi
  isplitl [H13]; · iexact H13
  isplitl [H12]; · iexact H12
  iexact H11

/-- The body at a part's first tile. -/
theorem body_first (x : Fin 8 → Vec F S1024x1024 .bf16) (y g : Vec F S1024x1024 .bf16) (hc : (i 1).val = 0) (Q : sProp 𝕄) :
    iprop((ins c a2 a3 a4 a5 a6 a7 a8 a9 a10 x y ∗ (∃ d, owns (c : Thread nD τ) a13 fullShare d) ∗ (∃ d, owns (c : Thread nD τ) a12 fullShare d))
        ∗ owns (c : Thread nD τ) a11 fullShare g
        ∗ (iprop(ins c a2 a3 a4 a5 a6 a7 a8 a9 a10 x y ∗ owns (c : Thread nD τ) a13 fullShare (k0_pay4 (x (i 0)) k0_pay2 y)
            ∗ owns (c : Thread nD τ) a12 fullShare (k0_pay5 (x (i 0)) k0_pay3)
            ∗ owns (c : Thread nD τ) a11 fullShare (stored i (k0_pay4 (x (i 0)) k0_pay2 y) g)) -∗ Q))
      ⊢ wp frame (wpE (defs₀ (F := F)) Variants.none c none) Set.univ
          (cc0_dw_in i a2 h2 a3 h3 a4 h4 a5 h5 a6 h6 a7 h7 a8 h8 a9 h9 a10 h10 a11 h11 a12 h12 a13 h13) (fun _ => Q) :=
  body_of c x y g _ _ _ (fun R => by
    iintro ⟨⟨Hi, H13, H12⟩, Hk⟩
    iapply part1_first c x y (i 0) (at_coord i) ((first_iff i).mpr hc)
    isplitl [Hi]; · iexact Hi
    isplitl [H13]; · iexact H13
    isplitl [H12]; · iexact H12
    iexact Hk) Q

/-- The body at every other tile. -/
theorem body_next (x : Fin 8 → Vec F S1024x1024 .bf16) (y g : Vec F S1024x1024 .bf16) (u : Vec F S1024x1024 .f32) (v : Vec F S1x1x1024 .f32)
    (hc : (i 1).val ≠ 0) (Q : sProp 𝕄) :
    iprop((ins c a2 a3 a4 a5 a6 a7 a8 a9 a10 x y ∗ owns (c : Thread nD τ) a13 fullShare u ∗ owns (c : Thread nD τ) a12 fullShare v)
        ∗ owns (c : Thread nD τ) a11 fullShare g
        ∗ (iprop(ins c a2 a3 a4 a5 a6 a7 a8 a9 a10 x y ∗ owns (c : Thread nD τ) a13 fullShare (k0_pay4 (x (i 0)) u y)
            ∗ owns (c : Thread nD τ) a12 fullShare (k0_pay5 (x (i 0)) v)
            ∗ owns (c : Thread nD τ) a11 fullShare (stored i (k0_pay4 (x (i 0)) u y) g)) -∗ Q))
      ⊢ wp frame (wpE (defs₀ (F := F)) Variants.none c none) Set.univ
          (cc0_dw_in i a2 h2 a3 h3 a4 h4 a5 h5 a6 h6 a7 h7 a8 h8 a9 h9 a10 h10 a11 h11 a12 h12 a13 h13) (fun _ => Q) :=
  body_of c x y g _ _ _ (fun R => by
    iintro ⟨⟨Hi, H13, H12⟩, Hk⟩
    iapply part1_next c x y u v (i 0) (at_coord i) (fun h => hc ((first_iff i).mp h))
    isplitl [Hi]; · iexact Hi
    isplitl [H13]; · iexact H13
    isplitl [H12]; · iexact H12
    iexact Hk) Q

end Cert.Kernel3Ideal.Stack

end
-- ==== Proof.StackFrame.lean ====
module

public import proofs.«01_k».proof.Proof.StackPoint

/-! The stacked weight gradient's pipeline: the running product and sums point by point, what every window holds, and the run of
the whole program. -/

@[expose] public section

set_option maxRecDepth 16384

noncomputable section

namespace Cert.Kernel3Ideal.Stack

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t` works on tile `t % 8` of part `t / 8`. -/
theorem coords_eq : ∀ t : Fin cfg0.N, (grid0.coords t 0).val = t.val / 8 ∧ (grid0.coords t 1).val = t.val % 8 :=
  (by decide : ∀ t : Fin grid0.N, (grid0.coords t 0).val = t.val / 8 ∧ (grid0.coords t 1).val = t.val % 8)

/-- The eight parts' blocks at point `t`. -/
def parts (c : Dev nD) (t : Fin cfg0.N) : Fin 8 → Vec F S1024x1024 .bf16
  | 0 => iblk m c 0 t | 1 => iblk m c 1 t | 2 => iblk m c 2 t | 3 => iblk m c 3 t
  | 4 => iblk m c 4 t | 5 => iblk m c 5 t | 6 => iblk m c 6 t | 7 => iblk m c 7 t

/-- The block of the part that point `t` works on. -/
def sel (c : Dev nD) (t : Fin cfg0.N) : Vec F S1024x1024 .bf16 := parts m c t (grid0.coords t 0)

/-- The running product after point `n`. -/
def accAt (c : Dev nD) : (n : ℕ) → n < cfg0.N → Vec F S1024x1024 .f32
  | 0, h => k0_pay4 (sel m c ⟨0, h⟩) k0_pay2 (iblk m c 8 ⟨0, h⟩)
  | n + 1, h => k0_pay4 (sel m c ⟨n + 1, h⟩) (if (n + 1) % 8 = 0 then k0_pay2 else accAt c n (Nat.lt_of_succ_lt h)) (iblk m c 8 ⟨n + 1, h⟩)

/-- The running sums after point `n`. -/
def sumAt (c : Dev nD) : (n : ℕ) → n < cfg0.N → Vec F S1x1x1024 .f32
  | 0, h => k0_pay5 (sel m c ⟨0, h⟩) k0_pay3
  | n + 1, h => k0_pay5 (sel m c ⟨n + 1, h⟩) (if (n + 1) % 8 = 0 then k0_pay3 else sumAt c n (Nat.lt_of_succ_lt h))

theorem accAt_first (c : Dev nD) (t : Fin cfg0.N) (h : t.val % 8 = 0) :
    accAt m c t.val t.isLt = k0_pay4 (sel m c t) k0_pay2 (iblk m c 8 t) := by
  obtain ⟨n, hn⟩ := t
  cases n with
  | zero => rfl
  | succ n => dsimp only at h ⊢; rw [accAt, if_pos h]

theorem accAt_next (c : Dev nD) (n : ℕ) (hn : n + 1 < cfg0.N) (h : (n + 1) % 8 ≠ 0) :
    accAt m c (n + 1) hn = k0_pay4 (sel m c ⟨n + 1, hn⟩) (accAt m c n (Nat.lt_of_succ_lt hn)) (iblk m c 8 ⟨n + 1, hn⟩) := by
  rw [accAt, if_neg h]

theorem sumAt_first (c : Dev nD) (t : Fin cfg0.N) (h : t.val % 8 = 0) : sumAt m c t.val t.isLt = k0_pay5 (sel m c t) k0_pay3 := by
  obtain ⟨n, hn⟩ := t
  cases n with
  | zero => rfl
  | succ n => dsimp only at h ⊢; rw [sumAt, if_pos h]

theorem sumAt_next (c : Dev nD) (n : ℕ) (hn : n + 1 < cfg0.N) (h : (n + 1) % 8 ≠ 0) :
    sumAt m c (n + 1) hn = k0_pay5 (sel m c ⟨n + 1, hn⟩) (sumAt m c n (Nat.lt_of_succ_lt hn)) := by
  rw [sumAt, if_neg h]

/-- What is known of the scratch buffer before point `k`: after the first point it holds the running product. -/
def Held (c : Dev nD) (k : ℕ) (u : Vec F S1024x1024 .f32) : Prop := ∀ n (h : n < cfg0.N), k = n + 1 → u = accAt m c n h

/-- The scratch buffer and the random-number register between points. -/
def inv (c : Dev nD) (k : ℕ) : sProp 𝕄 :=
  iprop((∃ u, ⌜Held m c k u⌝ ∗ owns (c : Thread nD τ) (Memref.whole cc0_scratch0) fullShare u) ∗ (∃ r, prngReg c r))

/-- The proof data: the arrays as the host leaves them; after every point the inputs' blocks as they were, the rounded product
    and the sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay1 (accAt m c t.val t.isLt)
    | ⟨10, _⟩ => sumAt m c t.val t.isLt
    | ⟨_ + 11, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = k0_pay1 (accAt m c t.val t.isLt) := by dsimp only [dats]
theorem after_10 (c : Dev nD) (t : Fin cfg0.N) : (dats m 0 c).after 10 t = sumAt m c t.val t.isLt := by dsimp only [dats]

theorem before_0 (c : Dev nD) (t : Fin cfg0.N) (d) : (dats m 0 c).before 0 t d = parts m c t 0 :=
  before0_0_of m (dats m 0 c) (A_eq m c 0) (after_0 m c) t d
theorem before_1 (c : Dev nD) (t : Fin cfg0.N) (d) : (dats m 0 c).before 1 t d = parts m c t 1 :=
  before0_1_of m (dats m 0 c) (A_eq m c 1) (after_1 m c) t d
theorem before_2 (c : Dev nD) (t : Fin cfg0.N) (d) : (dats m 0 c).before 2 t d = parts m c t 2 :=
  before0_2_of m (dats m 0 c) (A_eq m c 2) (after_2 m c) t d
theorem before_3 (c : Dev nD) (t : Fin cfg0.N) (d) : (dats m 0 c).before 3 t d = parts m c t 3 :=
  before0_3_of m (dats m 0 c) (A_eq m c 3) (after_3 m c) t d
theorem before_4 (c : Dev nD) (t : Fin cfg0.N) (d) : (dats m 0 c).before 4 t d = parts m c t 4 :=
  before0_4_of m (dats m 0 c) (A_eq m c 4) (after_4 m c) t d
theorem before_5 (c : Dev nD) (t : Fin cfg0.N) (d) : (dats m 0 c).before 5 t d = parts m c t 5 :=
  before0_5_of m (dats m 0 c) (A_eq m c 5) (after_5 m c) t d
theorem before_6 (c : Dev nD) (t : Fin cfg0.N) (d) : (dats m 0 c).before 6 t d = parts m c t 6 :=
  before0_6_of m (dats m 0 c) (A_eq m c 6) (after_6 m c) t d
theorem before_7 (c : Dev nD) (t : Fin cfg0.N) (d) : (dats m 0 c).before 7 t d = parts m c t 7 :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The sums' buffer is written at every point. -/
theorem live_10 (i : grid0.Coords) : cfg0.idle 10 i = false := by
  have h := at_coord i
  have hp : ∀ p : Fin 8, p = 0 ∨ p = 1 ∨ p = 2 ∨ p = 3 ∨ p = 4 ∨ p = 5 ∨ p = 6 ∨ p = 7 := by decide
  show (!(k0_cond1 i == 1#1) && !(k0_cond2 i == 1#1) && !(k0_cond3 i == 1#1) && !(k0_cond4 i == 1#1) && !(k0_cond5 i == 1#1) && !(k0_cond6 i == 1#1) && !(k0_cond7 i == 1#1) && !(k0_cond8 i == 1#1) && !(k0_cond9 i == 1#1)) = false
  rcases hp (i 0) with e | e | e | e | e | e | e | e
  · rw [h.c2.mpr e]; simp
  · rw [h.c3.mpr e]; simp
  · rw [h.c4.mpr e]; simp
  · rw [h.c5.mpr e]; simp
  · rw [h.c6.mpr e]; simp
  · rw [h.c7.mpr e]; simp
  · rw [h.c8.mpr e]; simp
  · rw [h.c9.mpr e]; simp

/-- The product's buffer is written at a part's last tile and at no other. -/
theorem idle_9 (t : Fin cfg0.N) : cfg0.idle 9 (grid0.coords t) = !decide (t.val % 8 = 7) := by
  show (!(k0_cond10 (grid0.coords t) == 1#1)) = _
  have h := (last_iff (grid0.coords t)).trans (by rw [(coords_eq t).2])
  by_cases e : t.val % 8 = 7
  · rw [h.mpr e]; simp [e]
  · have : ¬ k0_cond10 (grid0.coords t) = 1#1 := fun h' => e (h.mp h')
    simp [e, this]

/-- Between two tiles of a part the sums' buffer holds the sums so far. -/
theorem before_10 (c : Dev nD) (n : ℕ) (h : n + 1 < cfg0.N) (hm : (n + 1) % 8 ≠ 0) (d) :
    (dats m 0 c).before 10 ⟨n + 1, h⟩ d = sumAt m c n (Nat.lt_of_succ_lt h) := by
  rw [Dat.before_out_kept _ 10 rfl ⟨n + 1, h⟩ (Nat.succ_ne_zero n) (Bool.eq_false_iff.mpr fun h' => by
    have := (flush0_10 _).mp h'; dsimp only at this; omega) live_10 (fun _ _ => rfl)]
  dsimp only [dats]
  rfl

/-- What the product's buffer is left with at point `t`. -/
theorem leaves_9 (c : Dev nD) (t : Fin cfg0.N) (d) :
    owns (c : Thread nD τ) (st0_9 t) fullShare (stored (grid0.coords t) (accAt m c t.val t.isLt) ((dats m 0 c).before 9 t d))
      ⊢ ((dats m 0 c).leavesExact 9 t : sProp 𝕄) := by
  have h := (last_iff (grid0.coords t)).trans (by rw [(coords_eq t).2])
  by_cases e : t.val % 8 = 7
  · have hi : cfg0.idle 9 (cfg0.grid.coords t) = false := (idle_9 t).trans (by simp [e])
    unfold Dat.leavesExact stored
    rw [hi, if_pos (h.mpr e), after_9]
  · have hi : cfg0.idle 9 (cfg0.grid.coords t) = true := (idle_9 t).trans (by simp [e])
    have hf : (cfg0.win 9).flush t = false := Bool.eq_false_iff.mpr fun h' => e ((flush0_9 t).mp h')
    rw [Dat.leavesExact_idle _ 9 t hi hf]
    unfold stored
    rw [if_neg (fun h' => e (h.mp h'))]
    iintro H; iexists d; iexact H

/-- What the sums' buffer is left with. -/
theorem leaves_10 (c : Dev nD) (t : Fin cfg0.N) :
    owns (c : Thread nD τ) (st0_10 t) fullShare (sumAt m c t.val t.isLt) ⊢ ((dats m 0 c).leavesExact 10 t : sProp 𝕄) := by
  have hi : cfg0.idle 10 (cfg0.grid.coords t) = false := live_10 _
  unfold Dat.leavesExact
  rw [hi, after_10]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5, after_6, after_7, after_8]
  unfold inv
  by_cases hm : t.val % 8 = 0
  · have hc : (grid0.coords t 1).val = 0 := (coords_eq t).2.trans hm
    iintro ⟨⟨⟨%u, %hu, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply body_first c (parts m c t) (iblk m c 8 t) ((dats m 0 c).before 9 t d9) hc
    isplitl [H0 H1 H2 H3 H4 H5 H6 H7 H8 Hs H10]
    · isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [Hs]; · iexists _; iexact Hs
      iexists _; iexact H10
    isplitl [H9]; · iexact H9
    iintro ⟨Hi, Hs, H10, H9⟩
    unfold ins
    icases Hi with ⟨H0, H1, H2, H3, H4, H5, H6, H7, H8⟩
    isplitl [Hs Hr]
    · isplitl [Hs]
      · iexists _; isplitr
        swap; · iexact Hs
        ipureintro
        intro n' h' e'
        obtain rfl : _ = n' := Nat.succ.inj e'
        exact (accAt_first m c t hm).symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply leaves_9 m c t d9
      rw [accAt_first m c t hm]
      iexact H9
    iapply leaves_10 m c t
    rw [sumAt_first m c t hm]
    iexact H10
  · obtain ⟨n, hn⟩ := t
    cases n with
    | zero => exact absurd rfl hm
    | succ n =>
    dsimp only at hm
    have hc : (grid0.coords ⟨n + 1, hn⟩ 1).val ≠ 0 := fun h => hm ((coords_eq ⟨n + 1, hn⟩).2.symm.trans h)
    simp only [before_10 m c n hn hm]
    iintro ⟨⟨⟨%u, %hu, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := hu n (Nat.lt_of_succ_lt hn) rfl
    iapply body_next c (parts m c ⟨n + 1, hn⟩) (iblk m c 8 ⟨n + 1, hn⟩) ((dats m 0 c).before 9 ⟨n + 1, hn⟩ d9) (accAt m c n (Nat.lt_of_succ_lt hn)) (sumAt m c n (Nat.lt_of_succ_lt hn)) hc
    isplitl [H0 H1 H2 H3 H4 H5 H6 H7 H8 Hs H10]
    · isplitl [H0 H1 H2 H3 H4 H5 H6 H7 H8]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      isplitl [Hs]; · iexact Hs
      iexact H10
    isplitl [H9]; · iexact H9
    iintro ⟨Hi, Hs, H10, H9⟩
    unfold ins
    icases Hi with ⟨H0, H1, H2, H3, H4, H5, H6, H7, H8⟩
    isplitl [Hs Hr]
    · isplitl [Hs]
      · iexists _; isplitr
        swap; · iexact Hs
        ipureintro
        intro n' h' e'
        obtain rfl : _ = n' := Nat.succ.inj e'
        exact (accAt_next m c n hn hm).symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iapply leaves_9 m c ⟨n + 1, hn⟩ d9
      rw [accAt_next m c n hn hm]
      iexact H9
    iapply leaves_10 m c ⟨n + 1, hn⟩
    rw [sumAt_next m c n hn hm]
    iexact H10

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The pipeline's obligation on its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer starts at anything. -/
theorem inv_in (c : Dev nD) : Pipeline.ΦA spec0 c ⊢ (inv m c 0 : sProp 𝕄) := by
  unfold Pipeline.ΦA inv
  rw [scopedRest0_eq]
  iintro ⟨⟨%f, H⟩, Hr⟩
  isplitl [H]
  · iexists f; isplitr
    · ipureintro; intro n h e; exact absurd e (Nat.succ_ne_zero n).symm
    iapply (Entails.of_eq (owns_whole (c : Thread nD τ) cc0_scratch0 fullShare f).symm); iexact H
  iexact Hr

/-- At the end what it holds is forgotten. -/
theorem inv_out (c : Dev nD) (k : ℕ) : (inv m c k : sProp 𝕄) ⊢ Pipeline.ΦA spec0 c := by
  unfold Pipeline.ΦA inv
  rw [scopedRest0_eq]
  iintro ⟨⟨%u, -, H⟩, Hr⟩
  isplitl [H]
  · iexists u; iapply (Entails.of_eq (owns_whole (c : Thread nD τ) cc0_scratch0 fullShare u)); iexact H
  iexact Hr

set_option backward.isDefEq.respectTransparency.types false in
/-- The whole program runs to an end, with every array as the proof data says and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := A_eq m) (hin := inv_in m) (hout := fun c => inv_out m c _)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ (dats m) (A_eq m) (run_main m ρ)) ((θ_run defs _ _).mono (fun _ h => h.2) (run_main_quiescent m ρ))

/-- Both output arrays end as the pipeline's write-backs make them. -/
theorem run : θ_run defs (onTc (τ := τ) (main (F := F))) ⟨m, fun _ => 0, ρ⟩ (fun r => ∀ c : Dev nD,
      r.2.mem ((c : Thread nD τ).loc main_v0_0) = (dats m 0 c).arrAt 9 cfg0.N
      ∧ r.2.mem ((c : Thread nD τ).loc main_v0_1) = (dats m 0 c).arrAt 10 cfg0.N) :=
  (θ_run defs _ _).mono (fun r h c => ⟨(h c).1 9, (h c).1 10⟩) (run_main m ρ)

end Cert.Kernel3Ideal.Stack

end
-- ==== Proof.StackFinal.lean ====
module

public import proofs.«01_k».proof.Proof.StackFrame
public import proofs.«01_k».proof.Proof.RealLift

/-! What the kernel for the input projection's weights has written when it ends: each part's product with the normed
    rows and each part's column sums, over all rows. A part is walked tile by tile; the sums of the eight tiles are
    one sum over the rows, on the extended reals without any condition. -/

@[expose] public section

set_option maxRecDepth 16384

noncomputable section

open Idealize.ShloMosaic Idealize.ShloMosaic.TcCoe Idealize.SL.Sem
open Idealize.ShloMosaic.Pipeline (Dat)

namespace Cert.Kernel3Ideal.Stack

open Cert.Kernel3Ideal Cert.Kernel3Ideal.Gen

/-- Row `r` of tile `s`. -/
def row (s : ℕ) (r : Fin 1024) : Fin 8192 := ⟨(s * 1024 + r.val) % 8192, Nat.mod_lt _ (by norm_num)⟩

/-- The sum over the tiles is the sum over the rows. -/
theorem sum_tiles (f : Fin 8192 → EReal) : ∑ s ∈ Finset.range 8, ∑ r : Fin 1024, f (row s r) = ∑ t, f t := by
  rw [Finset.sum_range, ← Fintype.sum_prod_type', ← Equiv.sum_comp (finProdFinEquiv (m := 8) (n := 1024)) (fun t : Fin (8 * 1024) => f t)]
  refine Finset.sum_congr rfl fun x _ => congrArg f (Fin.ext ?_)
  have h1 := x.1.isLt
  have h2 := x.2.isLt
  simp only [row, finProdFinEquiv, Equiv.coe_fn_mk]
  omega

variable (m : (ℓ : Loc nD τ sig) → Buf (Elt Ideal) ℓ) (c : Dev nD)

/-- The part of each number. -/
def part : ℕ → FVec Ideal S8192x1024 .bf16
  | 0 => m ((c : Thread nD τ).loc main_arg0) | 1 => m ((c : Thread nD τ).loc main_arg1)
  | 2 => m ((c : Thread nD τ).loc main_arg2) | 3 => m ((c : Thread nD τ).loc main_arg3)
  | 4 => m ((c : Thread nD τ).loc main_arg4) | 5 => m ((c : Thread nD τ).loc main_arg5)
  | 6 => m ((c : Thread nD τ).loc main_arg6) | _ => m ((c : Thread nD τ).loc main_arg7)

/-- The normed rows. -/
def normed : FVec Ideal S8192x1024 .bf16 := m ((c : Thread nD τ).loc main_arg8)

theorem idx : ∀ t : Fin cfg0.N, (t.val / 8 = 0 → win0_0.index t = ![t.val % 8, 0]) ∧ (t.val / 8 = 1 → win0_1.index t = ![t.val % 8, 0])
    ∧ (t.val / 8 = 2 → win0_2.index t = ![t.val % 8, 0]) ∧ (t.val / 8 = 3 → win0_3.index t = ![t.val % 8, 0])
    ∧ (t.val / 8 = 4 → win0_4.index t = ![t.val % 8, 0]) ∧ (t.val / 8 = 5 → win0_5.index t = ![t.val % 8, 0])
    ∧ (t.val / 8 = 6 → win0_6.index t = ![t.val % 8, 0]) ∧ (t.val / 8 = 7 → win0_7.index t = ![t.val % 8, 0]) :=
  (by decide +kernel : ∀ t : Fin grid0.N, _)

theorem idxo : ∀ t : Fin cfg0.N, win0_8.index t = ![t.val % 8, 0] ∧ win0_9.index t = ![t.val / 8, 0] ∧ win0_10.index t = ![t.val / 8, 0, 0] :=
  (by decide +kernel : ∀ t : Fin grid0.N, _)

theorem lt64 (t : Fin cfg0.N) : t.val < 64 := lt_of_lt_of_eq t.isLt (show cfg0.N = 64 from N_0)

theorem parts_at (t : Fin cfg0.N) (p : Fin 8) (h : p.val = t.val / 8) (r k : Fin 1024) :
    parts m c t p (ix2 r k) = part m c p.val (ix2 (row (t.val % 8) r) k) := by
  obtain ⟨i0, i1, i2, i3, i4, i5, i6, i7⟩ := idx t
  match p, h with
  | 0, h => have e := i0 h.symm; dsimp only [parts, part]; blk_ext [iblk, V, e, row]
  | 1, h => have e := i1 h.symm; dsimp only [parts, part]; blk_ext [iblk, V, e, row]
  | 2, h => have e := i2 h.symm; dsimp only [parts, part]; blk_ext [iblk, V, e, row]
  | 3, h => have e := i3 h.symm; dsimp only [parts, part]; blk_ext [iblk, V, e, row]
  | 4, h => have e := i4 h.symm; dsimp only [parts, part]; blk_ext [iblk, V, e, row]
  | 5, h => have e := i5 h.symm; dsimp only [parts, part]; blk_ext [iblk, V, e, row]
  | 6, h => have e := i6 h.symm; dsimp only [parts, part]; blk_ext [iblk, V, e, row]
  | 7, h => have e := i7 h.symm; dsimp only [parts, part]; blk_ext [iblk, V, e, row]

/-- The block of the part that point `t` works on holds its tile's rows. -/
theorem sel_at (t : Fin cfg0.N) (r k : Fin 1024) : sel m c t (ix2 r k) = part m c (t.val / 8) (ix2 (row (t.val % 8) r) k) :=
  (parts_at m c t (grid0.coords t 0) (coords_eq t).1 r k).trans (congrArg (fun p => part m c p (ix2 (row (t.val % 8) r) k)) (coords_eq t).1)

theorem normed_at (t : Fin cfg0.N) (r k : Fin 1024) : iblk m c 8 t (ix2 r k) = normed m c (ix2 (row (t.val % 8) r) k) := by
  have e := (idxo t).1
  unfold normed
  blk_ext [iblk, V, e, row]

/-- A tile's product. -/
theorem pay4_at (x : FVec Ideal S1024x1024 .bf16) (a : FVec Ideal S1024x1024 .f32) (y : FVec Ideal S1024x1024 .bf16) (k j : Fin 1024) :
    k0_pay4 x a y (ix2 k j) = a (ix2 k j) + ∑ r : Fin 1024, (x (ix2 r k) : EReal) * y (ix2 r j) := by
  pointwise [k0_pay4]

/-- A tile's column sums. -/
theorem pay5_at (x : FVec Ideal S1024x1024 .bf16) (a : FVec Ideal S1x1x1024 .f32) (k : Fin 1024) :
    k0_pay5 x a (ix3 0 0 k) = a (ix3 0 0 k) + ∑ r : Fin 1024, (x (ix2 r k) : EReal) := by
  pointwise [k0_pay5]

theorem pay2_at (i : S1024x1024.Idx) : (k0_pay2 (F := Ideal)) i = (0 : EReal) := by
  pointwise [k0_pay2]

theorem pay3_at (i : S1x1x1024.Idx) : (k0_pay3 (F := Ideal)) i = (0 : EReal) := by
  pointwise [k0_pay3]

/-- The running product: the sum over the tiles so far. -/
theorem acc_at (k j : Fin 1024) : ∀ (n : ℕ) (h : n < cfg0.N), accAt m c n h (ix2 k j)
    = ∑ s ∈ Finset.range (n % 8 + 1), ∑ r : Fin 1024, (part m c (n / 8) (ix2 (row s r) k) : EReal) * normed m c (ix2 (row s r) j) := by
  intro n
  induction n with
  | zero =>
    intro h
    rw [accAt_first m c ⟨0, h⟩ rfl, pay4_at, pay2_at, zero_add]
    simp only [sel_at, normed_at]
    rw [Nat.zero_mod, Nat.zero_add, Finset.sum_range_one]
  | succ n ih =>
    intro h
    by_cases h0 : (n + 1) % 8 = 0
    · rw [accAt_first m c ⟨n + 1, h⟩ h0, pay4_at, pay2_at, zero_add, h0]
      simp only [sel_at, normed_at, h0]
      rw [Nat.zero_add, Finset.sum_range_one]
    · rw [accAt_next m c n h h0, pay4_at, ih, Finset.sum_range_succ _ ((n + 1) % 8)]
      simp only [sel_at, normed_at]
      rw [show n % 8 + 1 = (n + 1) % 8 by omega, show n / 8 = (n + 1) / 8 by omega]

/-- The running column sums: the sum over the tiles so far. -/
theorem sum_at (k : Fin 1024) : ∀ (n : ℕ) (h : n < cfg0.N), sumAt m c n h (ix3 0 0 k)
    = ∑ s ∈ Finset.range (n % 8 + 1), ∑ r : Fin 1024, (part m c (n / 8) (ix2 (row s r) k) : EReal) := by
  intro n
  induction n with
  | zero =>
    intro h
    rw [sumAt_first m c ⟨0, h⟩ rfl, pay5_at, pay3_at, zero_add]
    simp only [sel_at]
    rw [Nat.zero_mod, Nat.zero_add, Finset.sum_range_one]
  | succ n ih =>
    intro h
    by_cases h0 : (n + 1) % 8 = 0
    · rw [sumAt_first m c ⟨n + 1, h⟩ h0, pay5_at, pay3_at, zero_add, h0]
      simp only [sel_at, h0]
      rw [Nat.zero_add, Finset.sum_range_one]
    · rw [sumAt_next m c n h h0, pay5_at, ih, Finset.sum_range_succ _ ((n + 1) % 8)]
      simp only [sel_at]
      rw [show n % 8 + 1 = (n + 1) % 8 by omega, show n / 8 = (n + 1) / 8 by omega]

/-- The products, laid under one another. -/
def prods (i : S8192x1024.Idx) : EReal :=
  ∑ t : Fin 8192, (part m c ((i 0).val / 1024) (ix2 t ⟨(i 0).val % 1024, Nat.mod_lt _ (by norm_num)⟩) : EReal) * normed m c (ix2 t (i 1))

/-- The column sums. -/
def colSums (i : S8x1x1024.Idx) : EReal := ∑ t : Fin 8192, (part m c (i 0).val (ix2 t (i 2)) : EReal)

theorem final_9 : (dats m 0 c).arrAt 9 cfg0.N = prods m c := by
  refine (dats m 0 c).arrAt_eq_of_covers 9 _ (by decide +kernel) fun t hf y => ?_
  blk_simp
  rw [after_9]
  have h7 : t.val % 8 = 7 := (flush0_9 t).mp hf
  have ht := lt64 t
  obtain ⟨k, j, rfl⟩ : ∃ (k : Fin 1024) (j : Fin 1024), y = ix2 k j := ⟨y 0, y 1, by funext a; match a with | 0 => rfl | 1 => rfl⟩
  have e : (win0_9.blk t).view.emb (ix2 k j) = ix2 (⟨t.val / 8 * 1024 + k.val, by omega⟩ : Fin 8192) j := by blk_point [idxo t]
  rw [e]
  show accAt m c t.val t.isLt (ix2 k j) = _
  rw [acc_at, h7, sum_tiles (fun s => (part m c (t.val / 8) (ix2 s k) : EReal) * normed m c (ix2 s j))]
  unfold prods
  refine Finset.sum_congr rfl fun s _ => ?_
  have e1 : (t.val / 8 * 1024 + k.val) / 1024 = t.val / 8 := by omega
  have e2 : (⟨(t.val / 8 * 1024 + k.val) % 1024, Nat.mod_lt _ (by norm_num)⟩ : Fin 1024) = k := Fin.ext (by dsimp only; omega)
  show _ = (part m c ((t.val / 8 * 1024 + k.val) / 1024) (ix2 s ⟨(t.val / 8 * 1024 + k.val) % 1024, _⟩) : EReal) * normed m c (ix2 s j)
  rw [e1, e2]

theorem final_10 : (dats m 0 c).arrAt 10 cfg0.N = colSums m c := by
  refine (dats m 0 c).arrAt_eq_of_covers 10 _ (by decide +kernel) fun t hf y => ?_
  blk_simp
  rw [after_10]
  have h7 : t.val % 8 = 7 := (flush0_10 t).mp hf
  have ht := lt64 t
  obtain ⟨k, rfl⟩ : ∃ k : Fin 1024, y = ix3 0 0 k := ⟨y 2, by
    funext a
    match a with
    | 0 => exact Subsingleton.elim (α := Fin 1) _ _
    | 1 => exact Subsingleton.elim (α := Fin 1) _ _
    | 2 => rfl⟩
  have e : (win0_10.blk t).view.emb (ix3 0 0 k) = ix3 (⟨t.val / 8, by omega⟩ : Fin 8) (0 : Fin 1) k := by blk_point [idxo t]
  rw [e]
  exact (sum_at m c k t.val t.isLt).trans (by rw [h7, sum_tiles (fun s => (part m c (t.val / 8) (ix2 s k) : EReal))]; rfl)

end Cert.Kernel3Ideal.Stack

end
-- ==== Proof.StackRef.lean ====
module

public import proofs.«01_k».proof.Proof.Gen.Reference3Ideal.Run
public import Idealize.ShloMosaic.Lib.Pipeline.ValueKit
public import Idealize.ShloMosaic.Lib.Pointwise

/-! What the reference for the input projection's weights computes, read at one element: each of its eight products
    and each of its eight column sums. -/

@[expose] public section

set_option maxRecDepth 16384

noncomputable section

open Idealize.ShloMosaic Idealize.ShloMosaic.TcCoe Idealize.SL.Sem

namespace Cert.StackRef

open Cert.Reference3Ideal Cert.Reference3Ideal.Gen Cert.Reference3Ideal.Facts

/-- The gradient of one part's weights, transposed. -/
def piece (X H : FVec Ideal S8192x1024 .bf16) : FVec Ideal S1024x1024 .f32 :=
  transpose S1024x1024 [1, 0] (transpose S1024x1024 [1, 0] (Host.dotGeneral dot_S8192x1024_S8192x1024_S1024x1024_0_0_1_1_n_n none
    (extf .f32 X bitsLt_bf16_f32) (extf .f32 H bitsLt_bf16_f32)) transposes_S1024x1024_S1024x1024_1_0) transposes_S1024x1024_S1024x1024_1_0

/-- The gradient of one part's bias. -/
def bias (X : FVec Ideal S8192x1024 .bf16) : FVec Ideal S1x1024 .f32 :=
  broadcastInDim S1x1024 ![1] bcast_S1024_S1x1024_1 (Host.reduceAdd (shapeCast _ (Host.reduceAdd (extf .f32 X bitsLt_bf16_f32)
    (constant S_ .f32 0x00000000#32) reducesTo_S8192x1024_S1024_d0 h_S_) shapeCasts_S1024_S1x1024) (constant S_ .f32 0x00000000#32) reducesTo_S1x1024_S1024_d0 h_S_)

theorem piece_at (X H : FVec Ideal S8192x1024 .bf16) (k j : Fin 1024) :
    piece X H (ix2 k j) = ∑ t : Fin 8192, (X (ix2 t k) : EReal) * H (ix2 t j) := by
  pointwise [piece]

theorem bias_at (X : FVec Ideal S8192x1024 .bf16) (k : Fin 1024) : bias X (ix2 0 k) = ∑ t : Fin 8192, (X (ix2 t k) : EReal) := by
  pointwise [bias]
  simp only [Finset.univ_unique, Finset.sum_singleton]

/-- The eight products under one another, rounded. -/
def weights (P : Fin 8 → FVec Ideal S8192x1024 .bf16) (H : FVec Ideal S8192x1024 .bf16) : FVec Ideal S8192x1024 .bf16 :=
  truncf .bf16 ((concatenate S8192x1024 0 (List.ofFn fun p : Fin 8 => (⟨S1024x1024, piece (P p) H⟩ : (s : Shape) × (s.Idx → Ideal .f32)))
    concatenates_S1024x1024_S1024x1024_S1024x1024_S1024x1024_S1024x1024_S1024x1024_S1024x1024_S1024x1024_S8192x1024_d0) : FVec Ideal S8192x1024 .f32) bitsLt_bf16_f32

/-- The eight biases' gradients. -/
def biases (P : Fin 8 → FVec Ideal S8192x1024 .bf16) : FVec Ideal S8x1x1024 .f32 :=
  broadcastInDim S8x1x1024 ![0, 2] bcast_S8x1024_S8x1x1024_0_2 ((concatenate S8x1024 0 (List.ofFn fun p : Fin 8 =>
      (⟨S1x1024, bias (P p)⟩ : (s : Shape) × (s.Idx → Ideal .f32)))
    concatenates_S1x1024_S1x1024_S1x1024_S1x1024_S1x1024_S1x1024_S1x1024_S1x1024_S8x1024_d0) : FVec Ideal S8x1024 .f32)

theorem weights_at (P : Fin 8 → FVec Ideal S8192x1024 .bf16) (H : FVec Ideal S8192x1024 .bf16) (p : Fin 8) (k j : Fin 1024) :
    weights P H (ix2 ⟨p.val * 1024 + k.val, by omega⟩ j) = ∑ t : Fin 8192, (P p (ix2 t k) : EReal) * H (ix2 t j) := by
  rw [← piece_at]
  refine concatenate_ofFn_apply (t := S8192x1024) (s₁ := S1024x1024) (0 : Fin 2) (fun p => piece (P p) H)
    concatenates_S1024x1024_S1024x1024_S1024x1024_S1024x1024_S1024x1024_S1024x1024_S1024x1024_S1024x1024_S8192x1024_d0 rfl 1024 rfl _ p ?_ (ix2 k j) ?_ ?_
  · show (p.val * 1024 + k.val) / 1024 = p.val; omega
  · show k.val = (p.val * 1024 + k.val) % 1024; omega
  · intro b hb
    match b with
    | 0 => exact absurd rfl hb
    | 1 => rfl

theorem biases_at (P : Fin 8 → FVec Ideal S8192x1024 .bf16) (p : Fin 8) (k : Fin 1024) :
    biases P (ix3 p 0 k) = ∑ t : Fin 8192, (P p (ix2 t k) : EReal) := by
  rw [← bias_at]
  refine Eq.trans (show biases P (ix3 p 0 k) = concatenate S8x1024 0 (List.ofFn fun p : Fin 8 => (⟨S1x1024, bias (P p)⟩ : (s : Shape) × (s.Idx → Ideal .f32)))
    concatenates_S1x1024_S1x1024_S1x1024_S1x1024_S1x1024_S1x1024_S1x1024_S1x1024_S8x1024_d0 (ix2 p k) from ?_) ?_
  · pointwise [biases]
  · refine concatenate_ofFn_apply (t := S8x1024) (s₁ := S1x1024) (0 : Fin 2) (fun p => bias (P p))
      concatenates_S1x1024_S1x1024_S1x1024_S1x1024_S1x1024_S1x1024_S1x1024_S1x1024_S8x1024_d0 rfl 1 rfl _ p ?_ (ix2 0 k) ?_ ?_
    · show p.val / 1 = p.val; omega
    · show 0 = p.val % 1; omega
    · intro b hb
      match b with
      | 0 => exact absurd rfl hb
      | 1 => rfl

end Cert.StackRef

end
-- ==== Proof.StackClaim.lean ====
module

public import proofs.«01_k».proof.Defs
public import proofs.«01_k».proof.Proof.StackFinal
public import proofs.«01_k».proof.Proof.StackRef

/-! The kernel for the input projection's weights computes what its reference computes. -/

@[expose] public section

set_option maxRecDepth 16384

noncomputable section

open Idealize.ShloMosaic Idealize.ShloMosaic.TcCoe Idealize.SL.Sem

namespace Cert.StackClaim

section
open Cert.Kernel3Ideal Cert.Kernel3Ideal.Gen
open Idealize.ShloMosaic.Pipeline (Dat)

/-- The kernel's run: its arrays and its unchanged arguments. -/
theorem run_all (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v0_0) = (Cert.Kernel3Ideal.Stack.dats m 0 c).arrAt 9 cfg0.N
      ∧ r.2.mem ((c : Thread nD τ).loc main_v0_1) = (Cert.Kernel3Ideal.Stack.dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨(h.1 c).1, (h.1 c).2, h.2.1 c⟩)
    (θ_run_and (Cert.Kernel3Ideal.Stack.run m ρ) (Cert.Kernel3Ideal.Stack.frame m ρ))

end

/-- The reference's products are the kernel's. -/
theorem weights_eq (m : (ℓ : Loc Cert.Kernel3Ideal.nD Cert.Kernel3Ideal.τ Cert.Kernel3Ideal.sig) → Buf (Elt Ideal) ℓ) (c : Dev Cert.Kernel3Ideal.nD) :
    StackRef.weights (fun p => Cert.Kernel3Ideal.Stack.part m c p.val) (Cert.Kernel3Ideal.Stack.normed m c) = Cert.Kernel3Ideal.Stack.prods m c := by
  funext i
  obtain ⟨r, j, rfl⟩ : ∃ (r : Fin 8192) (j : Fin 1024), i = ix2 r j := ⟨i 0, i 1, (ix2_eta i).symm⟩
  have e : r = ⟨r.val / 1024 * 1024 + r.val % 1024, by omega⟩ := Fin.ext (by dsimp only; omega)
  exact (congrArg (fun q => StackRef.weights _ _ (ix2 q j)) e).trans
    (StackRef.weights_at _ _ (⟨r.val / 1024, by omega⟩ : Fin 8) (⟨r.val % 1024, Nat.mod_lt _ (by norm_num)⟩ : Fin 1024) j)

/-- The reference's column sums are the kernel's. -/
theorem biases_eq (m : (ℓ : Loc Cert.Kernel3Ideal.nD Cert.Kernel3Ideal.τ Cert.Kernel3Ideal.sig) → Buf (Elt Ideal) ℓ) (c : Dev Cert.Kernel3Ideal.nD) :
    StackRef.biases (fun p => Cert.Kernel3Ideal.Stack.part m c p.val) = Cert.Kernel3Ideal.Stack.colSums m c := by
  funext i
  obtain ⟨p, k, rfl⟩ : ∃ (p : Fin 8) (k : Fin 1024), i = ix3 p 0 k :=
    ⟨i 0, i 2, (ix3_eta i).symm.trans (congrArg (fun q => ix3 (i 0) q (i 2)) (Subsingleton.elim (α := Fin 1) _ _))⟩
  exact StackRef.biases_at _ p k

set_option maxHeartbeats 4000000 in
/-- Both results of the kernel are the reference's. -/
theorem algebraic : Cert.algebraic_Kernel3Ideal_Reference3Ideal := by
  intro m g m' g' hpre hagree
  refine ⟨_, _, run_all m g, (θ_run _ _ _).mono (fun r h c => ?_) (Cert.Reference3Ideal.Value.run m' g')⟩
  obtain ⟨q0, q1, q2, q3, q4, q5, q6, q7, q8⟩ := hagree c
  obtain ⟨h0, h1, ha⟩ := h c
  rw [q0, q1, q2, q3, q4, q5, q6, q7, q8] at h0
  rw [q0, q1, q2, q3, q4, q5, q6, q7] at h1
  refine ⟨h0.trans ?_, h1.trans ?_, ha⟩
  · exact Eq.trans (b := StackRef.weights (fun p => Cert.Kernel3Ideal.Stack.part m c p.val) (Cert.Kernel3Ideal.Stack.normed m c)) rfl
      ((weights_eq m c).trans (Cert.Kernel3Ideal.Stack.final_9 m c).symm)
  · exact Eq.trans (b := StackRef.biases (fun p => Cert.Kernel3Ideal.Stack.part m c p.val)) rfl
      ((biases_eq m c).trans (Cert.Kernel3Ideal.Stack.final_10 m c).symm)

end Cert.StackClaim

end
-- ==== Proof.StackBits.lean ====
module

public import proofs.«01_k».proof.Defs
public import proofs.«01_k».proof.Proof.Gen.Kernel3
public import proofs.«01_k».proof.Proof.StackFrame

/-! The stacked weight gradient's run for the program as printed: it is the program that the run is proved for over any numbers. -/

@[expose] public section

set_option maxRecDepth 16384

noncomputable section

open Idealize.ShloMosaic Idealize.SL.Sem

namespace Cert.StackBits

attribute [local instance] Cert.Kernel3.Gen.facts Cert.Kernel3Ideal.Gen.facts

set_option maxHeartbeats 8000000 in
/-- The two programs call the same body at their one label. -/
theorem body_eq : Cert.Kernel3.defs₀ (F := Bits) = Cert.Kernel3Ideal.defs₀ (F := Bits) := by
  refine congrArg Defs.onTc (funext fun l => ?_)
  match l with
  | ⟨0, _⟩ => exact funext fun ⟨t, s⟩ => rfl

set_option maxHeartbeats 8000000 in
/-- So they have the same table of bodies. -/
theorem defs_eq : Cert.Kernel3.defs (F := Bits) = Cert.Kernel3Ideal.defs (F := Bits) :=
  congrArg (Pipeline.defs (Cert.Kernel3.pcfgs (F := Bits))) body_eq

set_option maxHeartbeats 8000000 in
/-- Every run of the program as printed ends. -/
theorem frame : Cert.quiescent_Kernel3 (hKernel3 := Cert.Kernel3.Gen.facts) := by
  intro m ρ _
  rw [defs_eq]
  exact (θ_run Cert.Kernel3Ideal.defs _ _).mono (fun _ h => h) (Cert.Kernel3Ideal.Stack.frame (F := Bits) m ρ)

end Cert.StackBits

end
-- ==== Proof.RestFinal.lean ====
module

public import proofs.«01_k».proof.Proof.Gen.Kernel4Ideal.Value
public import proofs.«01_k».proof.Proof.RealLift

/-! What the forward projection to the gates, the recurrence's inputs and the merge gates has written when it ends: each
    row's products with the projection's columns, plus the bias. The host lays the projection's columns out as rows of one
    array, the forget columns last; a tile of the output reads one section of it. -/

@[expose] public section

set_option maxRecDepth 16384

noncomputable section

open Idealize.ShloMosaic Idealize.ShloMosaic.TcCoe Idealize.SL.Sem
open Idealize.ShloMosaic.Pipeline (Dat)

namespace Cert.Rest

open Cert.Kernel4Ideal Cert.Kernel4Ideal.Gen

variable (m : (ℓ : Loc nD τ sig) → Buf (Elt Ideal) ℓ) (c : Dev nD)

/-- The normed rows, the projection and its bias, as given. -/
def rows : FVec Ideal S8192x1024 .bf16 := m ((c : Thread nD τ).loc main_arg0)
def proj : FVec Ideal S1024x9232 .f32 := m ((c : Thread nD τ).loc main_arg1)
def bias : FVec Ideal S1x9232 .f32 := m ((c : Thread nD τ).loc main_arg2)

/-- A transposed slice of the columns from `o` on, at one element. -/
theorem column (X : FVec Ideal S1024x9232 .f32) (o : ℕ) (hs : S1024x9232.Slices ![0, o] S1024x1024) (ht : S1024x1024.Transposes [1, 0] S1024x1024)
    (r j : Fin 1024) (ho : o + 1024 ≤ 9232) :
    transpose S1024x1024 [1, 0] (extractStridedSlice S1024x1024 ![0, o] X hs) ht (ix2 r j) = X (ix2 j ⟨o + r.val, by omega⟩) := by
  pointwise
  blk_ext []

set_option maxHeartbeats 4000000 in
/-- Row `i` of the sections after the forget gate's is column `i + 16` of the projection. -/
theorem stacked (i : Fin 8320) (j : Fin 1024) (h0 : 3072 ≤ i.val) (h1 : i.val < 8192) :
    (show FVec Ideal S8320x1024 .bf16 from V m c main_v20) (ix2 i j) = proj m c (ix2 j ⟨i.val + 16, by omega⟩) := by
  unfold V
  after_results_simp
  pointwise
  after_results_simp
  obtain ⟨X, hX⟩ : ∃ X : FVec Ideal S1024x9232 .f32, m ((c : Thread nD τ).loc main_arg1) = X := ⟨_, rfl⟩
  have hX' : m (c, Proc.tc.devRef main_arg1) = X := hX
  have hP : proj m c = X := hX
  simp only [hX, hX', hP]
  split_ifs
  all_goals try (exfalso; omega)
  all_goals rw [column X _ _ _ _ _ (by norm_num)]
  all_goals refine congrArg (fun q => X (ix2 j q)) (Fin.ext ?_); dsimp only; omega

theorem idx : ∀ t : Fin cfg0.N, win0_0.index t = ![t.val / 5, 0] ∧ win0_1.index t = ![3 + t.val % 5, 0] ∧ win0_2.index t = ![0, t.val % 5]
    ∧ win0_3.index t = ![t.val / 5, t.val % 5] :=
  (by decide +kernel : ∀ t : Fin grid0.N, _)

theorem lt40 (t : Fin cfg0.N) : t.val < 40 := lt_of_lt_of_eq t.isLt (show cfg0.N = 40 from N_0)

theorem rd0 (t : Fin cfg0.N) (r k : Fin 1024) :
    iblk m c 0 t (ix2 r k) = rows m c (ix2 ⟨t.val / 5 * 1024 + r.val, by have := lt40 t; omega⟩ k) := by
  unfold rows; blk_ext [iblk, V, idx t]

theorem rd1 (t : Fin cfg0.N) (r k : Fin 1024) :
    X0_1 m c t (ix2 r k) = proj m c (ix2 k ⟨3088 + (t.val % 5 * 1024 + r.val), by omega⟩) := by
  have e : X0_1 m c t (ix2 r k) = (show FVec Ideal S8320x1024 .bf16 from V m c main_v20) (ix2 ⟨(3 + t.val % 5) * 1024 + r.val, by omega⟩ k) := by
    unfold X0_1 Pipeline.Window.fill
    rw [dif_pos (moved0_1 t _)]
    blk_ext [iblk, idx t]
  rw [e, stacked m c _ k (by dsimp only; omega) (by dsimp only; omega)]
  refine congrArg (fun q => proj m c (ix2 k q)) (Fin.ext ?_); dsimp only; omega

theorem V_bias : V m c main_v21 = extractStridedSlice S1x5120 ![0, 3088] (bias m c) slices_S1x9232_S1x5120_0_3088 := by
  unfold V
  after_results_simp
  rfl

theorem rd2 (t : Fin cfg0.N) (r : Fin 1024) :
    iblk m c 2 t (ix2 0 r) = bias m c (ix2 0 ⟨3088 + (t.val % 5 * 1024 + r.val), by omega⟩) := by
  have e : iblk m c 2 t (ix2 0 r) = (show FVec Ideal S1x5120 .f32 from V m c main_v21) (ix2 0 ⟨t.val % 5 * 1024 + r.val, by omega⟩) := by
    blk_ext [iblk, idx t]
  rw [e]
  refine (congrFun (V_bias m c) _).trans ?_
  pointwise

/-- A tile of the output. -/
theorem pay_at (x w : FVec Ideal S1024x1024 .bf16) (b : FVec Ideal S1x1024 .f32) (r j : Fin 1024) :
    k0_pay1 x w b (ix2 r j) = (∑ k : Fin 1024, (x (ix2 r k) : EReal) * w (ix2 j k)) + b (ix2 0 j) := by
  pointwise [k0_pay1]

/-- The projection's rows. -/
def out (i : S8192x5120.Idx) : EReal :=
  (∑ k : Fin 1024, (rows m c (ix2 (i 0) k) : EReal) * proj m c (ix2 k ⟨3088 + (i 1).val, by have h : (i 1).val < 5120 := (i 1).isLt; omega⟩))
    + bias m c (ix2 0 ⟨3088 + (i 1).val, by have h : (i 1).val < 5120 := (i 1).isLt; omega⟩)

theorem final : (dats m 0 c).arrAt 3 cfg0.N = out m c := by
  refine (dats m 0 c).arrAt_eq_of_covers 3 _ (by decide +kernel) fun t _ y => ?_
  blk_simp
  rw [after0_3]
  have ht := lt40 t
  obtain ⟨r, j, rfl⟩ : ∃ (r j : Fin 1024), y = ix2 r j := ⟨y 0, y 1, by funext a; match a with | 0 => rfl | 1 => rfl⟩
  have e : (win0_3.blk t).view.emb (ix2 r j) = ix2 (⟨t.val / 5 * 1024 + r.val, by omega⟩ : Fin 8192) (⟨t.val % 5 * 1024 + j.val, by omega⟩ : Fin 5120) := by
    blk_point [idx t]
  rw [e]
  unfold outsAt0
  frame_out
  refine (pay_at _ _ _ r j).trans ?_
  simp only [rd0, rd1, rd2]
  rfl

end Cert.Rest

end
-- ==== Proof.RestClaim.lean ====
module

public import proofs.«01_k».proof.Defs
public import proofs.«01_k».proof.Proof.Gen.Reference4Ideal.Run
public import proofs.«01_k».proof.Proof.RestFinal

/-! The forward projection to the gates, the recurrence's inputs and the merge gates is the reference's, at any arguments:
    both are a row's products with the same columns plus the same bias, and no sum is regrouped. -/

@[expose] public section

set_option maxRecDepth 16384

noncomputable section

open Idealize.ShloMosaic Idealize.ShloMosaic.TcCoe Idealize.SL.Sem

namespace Cert.RestClaim

/-- The kernel's result is the reference's. -/
theorem algebraic : Cert.algebraic_Kernel4Ideal_Reference4Ideal (hKernel4Ideal := Cert.Kernel4Ideal.Gen.facts) (hReference4Ideal := Cert.Reference4Ideal.Gen.facts) := by
  intro m g m' g' hpre hagree
  refine ⟨_, Cert.Kernel4Ideal.Value.run_blocks m g, (θ_run _ _ _).mono (fun r h c => ?_) (Cert.Reference4Ideal.Value.run m' g')⟩
  obtain ⟨q0, q1, q2⟩ := hagree c
  obtain ⟨ho, ha⟩ := h c
  refine ⟨ho.trans ?_, ha⟩
  rw [q0, q1, q2, Rest.final]
  funext i
  obtain ⟨r, j, rfl⟩ : ∃ (r : Fin 8192) (j : Fin 5120), i = ix2 r j := ⟨i 0, i 1, by funext a; match a with | 0 => rfl | 1 => rfl⟩
  pointwise
  rfl

end Cert.RestClaim

end
-- ==== Proof.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Pre_finite2
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.InClaim
public import proofs.«01_k».proof.Proof.MergeClaim
public import proofs.«01_k».proof.Proof.MergeBits
public import proofs.«01_k».proof.Proof.NormBits
public import proofs.«01_k».proof.Proof.NormClaim
public import proofs.«01_k».proof.Proof.SquareClaim
public import proofs.«01_k».proof.Proof.StackClaim
public import proofs.«01_k».proof.Proof.StackBits
public import proofs.«01_k».proof.Proof.RestClaim
public import Idealize.ShloMosaic.Adequacy
public import Idealize.ShloMosaic.Init

@[expose] public section

noncomputable section

namespace Cert.Proof

open Idealize.ShloMosaic Idealize.SL.Sem Cert.Kernel

theorem frame_R : Cert.quiescent_ReferenceIdeal (hReferenceIdeal := Cert.ReferenceIdeal.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem frame_R' : Cert.quiescent_ReferenceIdeal_pre_finite (hReferenceIdeal := Cert.ReferenceIdeal.Gen.facts) (hPre_finite := Cert.Pre_finite.Gen.facts) := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

theorem frame_R2 : Cert.quiescent_Reference2Ideal (hReference2Ideal := Cert.Reference2Ideal.Gen.facts) := by
  intro m ρ _
  exact (θ_run Cert.Reference2Ideal.defs _ _).mono (fun r h => ⟨fun c => (h c).2.2.2.2.2.2.2.2.2.2.2.2.2.2, sem_eq_zero_of_no_sems (by decide) r.2⟩)
    (Cert.Reference2Ideal.Value.run (F := Ideal) m ρ)

theorem frame_R2' : Cert.quiescent_Reference2Ideal_pre_finite2 (hReference2Ideal := Cert.Reference2Ideal.Gen.facts) (hPre_finite2 := Cert.Pre_finite2.Gen.facts) := by
  intro m ρ _
  exact (θ_run Cert.Reference2Ideal.defs _ _).mono (fun r h => ⟨fun c => (h c).2.2.2.2.2.2.2.2.2.2.2.2.2.2, sem_eq_zero_of_no_sems (by decide) r.2⟩)
    (Cert.Reference2Ideal.Value.run (F := Ideal) m ρ)

theorem frame_R3 : Cert.quiescent_Reference3Ideal (hReference3Ideal := Cert.Reference3Ideal.Gen.facts) := by
  intro m ρ _
  exact (θ_run Cert.Reference3Ideal.defs _ _).mono (fun r h => ⟨fun c => (h c).2.2, sem_eq_zero_of_no_sems (by decide) r.2⟩)
    (Cert.Reference3Ideal.Value.run (F := Ideal) m ρ)

theorem frame_R4 : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem frame_R5 : Cert.quiescent_Reference5Ideal (hReference5Ideal := Cert.Reference5Ideal.Gen.facts) := by
  intro m ρ _
  exact (θ_run Cert.Reference5Ideal.defs _ _).mono (fun r h => ⟨fun c => (h c).2.2.2, sem_eq_zero_of_no_sems (by decide) r.2⟩)
    (Cert.Reference5Ideal.Value.run (F := Ideal) m ρ)

theorem frame_R6 : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  frame_R, frame_R',
  Cert.MergeBits.frame,
  fun m ρ _ => Cert.Kernel2Ideal.Merge.frame m ρ,
  fun m ρ _ => Cert.Kernel2Ideal.Merge.frame m ρ,
  frame_R2, frame_R2',
  Cert.StackBits.frame,
  fun m ρ _ => Cert.Kernel3Ideal.Stack.frame m ρ,
  frame_R3,
  fun m ρ _ => Cert.Kernel4.Gen.frame m ρ,
  fun m ρ _ => Cert.Kernel4Ideal.Gen.frame m ρ,
  frame_R4,
  Cert.NormBits.frame,
  fun m ρ _ => Cert.Kernel5Ideal.Norm.frame m ρ,
  frame_R5,
  fun m ρ _ => Cert.Kernel6.Gen.frame m ρ,
  fun m ρ _ => Cert.Kernel6Ideal.Gen.frame m ρ,
  frame_R6,
  trivial, Cert.InClaim.algebraic, trivial, Cert.MergeClaim.algebraic,
  trivial, Cert.StackClaim.algebraic, trivial, Cert.RestClaim.algebraic,
  trivial, Cert.NormClaim.algebraic, trivial, Cert.SquareClaim.algebraic⟩

end Cert.Proof

end
